-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_padded_key [hPre_padded_key : Cert.Pre_padded_key.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_padded_key.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_padded_key [hPre_padded_key : Cert.Pre_padded_key.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_padded_key.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_padded_key [hKernel4Ideal : Cert.Kernel4Ideal.Facts] [hPre_padded_key : Cert.Pre_padded_key.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_padded_key m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_padded_key [hReference4Ideal : Cert.Reference4Ideal.Facts] [hPre_padded_key : Cert.Pre_padded_key.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_padded_key m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v102) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_padded_key [hKernel4Ideal : Cert.Kernel4Ideal.Facts] [hReference4Ideal : Cert.Reference4Ideal.Facts] [hPre_padded_key : Cert.Pre_padded_key.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_padded_key m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v99) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v89) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v81) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_v44) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_padded_key : Cert.Pre_padded_key.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_padded_key (hKernel4Ideal := hKernel4Ideal) (hPre_padded_key := hPre_padded_key)
    ∧ quiescent_Reference4Ideal (hReference4Ideal := hReference4Ideal)
    ∧ quiescent_Reference4Ideal_pre_padded_key (hReference4Ideal := hReference4Ideal) (hPre_padded_key := hPre_padded_key)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_padded_key (hKernel4Ideal := hKernel4Ideal) (hReference4Ideal := hReference4Ideal) (hPre_padded_key := hPre_padded_key)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_scores.lean ====
abbrev S32768x2048 : Shape := ⟨2, ![32768, 2048]⟩
abbrev S2048x2048 : Shape := ⟨2, ![2048, 2048]⟩
abbrev S1024x32768 : Shape := ⟨2, ![1024, 32768]⟩
abbrev S1024x2048 : Shape := ⟨2, ![1024, 2048]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S32768x2048 .bf16) (main_arg1 : FVec F S32768x2048 .bf16) (main_arg2 : FVec F S2048x2048 .bf16) (main_arg3 : FVec F S1024x32768 .bf16) (main_arg4 : FVec F S1024x2048 .bf16) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x2048 .f32 := (extf .f32 · bitsLt_bf16_f32) main_arg1
  let main_v6 : FVec F S32768x2048 .f32 := Host.absf main_v5
  let main_cst_0 : FVec F S_ .f32 := constant S_ .f32 0x7F800000#32
  let main_v7 : FVec F S32768x2048 .f32 := broadcastInDim S32768x2048 ![] bcast_S_S32768x2048 main_cst_0
  let main_v8 : IVec S32768x2048 1 := cmpf .olt main_v6 main_v7
  let main_c_1 : IVec S_ 1 := constantI S_ 1 1#1
  let main_v9 : IVec S_ 1 := (fun x v => Host.reduce IntOp.andi x v reducesTo_S32768x2048_S_d0_1 h_S_) main_v8 main_c_1
  let main_v10 : IVec S_ 1 := andi main_v4 main_v9
  let main_v11 : FVec F S2048x2048 .f32 := (extf .f32 · bitsLt_bf16_f32) main_arg2
  let main_v12 : FVec F S2048x2048 .f32 := Host.absf main_v11
  let main_cst_2 : FVec F S_ .f32 := constant S_ .f32 0x7F800000#32
  let main_v13 : FVec F S2048x2048 .f32 := broadcastInDim S2048x2048 ![] bcast_S_S2048x2048 main_cst_2
  let main_v14 : IVec S2048x2048 1 := cmpf .olt main_v12 main_v13
  let main_c_3 : IVec S_ 1 := constantI S_ 1 1#1
  let main_v15 : IVec S_ 1 := (fun x v => Host.reduce IntOp.andi x v reducesTo_S2048x2048_S_d0_1 h_S_) main_v14 main_c_3
  let main_v16 : IVec S_ 1 := andi main_v10 main_v15
  main_v16
-- ==== Pre_padded_key.lean ====
abbrev S32768x896 : Shape := ⟨2, ![32768, 896]⟩
abbrev S2x384 : Shape := ⟨2, ![2, 384]⟩
abbrev S2x256 : Shape := ⟨2, ![2, 256]⟩
abbrev S2x384x1536 : Shape := ⟨3, ![2, 384, 1536]⟩
abbrev S2x256x2048 : Shape := ⟨3, ![2, 256, 2048]⟩
abbrev S4096x16 : Shape := ⟨2, ![4096, 16]⟩
abbrev S32768x256 : Shape := ⟨2, ![32768, 256]⟩
abbrev S32768x32 : Shape := ⟨2, ![32768, 32]⟩
abbrev S_ : Shape := ⟨0, ![]⟩
abbrev S32768x64 : Shape := ⟨2, ![32768, 64]⟩
abbrev S32768x16 : Shape := ⟨2, ![32768, 16]⟩

class Facts : Prop where
  slices_S32768x896_S32768x256_0_640 : S32768x896.Slices ![0, 640] S32768x256
  bitsLt_bf16_f32 : FTy.bits .bf16 < FTy.bits .f32
  slices_S32768x256_S32768x32_0_64 : S32768x256.Slices ![0, 64] S32768x32
  bcast_S_S32768x64 : S_.BroadcastsInDim S32768x64 (![] : Fin 0 → Fin S32768x64.rank)
  bcast_S_S32768x32 : S_.BroadcastsInDim S32768x32 (![] : Fin 0 → Fin S32768x32.rank)
  slices_S32768x32_S32768x16_0_16 : S32768x32.Slices ![0, 16] S32768x16
  slices_S32768x32_S32768x16_0_0 : S32768x32.Slices ![0, 0] S32768x16
  concatenates_S32768x64_S32768x32_S32768x32_S32768x64_S32768x16_S32768x16_S32768x32_S32768x256_d1 : Shape.Concatenates [S32768x64, S32768x32, S32768x32, S32768x64, S32768x16, S32768x16, S32768x32] S32768x256 1
  reducesTo_S32768x256_S_d0_1 : S32768x256.ReducesTo [0, 1] S_
  h_S_ : 0 < S_.numel

variable [Facts]

def fn {F : FTy → Type} [FloatOps F] (main_arg0 : FVec F S32768x896 .bf16) (main_arg1 : FVec F S2x384 .f32) (main_arg2 : FVec F S2x256 .f32) (main_arg3 : FVec F S2x384x1536 .f32) (main_arg4 : FVec F S2x256x2048 .f32) (main_arg5 : FVec F S4096x16 .f32) (main_arg6 : FVec F S4096x16 .f32) : IVec S_ 1 :=
  let main_v0 : FVec F S32768x256 .bf16 := (extractStridedSlice S32768x256 ![0, 640] · slices_S32768x896_S32768x256_0_640) main_arg0
  let main_v1 : FVec F S32768x256 .f32 := (extf .f32 · bitsLt_bf16_f32) main_v0
  let main_v2 : FVec F S32768x32 .f32 := (extractStridedSlice S32768x32 ![0, 64] · slices_S32768x256_S32768x32_0_64) main_v1
  let main_cst : FVec F S_ .f32 := constant S_ .f32 0x00000000#32
  let main_v3 : FVec F S32768x64 .f32 := broadcastInDim S32768x64 ![] bcast_S_S32768x64 main_cst
  let main_cst_0 : FVec F S_ .f32 := constant S_ .f32 0x00000000#32
  let main_v4 : FVec F S32768x32 .f32 := broadcastInDim S32768x32 ![] bcast_S_S32768x32 main_cst_0
  let main_v5 : FVec F S32768x16 .f32 := (extractStridedSlice S32768x16 ![0, 16] · slices_S32768x32_S32768x16_0_16) main_v2
  let main_v6 : FVec F S32768x16 .f32 := Host.negf main_v5
  let main_v7 : FVec F S32768x16 .f32 := (extractStridedSlice S32768x16 ![0, 0] · slices_S32768x32_S32768x16_0_0) main_v2
  let main_v8 : FVec F S32768x256 .f32 := concatenate S32768x256 1 [⟨S32768x64, main_v3⟩, ⟨S32768x32, main_v2⟩, ⟨S32768x32, main_v4⟩, ⟨S32768x64, main_v3⟩, ⟨S32768x16, main_v6⟩, ⟨S32768x16, main_v7⟩, ⟨S32768x32, main_v4⟩] concatenates_S32768x64_S32768x32_S32768x32_S32768x64_S32768x16_S32768x16_S32768x32_S32768x256_d1
  let main_v9 : IVec S32768x256 1 := cmpf .oeq main_v1 main_v8
  let main_c : IVec S_ 1 := constantI S_ 1 1#1
  let main_v10 : IVec S_ 1 := (fun x v => Host.reduce IntOp.andi x v reducesTo_S32768x256_S_d0_1 h_S_) main_v9 main_c
  main_v10
-- ==== Kernel.lean ====
abbrev S32768x2048 : Shape := ⟨2, ![32768, 2048]⟩
abbrev S2048x2048 : Shape := ⟨2, ![2048, 2048]⟩
abbrev S1024x32768 : Shape := ⟨2, ![1024, 32768]⟩
abbrev S1024x2048 : Shape := ⟨2, ![1024, 2048]⟩
abbrev S2048x512 : Shape := ⟨2, ![2048, 512]⟩
abbrev S4096x512 : Shape := ⟨2, ![4096, 512]⟩
abbrev S256x512 : Shape := ⟨2, ![256, 512]⟩
abbrev S256x4096 : Shape := ⟨2, ![256, 4096]⟩
abbrev S256x256 : Shape := ⟨2, ![256, 256]⟩
abbrev S256x2048 : Shape := ⟨2, ![256, 2048]⟩
abbrev S256x128 : Shape := ⟨2, ![256, 128]⟩
abbrev S1024x128 : Shape := ⟨2, ![1024, 128]⟩
abbrev S1024x256 : Shape := ⟨2, ![1024, 256]⟩
abbrev S256 : Shape := ⟨1, ![256]⟩
abbrev S1x256 : Shape := ⟨2, ![1, 256]⟩
abbrev S64x1024 : Shape := ⟨2, ![64, 1024]⟩
abbrev S64x256 : Shape := ⟨2, ![64, 256]⟩

abbrev nBuf : Space → Nat
  | .hbm => 6
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048x2048, .bf16⟩
  | .hbm, ⟨3, _⟩ => ⟨S1024x32768, .bf16⟩
  | .hbm, ⟨4, _⟩ => ⟨S1024x2048, .bf16⟩
  | .hbm, ⟨5, _⟩ => ⟨S1024x32768, .bf16⟩
  | .local _ .vmem, ⟨0, _⟩ => ⟨S2048x512, .bf16⟩
  | .local _ .vmem, ⟨1, _⟩ => ⟨S2048x512, .bf16⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S256x4096, .bf16⟩
  | .local _ .vmem, ⟨7, _⟩ => ⟨S256x4096, .bf16⟩
  | .local _ .vmem, ⟨8, _⟩ => ⟨S256x256, .bf16⟩
  | .local _ .vmem, ⟨9, _⟩ => ⟨S256x256, .bf16⟩
  | .local _ .vmem, ⟨10, _⟩ => ⟨S256x2048, .bf16⟩
  | .local _ .vmem, ⟨11, _⟩ => ⟨S256x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x2048 : Shape := ⟨2, ![32768, 2048]⟩
abbrev S2048x2048 : Shape := ⟨2, ![2048, 2048]⟩
abbrev S1024x32768 : Shape := ⟨2, ![1024, 32768]⟩
abbrev S1024x2048 : Shape := ⟨2, ![1024, 2048]⟩
abbrev S8x4096x16x128 : Shape := ⟨4, ![8, 4096, 16, 128]⟩
abbrev S8x256x16x128 : Shape := ⟨4, ![8, 256, 16, 128]⟩
abbrev S8x4352x16x128 : Shape := ⟨4, ![8, 4352, 16, 128]⟩
abbrev S16x64x8x4096 : Shape := ⟨4, ![16, 64, 8, 4096]⟩
abbrev S16x64x8x256 : Shape := ⟨4, ![16, 64, 8, 256]⟩
abbrev S16x64x8x4352 : Shape := ⟨4, ![16, 64, 8, 4352]⟩
abbrev S8x16x4096x4352 : Shape := ⟨4, ![8, 16, 4096, 4352]⟩
abbrev S_ : Shape := ⟨0, ![]⟩
abbrev S8x16x4096 : Shape := ⟨3, ![8, 16, 4096]⟩
abbrev S8x16x4096x1 : Shape := ⟨4, ![8, 16, 4096, 1]⟩
abbrev S16x8x64x4096 : Shape := ⟨4, ![16, 8, 64, 4096]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048x2048, .bf16⟩
  | .hbm, ⟨3, _⟩ => ⟨S1024x32768, .bf16⟩
  | .hbm, ⟨4, _⟩ => ⟨S1024x2048, .bf16⟩
  | .hbm, ⟨5, _⟩ => ⟨S32768x2048, .f32⟩
  | .hbm, ⟨6, _⟩ => ⟨S8x4096x16x128, .f32⟩
  | .hbm, ⟨7, _⟩ => ⟨S32768x2048, .f32⟩
  | .hbm, ⟨8, _⟩ => ⟨S8x4096x16x128, .f32⟩
  | .hbm, ⟨9, _⟩ => ⟨S2048x2048, .f32⟩
  | .hbm, ⟨10, _⟩ => ⟨S8x256x16x128, .f32⟩
  | .hbm, ⟨11, _⟩ => ⟨S8x4352x16x128, .f32⟩
  | .hbm, ⟨12, _⟩ => ⟨S1024x32768, .f32⟩
  | .hbm, ⟨13, _⟩ => ⟨S16x64x8x4096, .f32⟩
  | .hbm, ⟨14, _⟩ => ⟨S1024x2048, .f32⟩
  | .hbm, ⟨15, _⟩ => ⟨S16x64x8x256, .f32⟩
  | .hbm, ⟨16, _⟩ => ⟨S16x64x8x4352, .f32⟩
  | .hbm, ⟨17, _⟩ => ⟨S8x16x4096x4352, .f32⟩
  | .hbm, ⟨18, _⟩ => ⟨S_, .f32⟩
  | .hbm, ⟨19, _⟩ => ⟨S_, .f32⟩
  | .hbm, ⟨20, _⟩ => ⟨S8x16x4096x4352, .f32⟩
  | .hbm, ⟨21, _⟩ => ⟨S8x16x4096x4352, .f32⟩
  | .hbm, ⟨22, _⟩ => ⟨S_, .f32⟩
  | .hbm, ⟨23, _⟩ => ⟨S8x16x4096, .f32⟩
  | .hbm, ⟨24, _⟩ => ⟨S_, .f32⟩
  | .hbm, ⟨25, _⟩ => ⟨S8x16x4096, .f32⟩
  | .hbm, ⟨26, _⟩ => ⟨S8x16x4096, .f32⟩
  | .hbm, ⟨27, _⟩ => ⟨S8x16x4096x1, .f32⟩
  | .hbm, ⟨28, _⟩ => ⟨S8x16x4096x4352, .f32⟩
  | .hbm, ⟨29, _⟩ => ⟨S8x16x4096x4352, .f32⟩
  | .hbm, ⟨30, _⟩ => ⟨S8x16x4096x4352, .f32⟩
  | .hbm, ⟨31, _⟩ => ⟨S_, .f32⟩
  | .hbm, ⟨32, _⟩ => ⟨S8x16x4096, .f32⟩
  | .hbm, ⟨33, _⟩ => ⟨S8x16x4096x1, .f32⟩
  | .hbm, ⟨34, _⟩ => ⟨S8x16x4096x4352, .f32⟩
  | .hbm, ⟨35, _⟩ => ⟨S8x16x4096x4352, .f32⟩
  | .hbm, ⟨36, _⟩ => ⟨S16x8x64x4096, .f32⟩
  | .hbm, ⟨37, _⟩ => ⟨S16x64x8x4096, .f32⟩
  | .hbm, ⟨38, _⟩ => ⟨S1024x32768, .f32⟩
  | .hbm, ⟨39, _⟩ => ⟨S1024x32768, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel2.lean ====
abbrev S32768x1024 : Shape := ⟨2, ![32768, 1024]⟩
abbrev S32768x2048 : Shape := ⟨2, ![32768, 2048]⟩
abbrev S2x1x2048 : Shape := ⟨3, ![2, 1, 2048]⟩
abbrev S512x32768 : Shape := ⟨2, ![512, 32768]⟩
abbrev S1024x32768 : Shape := ⟨2, ![1024, 32768]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S16x6144 : Shape := ⟨2, ![16, 6144]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S1x1x2048 : Shape := ⟨3, ![1, 1, 2048]⟩
abbrev S512x512 : Shape := ⟨2, ![512, 512]⟩
abbrev S1024x512 : Shape := ⟨2, ![1024, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x2048 : Shape := ⟨2, ![1, 2048]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 15
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2x1x2048, .f32⟩
  | .hbm, ⟨3, _⟩ => ⟨S512x32768, .bf16⟩
  | .hbm, ⟨4, _⟩ => ⟨S1024x32768, .bf16⟩
  | .hbm, ⟨5, _⟩ => ⟨S2x512x1024, .bf16⟩
  | .hbm, ⟨6, _⟩ => ⟨S2x1024x1024, .bf16⟩
  | .hbm, ⟨7, _⟩ => ⟨S2x1024x1024, .bf16⟩
  | .hbm, ⟨8, _⟩ => ⟨S2x1x1024, .f32⟩
  | .hbm, ⟨9, _⟩ => ⟨S16x6144, .f32⟩
  | .hbm, ⟨10, _⟩ => ⟨S2x1024x5632, .bf16⟩
  | .hbm, ⟨11, _⟩ => ⟨S2x2816x1024, .bf16⟩
  | .hbm, ⟨12, _⟩ => ⟨S1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S512x512, .bf16⟩
  | .local _ .vmem, ⟨6, _⟩ => ⟨S512x512, .bf16⟩
  | .local _ .vmem, ⟨7, _⟩ => ⟨S1024x512, .bf16⟩
  | .local _ .vmem, ⟨8, _⟩ => ⟨S1024x512, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S16x6144, .f32⟩
  | .local _ .vmem, ⟨14, _⟩ => ⟨S1x1024x5632, .bf16⟩
  | .local _ .vmem, ⟨15, _⟩ => ⟨S1x2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v46 : Index := Scalar.indexCast v17
  let c2048 : Index := 2048#32
  ![v46.toNat, 2048]
def k0_off2 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v68 : Index := Scalar.indexCast v17
  let c4096 : Index := 4096#32
  ![v68.toNat, 4096]
def k0_off3 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v74 : Index := Scalar.indexCast v17
  let c3072 : Index := 3072#32
  ![v74.toNat, 3072]
def k0_off4 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v298 : Index := Scalar.indexCast v17
  let c5120_183 : Index := 5120#32
  ![v298.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S32768x2048 : Shape := ⟨2, ![32768, 2048]⟩
abbrev S2x1x2048 : Shape := ⟨3, ![2, 1, 2048]⟩
abbrev S512x32768 : Shape := ⟨2, ![512, 32768]⟩
abbrev S1024x32768 : Shape := ⟨2, ![1024, 32768]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S16x6144 : Shape := ⟨2, ![16, 6144]⟩
abbrev S2x1024x5632 : Shape := ⟨3, ![2, 1024, 5632]⟩
abbrev S2x2816x1024 : Shape := ⟨3, ![2, 2816, 1024]⟩
abbrev S1024 : Shape := ⟨1, ![1024]⟩
abbrev S8x6144 : Shape := ⟨2, ![8, 6144]⟩
abbrev S8x1024 : Shape := ⟨2, ![8, 1024]⟩
abbrev S8x1x1024 : Shape := ⟨3, ![8, 1, 1024]⟩
abbrev S8x4096x1024 : Shape := ⟨3, ![8, 4096, 1024]⟩
abbrev S8x4096x2048 : Shape := ⟨3, ![8, 4096, 2048]⟩
abbrev S1x1x2048 : Shape := ⟨3, ![1, 1, 2048]⟩
abbrev S1x2048 : Shape := ⟨2, ![1, 2048]⟩
abbrev S32768x512 : Shape := ⟨2, ![32768, 512]⟩
abbrev S8x4096x512 : Shape := ⟨3, ![8, 4096, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1x1024 : Shape := ⟨2, ![1, 1024]⟩
abbrev S8x4096 : Shape := ⟨2, ![8, 4096]⟩
abbrev S8x4096x1 : Shape := ⟨3, ![8, 4096, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 133
  | .vmem => 0
  | .smem => 0
  | _ => 0

abbrev hbmTy0_0 (i : Nat) : BufTy := match i % 128 with
  | 0 => ⟨S32768x1024, .f32⟩
  | 1 => ⟨S32768x2048, .bf16⟩
  | 2 => ⟨S2x1x2048, .f32⟩
  | 3 => ⟨S512x32768, .bf16⟩
  | 4 => ⟨S1024x32768, .bf16⟩
  | 5 => ⟨S2x512x1024, .bf16⟩
  | 6 => ⟨S2x1024x1024, .bf16⟩
  | 7 => ⟨S2x1024x1024, .bf16⟩
  | 8 => ⟨S2x1x1024, .f32⟩
  | 9 => ⟨S16x6144, .f32⟩
  | 10 => ⟨S2x1024x5632, .bf16⟩
  | 11 => ⟨S2x2816x1024, .bf16⟩
  | 12 => ⟨S1024, .f32⟩
  | 13 => ⟨S8x6144, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S8x4096x1024, .f32⟩
  | 27 => ⟨S32768x2048, .f32⟩
  | 28 => ⟨S8x4096x2048, .f32⟩
  | 29 => ⟨S1x1x2048, .f32⟩
  | 30 => ⟨S1x2048, .f32⟩
  | 31 => ⟨S32768x512, .bf16⟩
  | 32 => ⟨S32768x512, .f32⟩
  | 33 => ⟨S8x4096x512, .f32⟩
  | 34 => ⟨S32768x1024, .bf16⟩
  | 35 => ⟨S32768x1024, .f32⟩
  | 36 => ⟨S8x4096x1024, .f32⟩
  | 37 => ⟨S1x512x1024, .bf16⟩
  | 38 => ⟨S512x1024, .bf16⟩
  | 39 => ⟨S512x1024, .f32⟩
  | 40 => ⟨S1x1024x1024, .bf16⟩
  | 41 => ⟨S1024x1024, .bf16⟩
  | 42 => ⟨S1024x1024, .f32⟩
  | 43 => ⟨S1x1024x1024, .bf16⟩
  | 44 => ⟨S1024x1024, .bf16⟩
  | 45 => ⟨S1024x1024, .f32⟩
  | 46 => ⟨S1x1x2048, .f32⟩
  | 47 => ⟨S8x4096x2048, .f32⟩
  | 48 => ⟨S8x4096x2048, .f32⟩
  | 49 => ⟨S8x4096x2048, .f32⟩
  | 50 => ⟨S8x4096x2048, .f32⟩
  | 51 => ⟨S_, .f32⟩
  | 52 => ⟨S8x4096x2048, .f32⟩
  | 53 => ⟨S8x4096x2048, .f32⟩
  | 54 => ⟨S_, .f32⟩
  | 55 => ⟨S8x4096x2048, .f32⟩
  | 56 => ⟨S8x4096x2048, .f32⟩
  | 57 => ⟨S8x4096x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S8x4096x1024, .f32⟩
  | 66 => ⟨S8x4096x1024, .f32⟩
  | 67 => ⟨S8x4096x1024, .f32⟩
  | 68 => ⟨S1x1x1024, .f32⟩
  | 69 => ⟨S1x1024, .f32⟩
  | 70 => ⟨S8x4096x1024, .f32⟩
  | 71 => ⟨S_, .f32⟩
  | 72 => ⟨S8x4096, .f32⟩
  | 73 => ⟨S8x4096x1, .f32⟩
  | 74 => ⟨S_, .f32⟩
  | 75 => ⟨S8x4096x1, .f32⟩
  | 76 => ⟨S8x4096x1, .f32⟩
  | 77 => ⟨S_, .f32⟩
  | 78 => ⟨S8x4096x1, .f32⟩
  | 79 => ⟨S8x4096x1, .f32⟩
  | 80 => ⟨S8x4096x1, .f32⟩
  | 81 => ⟨S8x4096x1024, .f32⟩
  | 82 => ⟨S8x4096x1024, .f32⟩
  | 83 => ⟨S1x1x1024, .f32⟩
  | 84 => ⟨S8x4096x1024, .f32⟩
  | 85 => ⟨S8x4096x1024, .f32⟩
  | 86 => ⟨S_, .f32⟩
  | 87 => ⟨S8x1x1024, .f32⟩
  | 88 => ⟨S8x1x1024, .f32⟩
  | 89 => ⟨S8x4096x1024, .f32⟩
  | 90 => ⟨S8x4096x1024, .f32⟩
  | 91 => ⟨S8x4096x1024, .f32⟩
  | 92 => ⟨S8x4096x1024, .f32⟩
  | 93 => ⟨S1x1024x5632, .bf16⟩
  | 94 => ⟨S1024x5632, .bf16⟩
  | 95 => ⟨S1024x5632, .f32⟩
  | 96 => ⟨S1x2816x1024, .bf16⟩
  | 97 => ⟨S2816x1024, .bf16⟩
  | 98 => ⟨S2816x1024, .f32⟩
  | 99 => ⟨S8x4096x5632, .f32⟩
  | 100 => ⟨S8x4096x2816, .f32⟩
  | 101 => ⟨S8x4096x2816, .f32⟩
  | 102 => ⟨S8x4096x2816, .f32⟩
  | 103 => ⟨S8x4096x2816, .f32⟩
  | 104 => ⟨S_, .f32⟩
  | 105 => ⟨S8x4096x2816, .f32⟩
  | 106 => ⟨S8x4096x2816, .f32⟩
  | 107 => ⟨S_, .f32⟩
  | 108 => ⟨S8x4096x2816, .f32⟩
  | 109 => ⟨S8x4096x2816, .f32⟩
  | 110 => ⟨S8x4096x2816, .f32⟩
  | 111 => ⟨S8x4096x2816, .f32⟩
  | 112 => ⟨S8x4096x1024, .f32⟩
  | 113 => ⟨S8x4096x1024, .f32⟩
  | 114 => ⟨S8x4096x1024, .f32⟩
  | 115 => ⟨S8x4096x1024, .f32⟩
  | 116 => ⟨S8x4096x1024, .f32⟩
  | 117 => ⟨S_, .f32⟩
  | 118 => ⟨S8x4096, .f32⟩
  | 119 => ⟨S8x4096x1, .f32⟩
  | 120 => ⟨S_, .f32⟩
  | 121 => ⟨S8x4096x1, .f32⟩
  | 122 => ⟨S8x4096x1, .f32⟩
  | 123 => ⟨S_, .f32⟩
  | 124 => ⟨S8x4096x1, .f32⟩
  | 125 => ⟨S8x4096x1, .f32⟩
  | 126 => ⟨S8x4096x1, .f32⟩
  | 127 => ⟨S8x4096x1024, .f32⟩
  | _ => ⟨S32768x1024, .f32⟩

abbrev hbmTy0_1 (i : Nat) : BufTy := match i % 128 with
  | 0 => ⟨S8x4096x1024, .f32⟩
  | 1 => ⟨S1x1x1024, .f32⟩
  | 2 => ⟨S8x4096x1024, .f32⟩
  | 3 => ⟨S8x4096x1024, .f32⟩
  | 4 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst : Ref sig .tc := ⟨.hbm, 51, rfl⟩
abbrev main_v38 : Ref sig .tc := ⟨.hbm, 52, rfl⟩
abbrev main_v39 : Ref sig .tc := ⟨.hbm, 53, rfl⟩
abbrev main_cst_0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_1 : Ref sig .tc := ⟨.hbm, 71, rfl⟩
abbrev main_v56 : Ref sig .tc := ⟨.hbm, 72, rfl⟩
abbrev main_v57 : Ref sig .tc := ⟨.hbm, 73, rfl⟩
abbrev main_cst_2 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_5 : Ref sig .tc := ⟨.hbm, 117, rfl⟩
abbrev main_v90 : Ref sig .tc := ⟨.hbm, 118, rfl⟩
abbrev main_v91 : Ref sig .tc := ⟨.hbm, 119, rfl⟩
abbrev main_cst_6 : Ref sig .tc := ⟨.hbm, 120, rfl⟩
abbrev main_v92 : Ref sig .tc := ⟨.hbm, 121, rfl⟩
abbrev main_v93 : Ref sig .tc := ⟨.hbm, 122, rfl⟩
abbrev main_cst_7 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S16x6144 : Shape := ⟨2, ![16, 6144]⟩
abbrev S2x1024x896 : Shape := ⟨3, ![2, 1024, 896]⟩
abbrev S2x1024x2048 : Shape := ⟨3, ![2, 1024, 2048]⟩
abbrev S2x1536x1024 : Shape := ⟨3, ![2, 1536, 1024]⟩
abbrev S1x1024 : Shape := ⟨2, ![1, 1024]⟩
abbrev S32768x896 : Shape := ⟨2, ![32768, 896]⟩
abbrev S32768x2048 : Shape := ⟨2, ![32768, 2048]⟩
abbrev S1536x32768 : Shape := ⟨2, ![1536, 32768]⟩
abbrev S512x1024 : Shape := ⟨2, ![512, 1024]⟩
abbrev S1x1024x896 : Shape := ⟨3, ![1, 1024, 896]⟩
abbrev S1x1024x2048 : Shape := ⟨3, ![1, 1024, 2048]⟩
abbrev S1x1536x1024 : Shape := ⟨3, ![1, 1536, 1024]⟩
abbrev S512x896 : Shape := ⟨2, ![512, 896]⟩
abbrev S512x2048 : Shape := ⟨2, ![512, 2048]⟩
abbrev S1536x512 : Shape := ⟨2, ![1536, 512]⟩
abbrev S512 : Shape := ⟨1, ![512]⟩
abbrev S512x1 : Shape := ⟨2, ![512, 1]⟩
abbrev S1024x896 : Shape := ⟨2, ![1024, 896]⟩
abbrev S1024x2048 : Shape := ⟨2, ![1024, 2048]⟩
abbrev S1536x1024 : Shape := ⟨2, ![1536, 1024]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S16x6144, .f32⟩
  | .hbm, ⟨3, _⟩ => ⟨S2x1024x896, .bf16⟩
  | .hbm, ⟨4, _⟩ => ⟨S2x1024x2048, .bf16⟩
  | .hbm, ⟨5, _⟩ => ⟨S2x1536x1024, .bf16⟩
  | .hbm, ⟨6, _⟩ => ⟨S1x1024, .f32⟩
  | .hbm, ⟨7, _⟩ => ⟨S32768x896, .bf16⟩
  | .hbm, ⟨8, _⟩ => ⟨S32768x2048, .bf16⟩
  | .hbm, ⟨9, _⟩ => ⟨S1536x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S16x6144, .f32⟩
  | .local _ .vmem, ⟨4, _⟩ => ⟨S1x1024x896, .bf16⟩
  | .local _ .vmem, ⟨5, _⟩ => ⟨S1x1024x2048, .bf16⟩
  | .local _ .vmem, ⟨6, _⟩ => ⟨S1x1536x1024, .bf16⟩
  | .local _ .vmem, ⟨7, _⟩ => ⟨S512x896, .bf16⟩
  | .local _ .vmem, ⟨8, _⟩ => ⟨S512x896, .bf16⟩
  | .local _ .vmem, ⟨9, _⟩ => ⟨S512x2048, .bf16⟩
  | .local _ .vmem, ⟨10, _⟩ => ⟨S512x2048, .bf16⟩
  | .local _ .vmem, ⟨11, _⟩ => ⟨S1536x512, .f32⟩
  | .local _ .vmem, ⟨12, _⟩ => ⟨S1536x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v33 : Index := Scalar.indexCast v17
  let c1024 : Index := 1024#32
  ![v33.toNat, 1024]
def k0_off2 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v39 : Index := Scalar.indexCast v17
  let c0_11 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x1024 : Shape := ⟨2, ![32768, 1024]⟩
abbrev S1024 : Shape := ⟨1, ![1024]⟩
abbrev S16x6144 : Shape := ⟨2, ![16, 6144]⟩
abbrev S2x1024x896 : Shape := ⟨3, ![2, 1024, 896]⟩
abbrev S2x1024x2048 : Shape := ⟨3, ![2, 1024, 2048]⟩
abbrev S2x1536x1024 : Shape := ⟨3, ![2, 1536, 1024]⟩
abbrev S8x6144 : Shape := ⟨2, ![8, 6144]⟩
abbrev S8x1024 : Shape := ⟨2, ![8, 1024]⟩
abbrev S8x1x1024 : Shape := ⟨3, ![8, 1, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x896 : Shape := ⟨3, ![1, 1024, 896]⟩
abbrev S1024x896 : Shape := ⟨2, ![1024, 896]⟩
abbrev S8x4096x896 : Shape := ⟨3, ![8, 4096, 896]⟩
abbrev S32768x896 : Shape := ⟨2, ![32768, 896]⟩
abbrev S1x1024x2048 : Shape := ⟨3, ![1, 1024, 2048]⟩
abbrev S1024x2048 : Shape := ⟨2, ![1024, 2048]⟩
abbrev S8x4096x2048 : Shape := ⟨3, ![8, 4096, 2048]⟩
abbrev S32768x2048 : Shape := ⟨2, ![32768, 2048]⟩
abbrev S1x1536x1024 : Shape := ⟨3, ![1, 1536, 1024]⟩
abbrev S1536x1024 : Shape := ⟨2, ![1536, 1024]⟩
abbrev S1024x1536 : Shape := ⟨2, ![1024, 1536]⟩
abbrev S8x4096x1536 : Shape := ⟨3, ![8, 4096, 1536]⟩
abbrev S32768x1536 : Shape := ⟨2, ![32768, 1536]⟩
abbrev S1536x32768 : Shape := ⟨2, ![1536, 32768]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S16x6144, .f32⟩
  | .hbm, ⟨3, _⟩ => ⟨S2x1024x896, .bf16⟩
  | .hbm, ⟨4, _⟩ => ⟨S2x1024x2048, .bf16⟩
  | .hbm, ⟨5, _⟩ => ⟨S2x1536x1024, .bf16⟩
  | .hbm, ⟨6, _⟩ => ⟨S8x6144, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S1x1024x896, .bf16⟩
  | .hbm, ⟨44, _⟩ => ⟨S1024x896, .bf16⟩
  | .hbm, ⟨45, _⟩ => ⟨S1024x896, .f32⟩
  | .hbm, ⟨46, _⟩ => ⟨S8x4096x896, .f32⟩
  | .hbm, ⟨47, _⟩ => ⟨S32768x896, .f32⟩
  | .hbm, ⟨48, _⟩ => ⟨S32768x896, .bf16⟩
  | .hbm, ⟨49, _⟩ => ⟨S1x1024x2048, .bf16⟩
  | .hbm, ⟨50, _⟩ => ⟨S1024x2048, .bf16⟩
  | .hbm, ⟨51, _⟩ => ⟨S1024x2048, .f32⟩
  | .hbm, ⟨52, _⟩ => ⟨S8x4096x2048, .f32⟩
  | .hbm, ⟨53, _⟩ => ⟨S32768x2048, .f32⟩
  | .hbm, ⟨54, _⟩ => ⟨S32768x2048, .bf16⟩
  | .hbm, ⟨55, _⟩ => ⟨S1x1536x1024, .bf16⟩
  | .hbm, ⟨56, _⟩ => ⟨S1536x1024, .bf16⟩
  | .hbm, ⟨57, _⟩ => ⟨S1536x1024, .f32⟩
  | .hbm, ⟨58, _⟩ => ⟨S1024x1536, .f32⟩
  | .hbm, ⟨59, _⟩ => ⟨S8x4096x1536, .f32⟩
  | .hbm, ⟨60, _⟩ => ⟨S32768x1536, .f32⟩
  | .hbm, ⟨61, _⟩ => ⟨S1536x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel4.lean ====
abbrev S32768x896 : Shape := ⟨2, ![32768, 896]⟩
abbrev S2x384 : Shape := ⟨2, ![2, 384]⟩
abbrev S2x256 : Shape := ⟨2, ![2, 256]⟩
abbrev S2x384x1536 : Shape := ⟨3, ![2, 384, 1536]⟩
abbrev S2x256x2048 : Shape := ⟨3, ![2, 256, 2048]⟩
abbrev S4096x16 : Shape := ⟨2, ![4096, 16]⟩
abbrev S_ : Shape := ⟨0, ![]⟩
abbrev S4096x64 : Shape := ⟨2, ![4096, 64]⟩
abbrev S4096x32 : Shape := ⟨2, ![4096, 32]⟩
abbrev S4096x128 : Shape := ⟨2, ![4096, 128]⟩
abbrev S2x384x16x96 : Shape := ⟨4, ![2, 384, 16, 96]⟩
abbrev S2x384x16x64 : Shape := ⟨4, ![2, 384, 16, 64]⟩
abbrev S2x384x16x32 : Shape := ⟨4, ![2, 384, 16, 32]⟩
abbrev S2x384x16x128 : Shape := ⟨4, ![2, 384, 16, 128]⟩
abbrev S2x384x2048 : Shape := ⟨3, ![2, 384, 2048]⟩
abbrev S2x256x16x128 : Shape := ⟨4, ![2, 256, 16, 128]⟩
abbrev S2x256x16x64 : Shape := ⟨4, ![2, 256, 16, 64]⟩
abbrev S2x256x16x32 : Shape := ⟨4, ![2, 256, 16, 32]⟩
abbrev S2x256x1024 : Shape := ⟨3, ![2, 256, 1024]⟩
abbrev S2x1024x256 : Shape := ⟨3, ![2, 1024, 256]⟩
abbrev S2x1x384 : Shape := ⟨3, ![2, 1, 384]⟩
abbrev S2x1x256 : Shape := ⟨3, ![2, 1, 256]⟩
abbrev S32768x2048 : Shape := ⟨2, ![32768, 2048]⟩
abbrev S1024x32768 : Shape := ⟨2, ![1024, 32768]⟩
abbrev S512x896 : Shape := ⟨2, ![512, 896]⟩
abbrev S1x1x384 : Shape := ⟨3, ![1, 1, 384]⟩
abbrev S1x1x256 : Shape := ⟨3, ![1, 1, 256]⟩
abbrev S1x384x2048 : Shape := ⟨3, ![1, 384, 2048]⟩
abbrev S1x256x2048 : Shape := ⟨3, ![1, 256, 2048]⟩
abbrev S1x1024x256 : Shape := ⟨3, ![1, 1024, 256]⟩
abbrev S512x128 : Shape := ⟨2, ![512, 128]⟩
abbrev S512x2048 : Shape := ⟨2, ![512, 2048]⟩
abbrev S1024x512 : Shape := ⟨2, ![1024, 512]⟩
abbrev S512x384 : Shape := ⟨2, ![512, 384]⟩
abbrev S1x384 : Shape := ⟨2, ![1, 384]⟩
abbrev S512 : Shape := ⟨1, ![512]⟩
abbrev S512x1 : Shape := ⟨2, ![512, 1]⟩
abbrev S512x256 : Shape := ⟨2, ![512, 256]⟩
abbrev S1x256 : Shape := ⟨2, ![1, 256]⟩
abbrev S384x2048 : Shape := ⟨2, ![384, 2048]⟩
abbrev S256x2048 : Shape := ⟨2, ![256, 2048]⟩
abbrev S1024x256 : Shape := ⟨2, ![1024, 256]⟩

abbrev nBuf : Space → Nat
  | .hbm => 44
  | .vmem => 17
  | .smem => 0
  | _ => 0

abbrev bufTy : (tb : Table) → Fin (tcTables nBuf tb) → BufTy
  | .hbm, ⟨0, _⟩ => ⟨S32768x896, .bf16⟩
  | .hbm, ⟨1, _⟩ => ⟨S2x384, .f32⟩
  | .hbm, ⟨2, _⟩ => ⟨S2x256, .f32⟩
  | .hbm, ⟨3, _⟩ => ⟨S2x384x1536, .f32⟩
  | .hbm, ⟨4, _⟩ => ⟨S2x256x2048, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x64, .f32⟩
  | .hbm, ⟨9, _⟩ => ⟨S_, .f32⟩
  | .hbm, ⟨10, _⟩ => ⟨S4096x32, .f32⟩
  | .hbm, ⟨11, _⟩ => ⟨S4096x128, .f32⟩
  | .hbm, ⟨12, _⟩ => ⟨S_, .f32⟩
  | .hbm, ⟨13, _⟩ => ⟨S4096x64, .f32⟩
  | .hbm, ⟨14, _⟩ => ⟨S4096x64, .f32⟩
  | .hbm, ⟨15, _⟩ => ⟨S_, .f32⟩
  | .hbm, ⟨16, _⟩ => ⟨S4096x32, .f32⟩
  | .hbm, ⟨17, _⟩ => ⟨S4096x128, .f32⟩
  | .hbm, ⟨18, _⟩ => ⟨S2x384x16x96, .f32⟩
  | .hbm, ⟨19, _⟩ => ⟨S2x384x16x64, .f32⟩
  | .hbm, ⟨20, _⟩ => ⟨S2x384x16x32, .f32⟩
  | .hbm, ⟨21, _⟩ => ⟨S_, .f32⟩
  | .hbm, ⟨22, _⟩ => ⟨S2x384x16x32, .f32⟩
  | .hbm, ⟨23, _⟩ => ⟨S2x384x16x128, .f32⟩
  | .hbm, ⟨24, _⟩ => ⟨S2x384x2048, .f32⟩
  | .hbm, ⟨25, _⟩ => ⟨S2x384x2048, .bf16⟩
  | .hbm, ⟨26, _⟩ => ⟨S2x256x16x128, .f32⟩
  | .hbm, ⟨27, _⟩ => ⟨S2x256x16x64, .f32⟩
  | .hbm, ⟨28, _⟩ => ⟨S_, .f32⟩
  | .hbm, ⟨29, _⟩ => ⟨S2x256x16x32, .f32⟩
  | .hbm, ⟨30, _⟩ => ⟨S_, .f32⟩
  | .hbm, ⟨31, _⟩ => ⟨S2x256x16x32, .f32⟩
  | .hbm, ⟨32, _⟩ => ⟨S2x256x16x128, .f32⟩
  | .hbm, ⟨33, _⟩ => ⟨S2x256x2048, .f32⟩
  | .hbm, ⟨34, _⟩ => ⟨S2x256x2048, .bf16⟩
  | .hbm, ⟨35, _⟩ => ⟨S2x256x16x64, .f32⟩
  | .hbm, ⟨36, _⟩ => ⟨S2x256x1024, .f32⟩
  | .hbm, ⟨37, _⟩ => ⟨S2x1024x256, .f32⟩
  | .hbm, ⟨38, _⟩ => ⟨S2x1024x256, .bf16⟩
  | .hbm, ⟨39, _⟩ => ⟨S2x1x384, .f32⟩
  | .hbm, ⟨40, _⟩ => ⟨S2x1x256, .f32⟩
  | .hbm, ⟨41, _⟩ => ⟨S32768x2048, .bf16⟩
  | .hbm, ⟨42, _⟩ => ⟨S32768x2048, .bf16⟩
  | .hbm, ⟨43, _⟩ => ⟨S1024x32768, .bf16⟩
  | .local _ .vmem, ⟨0, _⟩ => ⟨S512x896, .bf16⟩
  | .local _ .vmem, ⟨1, _⟩ => ⟨S512x896, .bf16⟩
  | .local _ .vmem, ⟨2, _⟩ => ⟨S1x1x384, .f32⟩
  | .local _ .vmem, ⟨3, _⟩ => ⟨S1x1x256, .f32⟩
  | .local _ .vmem, ⟨4, _⟩ => ⟨S1x384x2048, .bf16⟩
  | .local _ .vmem, ⟨5, _⟩ => ⟨S1x256x2048, .bf16⟩
  | .local _ .vmem, ⟨6, _⟩ => ⟨S1x1024x256, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S1024x512, .bf16⟩
  | .local _ .vmem, ⟨16, _⟩ => ⟨S1024x512, .bf16⟩
  | _, _ => ⟨S32768x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x896 : Shape := ⟨2, ![32768, 896]⟩
abbrev S2x384 : Shape := ⟨2, ![2, 384]⟩
abbrev S2x256 : Shape := ⟨2, ![2, 256]⟩
abbrev S2x384x1536 : Shape := ⟨3, ![2, 384, 1536]⟩
abbrev S2x256x2048 : Shape := ⟨3, ![2, 256, 2048]⟩
abbrev S4096x16 : Shape := ⟨2, ![4096, 16]⟩
abbrev S8x4096x896 : Shape := ⟨3, ![8, 4096, 896]⟩
abbrev S8x4096x256 : Shape := ⟨3, ![8, 4096, 256]⟩
abbrev S8x4096x32 : Shape := ⟨3, ![8, 4096, 32]⟩
abbrev S8x4096x288 : Shape := ⟨3, ![8, 4096, 288]⟩
abbrev S8x4096x384 : Shape := ⟨3, ![8, 4096, 384]⟩
abbrev S1x384 : Shape := ⟨2, ![1, 384]⟩
abbrev S384 : Shape := ⟨1, ![384]⟩
abbrev S1x384x1536 : Shape := ⟨3, ![1, 384, 1536]⟩
abbrev S384x1536 : Shape := ⟨2, ![384, 1536]⟩
abbrev S_ : Shape := ⟨0, ![]⟩
abbrev S8x4096 : Shape := ⟨2, ![8, 4096]⟩
abbrev S8x4096x1 : Shape := ⟨3, ![8, 4096, 1]⟩
abbrev S1x1x384 : Shape := ⟨3, ![1, 1, 384]⟩
abbrev S8x4096x1536 : Shape := ⟨3, ![8, 4096, 1536]⟩
abbrev S8x4096x16x96 : Shape := ⟨4, ![8, 4096, 16, 96]⟩
abbrev S8x4096x16x64 : Shape := ⟨4, ![8, 4096, 16, 64]⟩
abbrev S8x4096x16x32 : Shape := ⟨4, ![8, 4096, 16, 32]⟩
abbrev S4096x1x16 : Shape := ⟨3, ![4096, 1, 16]⟩
abbrev S8x4096x16x16 : Shape := ⟨4, ![8, 4096, 16, 16]⟩
abbrev S1x4096x1x16 : Shape := ⟨4, ![1, 4096, 1, 16]⟩
abbrev S1x256 : Shape := ⟨2, ![1, 256]⟩
abbrev S256 : Shape := ⟨1, ![256]⟩
abbrev S1x256x2048 : Shape := ⟨3, ![1, 256, 2048]⟩
abbrev S256x2048 : Shape := ⟨2, ![256, 2048]⟩
abbrev S1x1x256 : Shape := ⟨3, ![1, 1, 256]⟩
abbrev S8x4096x2048 : Shape := ⟨3, ![8, 4096, 2048]⟩
abbrev S8x4096x16x128 : Shape := ⟨4, ![8, 4096, 16, 128]⟩
abbrev S8x4096x16 : Shape := ⟨3, ![8, 4096, 16]⟩
abbrev S1x4096x16 : Shape := ⟨3, ![1, 4096, 16]⟩
abbrev S8x4096x1x32 : Shape := ⟨4, ![8, 4096, 1, 32]⟩
abbrev S32768x2048 : Shape := ⟨2, ![32768, 2048]⟩
abbrev S32768x1024 : Shape := ⟨2, ![32768, 1024]⟩
abbrev S1024x32768 : Shape := ⟨2, ![1024, 32768]⟩

abbrev nBuf : Space → Nat
  | .hbm => 115
  | .vmem => 0
  | .smem => 0
  | _ => 0

abbrev bufTy : (tb : Table) → Fin (tcTables nBuf tb) → BufTy
  | .hbm, ⟨0, _⟩ => ⟨S32768x896, .bf16⟩
  | .hbm, ⟨1, _⟩ => ⟨S2x384, .f32⟩
  | .hbm, ⟨2, _⟩ => ⟨S2x256, .f32⟩
  | .hbm, ⟨3, _⟩ => ⟨S2x384x1536, .f32⟩
  | .hbm, ⟨4, _⟩ => ⟨S2x256x2048, .f32⟩
  | .hbm, ⟨5, _⟩ => ⟨S4096x16, .f32⟩
  | .hbm, ⟨6, _⟩ => ⟨S4096x16, .f32⟩
  | .hbm, ⟨7, _⟩ => ⟨S32768x896, .f32⟩
  | .hbm, ⟨8, _⟩ => ⟨S8x4096x896, .f32⟩
  | .hbm, ⟨9, _⟩ => ⟨S8x4096x256, .f32⟩
  | .hbm, ⟨10, _⟩ => ⟨S8x4096x32, .f32⟩
  | .hbm, ⟨11, _⟩ => ⟨S8x4096x288, .f32⟩
  | .hbm, ⟨12, _⟩ => ⟨S8x4096x384, .f32⟩
  | .hbm, ⟨13, _⟩ => ⟨S1x384, .f32⟩
  | .hbm, ⟨14, _⟩ => ⟨S384, .f32⟩
  | .hbm, ⟨15, _⟩ => ⟨S1x384x1536, .f32⟩
  | .hbm, ⟨16, _⟩ => ⟨S384x1536, .f32⟩
  | .hbm, ⟨17, _⟩ => ⟨S8x4096x384, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x384, .f32⟩
  | .hbm, ⟨29, _⟩ => ⟨S8x4096x384, .f32⟩
  | .hbm, ⟨30, _⟩ => ⟨S1x1x384, .f32⟩
  | .hbm, ⟨31, _⟩ => ⟨S8x4096x384, .f32⟩
  | .hbm, ⟨32, _⟩ => ⟨S8x4096x384, .f32⟩
  | .hbm, ⟨33, _⟩ => ⟨S8x4096x1536, .f32⟩
  | .hbm, ⟨34, _⟩ => ⟨S8x4096x16x96, .f32⟩
  | .hbm, ⟨35, _⟩ => ⟨S8x4096x16x64, .f32⟩
  | .hbm, ⟨36, _⟩ => ⟨S8x4096x16x32, .f32⟩
  | .hbm, ⟨37, _⟩ => ⟨S4096x1x16, .f32⟩
  | .hbm, ⟨38, _⟩ => ⟨S4096x1x16, .f32⟩
  | .hbm, ⟨39, _⟩ => ⟨S8x4096x16x16, .f32⟩
  | .hbm, ⟨40, _⟩ => ⟨S8x4096x16x16, .f32⟩
  | .hbm, ⟨41, _⟩ => ⟨S1x4096x1x16, .f32⟩
  | .hbm, ⟨42, _⟩ => ⟨S8x4096x16x16, .f32⟩
  | .hbm, ⟨43, _⟩ => ⟨S8x4096x16x16, .f32⟩
  | .hbm, ⟨44, _⟩ => ⟨S1x4096x1x16, .f32⟩
  | .hbm, ⟨45, _⟩ => ⟨S8x4096x16x16, .f32⟩
  | .hbm, ⟨46, _⟩ => ⟨S8x4096x16x16, .f32⟩
  | .hbm, ⟨47, _⟩ => ⟨S8x4096x16x16, .f32⟩
  | .hbm, ⟨48, _⟩ => ⟨S1x4096x1x16, .f32⟩
  | .hbm, ⟨49, _⟩ => ⟨S8x4096x16x16, .f32⟩
  | .hbm, ⟨50, _⟩ => ⟨S8x4096x16x16, .f32⟩
  | .hbm, ⟨51, _⟩ => ⟨S1x4096x1x16, .f32⟩
  | .hbm, ⟨52, _⟩ => ⟨S8x4096x16x16, .f32⟩
  | .hbm, ⟨53, _⟩ => ⟨S8x4096x16x16, .f32⟩
  | .hbm, ⟨54, _⟩ => ⟨S8x4096x16x16, .f32⟩
  | .hbm, ⟨55, _⟩ => ⟨S8x4096x16x32, .f32⟩
  | .hbm, ⟨56, _⟩ => ⟨S1x256, .f32⟩
  | .hbm, ⟨57, _⟩ => ⟨S256, .f32⟩
  | .hbm, ⟨58, _⟩ => ⟨S1x256x2048, .f32⟩
  | .hbm, ⟨59, _⟩ => ⟨S256x2048, .f32⟩
  | .hbm, ⟨60, _⟩ => ⟨S8x4096x256, .f32⟩
  | .hbm, ⟨61, _⟩ => ⟨S8x4096x32, .f32⟩
  | .hbm, ⟨62, _⟩ => ⟨S8x4096x256, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x256, .f32⟩
  | .hbm, ⟨74, _⟩ => ⟨S8x4096x256, .f32⟩
  | .hbm, ⟨75, _⟩ => ⟨S1x1x256, .f32⟩
  | .hbm, ⟨76, _⟩ => ⟨S8x4096x256, .f32⟩
  | .hbm, ⟨77, _⟩ => ⟨S8x4096x256, .f32⟩
  | .hbm, ⟨78, _⟩ => ⟨S8x4096x2048, .f32⟩
  | .hbm, ⟨79, _⟩ => ⟨S8x4096x16x128, .f32⟩
  | .hbm, ⟨80, _⟩ => ⟨S8x4096x16x64, .f32⟩
  | .hbm, ⟨81, _⟩ => ⟨S8x4096x16x64, .f32⟩
  | .hbm, ⟨82, _⟩ => ⟨S8x4096x16, .f32⟩
  | .hbm, ⟨83, _⟩ => ⟨S8x4096x16, .f32⟩
  | .hbm, ⟨84, _⟩ => ⟨S1x4096x16, .f32⟩
  | .hbm, ⟨85, _⟩ => ⟨S8x4096x16, .f32⟩
  | .hbm, ⟨86, _⟩ => ⟨S8x4096x16, .f32⟩
  | .hbm, ⟨87, _⟩ => ⟨S1x4096x16, .f32⟩
  | .hbm, ⟨88, _⟩ => ⟨S8x4096x16, .f32⟩
  | .hbm, ⟨89, _⟩ => ⟨S8x4096x16, .f32⟩
  | .hbm, ⟨90, _⟩ => ⟨S8x4096x16, .f32⟩
  | .hbm, ⟨91, _⟩ => ⟨S1x4096x16, .f32⟩
  | .hbm, ⟨92, _⟩ => ⟨S8x4096x16, .f32⟩
  | .hbm, ⟨93, _⟩ => ⟨S8x4096x16, .f32⟩
  | .hbm, ⟨94, _⟩ => ⟨S1x4096x16, .f32⟩
  | .hbm, ⟨95, _⟩ => ⟨S8x4096x16, .f32⟩
  | .hbm, ⟨96, _⟩ => ⟨S8x4096x16, .f32⟩
  | .hbm, ⟨97, _⟩ => ⟨S8x4096x16, .f32⟩
  | .hbm, ⟨98, _⟩ => ⟨S8x4096x32, .f32⟩
  | .hbm, ⟨99, _⟩ => ⟨S8x4096x1x32, .f32⟩
  | .hbm, ⟨100, _⟩ => ⟨S8x4096x16x32, .f32⟩
  | .hbm, ⟨101, _⟩ => ⟨S_, .f32⟩
  | .hbm, ⟨102, _⟩ => ⟨S8x4096x16x32, .f32⟩
  | .hbm, ⟨103, _⟩ => ⟨S8x4096x16x128, .f32⟩
  | .hbm, ⟨104, _⟩ => ⟨S_, .f32⟩
  | .hbm, ⟨105, _⟩ => ⟨S8x4096x16x128, .f32⟩
  | .hbm, ⟨106, _⟩ => ⟨S8x4096x16x128, .f32⟩
  | .hbm, ⟨107, _⟩ => ⟨S32768x2048, .f32⟩
  | .hbm, ⟨108, _⟩ => ⟨S32768x2048, .bf16⟩
  | .hbm, ⟨109, _⟩ => ⟨S8x4096x16x128, .f32⟩
  | .hbm, ⟨110, _⟩ => ⟨S32768x2048, .f32⟩
  | .hbm, ⟨111, _⟩ => ⟨S32768x2048, .bf16⟩
  | .hbm, ⟨112, _⟩ => ⟨S32768x1024, .f32⟩
  | .hbm, ⟨113, _⟩ => ⟨S32768x1024, .bf16⟩
  | .hbm, ⟨114, _⟩ => ⟨S1024x32768, .bf16⟩
  | _, _ => ⟨S32768x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_2 : Ref sig .tc := ⟨.hbm, 63, rfl⟩
abbrev main_v53 : Ref sig .tc := ⟨.hbm, 64, rfl⟩
abbrev main_v54 : Ref sig .tc := ⟨.hbm, 65, rfl⟩
abbrev main_cst_3 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_5 : Ref sig .tc := ⟨.hbm, 101, rfl⟩
abbrev main_v88 : Ref sig .tc := ⟨.hbm, 102, rfl⟩
abbrev main_v89 : Ref sig .tc := ⟨.hbm, 103, rfl⟩
abbrev main_cst_6 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩

abbrev nD : Nat := 1
abbrev τ : Topo := Topo.v7x

variable {F : FTy → Type} [FloatOps F]
-- ==== Kernel5.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S16x1024 : Shape := ⟨2, ![16, 1024]⟩
abbrev S1 : Shape := ⟨1, ![1]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S2x1x6144, .f32⟩
  | .hbm, ⟨13, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x6144, .f32⟩
  | .hbm, ⟨35, _⟩ => ⟨S1024x6144, .f32⟩
  | .hbm, ⟨36, _⟩ => ⟨S16x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S16x6144, .f32⟩
  | .hbm, ⟨41, _⟩ => ⟨S16x6144, .f32⟩
  | .hbm, ⟨42, _⟩ => ⟨S1x16x6144, .f32⟩
  | .hbm, ⟨43, _⟩ => ⟨S1x16x6144, .f32⟩
  | .hbm, ⟨44, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel6.lean ====
abbrev S40x8192 : Shape := ⟨2, ![40, 8192]⟩
abbrev S2x33x64 : Shape := ⟨3, ![2, 33, 64]⟩
abbrev S2x64 : Shape := ⟨2, ![2, 64]⟩
abbrev S2x64x64 : Shape := ⟨3, ![2, 64, 64]⟩
abbrev S2x2x64 : Shape := ⟨3, ![2, 2, 64]⟩
abbrev S1x33x64 : Shape := ⟨3, ![1, 33, 64]⟩
abbrev S33x64 : Shape := ⟨2, ![33, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x2x64 : Shape := ⟨3, ![1, 2, 64]⟩
abbrev S_ : Shape := ⟨0, ![]⟩
abbrev S64x40 : Shape := ⟨2, ![64, 40]⟩
abbrev S64x33 : Shape := ⟨2, ![64, 33]⟩
abbrev S1 : Shape := ⟨1, ![1]⟩
abbrev S64x1 : Shape := ⟨2, ![64, 1]⟩
abbrev S64x8192 : Shape := ⟨2, ![64, 8192]⟩

abbrev nBuf : Space → Nat
  | .hbm => 32
  | .vmem => 8
  | .smem => 0
  | _ => 0

abbrev bufTy : (tb : Table) → Fin (tcTables nBuf tb) → BufTy
  | .hbm, ⟨0, _⟩ => ⟨S40x8192, .f32⟩
  | .hbm, ⟨1, _⟩ => ⟨S2x33x64, .f32⟩
  | .hbm, ⟨2, _⟩ => ⟨S2x64, .f32⟩
  | .hbm, ⟨3, _⟩ => ⟨S2x64x64, .f32⟩
  | .hbm, ⟨4, _⟩ => ⟨S2x64, .f32⟩
  | .hbm, ⟨5, _⟩ => ⟨S2x2x64, .f32⟩
  | .hbm, ⟨6, _⟩ => ⟨S1x33x64, .f32⟩
  | .hbm, ⟨7, _⟩ => ⟨S33x64, .f32⟩
  | .hbm, ⟨8, _⟩ => ⟨S1x64, .f32⟩
  | .hbm, ⟨9, _⟩ => ⟨S64, .f32⟩
  | .hbm, ⟨10, _⟩ => ⟨S1x64x64, .f32⟩
  | .hbm, ⟨11, _⟩ => ⟨S64x64, .f32⟩
  | .hbm, ⟨12, _⟩ => ⟨S1x64, .f32⟩
  | .hbm, ⟨13, _⟩ => ⟨S64, .f32⟩
  | .hbm, ⟨14, _⟩ => ⟨S1x2x64, .f32⟩
  | .hbm, ⟨15, _⟩ => ⟨S2x64, .f32⟩
  | .hbm, ⟨16, _⟩ => ⟨S_, .f32⟩
  | .hbm, ⟨17, _⟩ => ⟨S64x40, .f32⟩
  | .hbm, ⟨18, _⟩ => ⟨S64x33, .f32⟩
  | .hbm, ⟨19, _⟩ => ⟨S_, .i32⟩
  | .hbm, ⟨20, _⟩ => ⟨S1, .i32⟩
  | .hbm, ⟨21, _⟩ => ⟨S64x40, .f32⟩
  | .hbm, ⟨22, _⟩ => ⟨S64x1, .f32⟩
  | .hbm, ⟨23, _⟩ => ⟨S64x64, .f32⟩
  | .hbm, ⟨24, _⟩ => ⟨S64x1, .f32⟩
  | .hbm, ⟨25, _⟩ => ⟨S1x64, .f32⟩
  | .hbm, ⟨26, _⟩ => ⟨S64, .f32⟩
  | .hbm, ⟨27, _⟩ => ⟨S64x1, .f32⟩
  | .hbm, ⟨28, _⟩ => ⟨S1x64, .f32⟩
  | .hbm, ⟨29, _⟩ => ⟨S64, .f32⟩
  | .hbm, ⟨30, _⟩ => ⟨S64x1, .f32⟩
  | .hbm, ⟨31, _⟩ => ⟨S64x8192, .f32⟩
  | .local _ .vmem, ⟨0, _⟩ => ⟨S40x8192, .f32⟩
  | .local _ .vmem, ⟨1, _⟩ => ⟨S64x40, .f32⟩
  | .local _ .vmem, ⟨2, _⟩ => ⟨S64x1, .f32⟩
  | .local _ .vmem, ⟨3, _⟩ => ⟨S64x64, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x8192, .f32⟩
  | _, _ => ⟨S40x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S40x8192 : Shape := ⟨2, ![40, 8192]⟩
abbrev S2x33x64 : Shape := ⟨3, ![2, 33, 64]⟩
abbrev S2x64 : Shape := ⟨2, ![2, 64]⟩
abbrev S2x64x64 : Shape := ⟨3, ![2, 64, 64]⟩
abbrev S2x2x64 : Shape := ⟨3, ![2, 2, 64]⟩
abbrev S33x8192 : Shape := ⟨2, ![33, 8192]⟩
abbrev S8192x33 : Shape := ⟨2, ![8192, 33]⟩
abbrev S1x1x64 : Shape := ⟨3, ![1, 1, 64]⟩
abbrev S64 : Shape := ⟨1, ![64]⟩
abbrev S1x33x64 : Shape := ⟨3, ![1, 33, 64]⟩
abbrev S33x64 : Shape := ⟨2, ![33, 64]⟩
abbrev S8192x64 : Shape := ⟨2, ![8192, 64]⟩
abbrev S1x64 : Shape := ⟨2, ![1, 64]⟩
abbrev S1x64x64 : Shape := ⟨3, ![1, 64, 64]⟩
abbrev S64x64 : Shape := ⟨2, ![64, 64]⟩
abbrev S64x8192 : Shape := ⟨2, ![64, 8192]⟩

abbrev nBuf : Space → Nat
  | .hbm => 37
  | .vmem => 0
  | .smem => 0
  | _ => 0

abbrev bufTy : (tb : Table) → Fin (tcTables nBuf tb) → BufTy
  | .hbm, ⟨0, _⟩ => ⟨S40x8192, .f32⟩
  | .hbm, ⟨1, _⟩ => ⟨S2x33x64, .f32⟩
  | .hbm, ⟨2, _⟩ => ⟨S2x64, .f32⟩
  | .hbm, ⟨3, _⟩ => ⟨S2x64x64, .f32⟩
  | .hbm, ⟨4, _⟩ => ⟨S2x64, .f32⟩
  | .hbm, ⟨5, _⟩ => ⟨S2x2x64, .f32⟩
  | .hbm, ⟨6, _⟩ => ⟨S33x8192, .f32⟩
  | .hbm, ⟨7, _⟩ => ⟨S8192x33, .f32⟩
  | .hbm, ⟨8, _⟩ => ⟨S1x1x64, .f32⟩
  | .hbm, ⟨9, _⟩ => ⟨S64, .f32⟩
  | .hbm, ⟨10, _⟩ => ⟨S1x33x64, .f32⟩
  | .hbm, ⟨11, _⟩ => ⟨S33x64, .f32⟩
  | .hbm, ⟨12, _⟩ => ⟨S8192x64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S1x1x64, .f32⟩
  | .hbm, ⟨23, _⟩ => ⟨S64, .f32⟩
  | .hbm, ⟨24, _⟩ => ⟨S1x64x64, .f32⟩
  | .hbm, ⟨25, _⟩ => ⟨S64x64, .f32⟩
  | .hbm, ⟨26, _⟩ => ⟨S8192x64, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S64x8192, .f32⟩
  | _, _ => ⟨S40x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel7.lean ====
abbrev S32768x1024 : Shape := ⟨2, ![32768, 1024]⟩
abbrev S32768x2048 : Shape := ⟨2, ![32768, 2048]⟩
abbrev S2x1x2048 : Shape := ⟨3, ![2, 1, 2048]⟩
abbrev S512x32768 : Shape := ⟨2, ![512, 32768]⟩
abbrev S1024x32768 : Shape := ⟨2, ![1024, 32768]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S16x6144 : Shape := ⟨2, ![16, 6144]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S1x1x2048 : Shape := ⟨3, ![1, 1, 2048]⟩
abbrev S512x512 : Shape := ⟨2, ![512, 512]⟩
abbrev S1024x512 : Shape := ⟨2, ![1024, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x2048 : Shape := ⟨2, ![1, 2048]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 15
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2x1x2048, .f32⟩
  | .hbm, ⟨3, _⟩ => ⟨S512x32768, .bf16⟩
  | .hbm, ⟨4, _⟩ => ⟨S1024x32768, .bf16⟩
  | .hbm, ⟨5, _⟩ => ⟨S2x512x1024, .bf16⟩
  | .hbm, ⟨6, _⟩ => ⟨S2x1024x1024, .bf16⟩
  | .hbm, ⟨7, _⟩ => ⟨S2x1024x1024, .bf16⟩
  | .hbm, ⟨8, _⟩ => ⟨S2x1x1024, .f32⟩
  | .hbm, ⟨9, _⟩ => ⟨S16x6144, .f32⟩
  | .hbm, ⟨10, _⟩ => ⟨S2x1024x5632, .bf16⟩
  | .hbm, ⟨11, _⟩ => ⟨S2x2816x1024, .bf16⟩
  | .hbm, ⟨12, _⟩ => ⟨S1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S512x512, .bf16⟩
  | .local _ .vmem, ⟨6, _⟩ => ⟨S512x512, .bf16⟩
  | .local _ .vmem, ⟨7, _⟩ => ⟨S1024x512, .bf16⟩
  | .local _ .vmem, ⟨8, _⟩ => ⟨S1024x512, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S16x6144, .f32⟩
  | .local _ .vmem, ⟨14, _⟩ => ⟨S1x1024x5632, .bf16⟩
  | .local _ .vmem, ⟨15, _⟩ => ⟨S1x2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v46 : Index := Scalar.indexCast v17
  let c2048 : Index := 2048#32
  ![v46.toNat, 2048]
def k0_off2 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v68 : Index := Scalar.indexCast v17
  let c4096 : Index := 4096#32
  ![v68.toNat, 4096]
def k0_off3 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v74 : Index := Scalar.indexCast v17
  let c3072 : Index := 3072#32
  ![v74.toNat, 3072]
def k0_off4 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v298 : Index := Scalar.indexCast v17
  let c5120_183 : Index := 5120#32
  ![v298.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S32768x1024 : Shape := ⟨2, ![32768, 1024]⟩
abbrev S32768x2048 : Shape := ⟨2, ![32768, 2048]⟩
abbrev S2x1x2048 : Shape := ⟨3, ![2, 1, 2048]⟩
abbrev S512x32768 : Shape := ⟨2, ![512, 32768]⟩
abbrev S1024x32768 : Shape := ⟨2, ![1024, 32768]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S16x6144 : Shape := ⟨2, ![16, 6144]⟩
abbrev S2x1024x5632 : Shape := ⟨3, ![2, 1024, 5632]⟩
abbrev S2x2816x1024 : Shape := ⟨3, ![2, 2816, 1024]⟩
abbrev S1024 : Shape := ⟨1, ![1024]⟩
abbrev S8x6144 : Shape := ⟨2, ![8, 6144]⟩
abbrev S8x1024 : Shape := ⟨2, ![8, 1024]⟩
abbrev S8x1x1024 : Shape := ⟨3, ![8, 1, 1024]⟩
abbrev S8x4096x1024 : Shape := ⟨3, ![8, 4096, 1024]⟩
abbrev S8x4096x2048 : Shape := ⟨3, ![8, 4096, 2048]⟩
abbrev S1x1x2048 : Shape := ⟨3, ![1, 1, 2048]⟩
abbrev S1x2048 : Shape := ⟨2, ![1, 2048]⟩
abbrev S32768x512 : Shape := ⟨2, ![32768, 512]⟩
abbrev S8x4096x512 : Shape := ⟨3, ![8, 4096, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1x1024 : Shape := ⟨2, ![1, 1024]⟩
abbrev S8x4096 : Shape := ⟨2, ![8, 4096]⟩
abbrev S8x4096x1 : Shape := ⟨3, ![8, 4096, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 117
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2x1x2048, .f32⟩
  | .hbm, ⟨3, _⟩ => ⟨S512x32768, .bf16⟩
  | .hbm, ⟨4, _⟩ => ⟨S1024x32768, .bf16⟩
  | .hbm, ⟨5, _⟩ => ⟨S2x512x1024, .bf16⟩
  | .hbm, ⟨6, _⟩ => ⟨S2x1024x1024, .bf16⟩
  | .hbm, ⟨7, _⟩ => ⟨S2x1024x1024, .bf16⟩
  | .hbm, ⟨8, _⟩ => ⟨S2x1x1024, .f32⟩
  | .hbm, ⟨9, _⟩ => ⟨S16x6144, .f32⟩
  | .hbm, ⟨10, _⟩ => ⟨S2x1024x5632, .bf16⟩
  | .hbm, ⟨11, _⟩ => ⟨S2x2816x1024, .bf16⟩
  | .hbm, ⟨12, _⟩ => ⟨S1024, .f32⟩
  | .hbm, ⟨13, _⟩ => ⟨S8x6144, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S32768x2048, .f32⟩
  | .hbm, ⟨28, _⟩ => ⟨S8x4096x2048, .f32⟩
  | .hbm, ⟨29, _⟩ => ⟨S1x1x2048, .f32⟩
  | .hbm, ⟨30, _⟩ => ⟨S1x2048, .f32⟩
  | .hbm, ⟨31, _⟩ => ⟨S32768x512, .bf16⟩
  | .hbm, ⟨32, _⟩ => ⟨S32768x512, .f32⟩
  | .hbm, ⟨33, _⟩ => ⟨S8x4096x512, .f32⟩
  | .hbm, ⟨34, _⟩ => ⟨S32768x1024, .bf16⟩
  | .hbm, ⟨35, _⟩ => ⟨S32768x1024, .f32⟩
  | .hbm, ⟨36, _⟩ => ⟨S8x4096x1024, .f32⟩
  | .hbm, ⟨37, _⟩ => ⟨S1x512x1024, .bf16⟩
  | .hbm, ⟨38, _⟩ => ⟨S512x1024, .bf16⟩
  | .hbm, ⟨39, _⟩ => ⟨S512x1024, .f32⟩
  | .hbm, ⟨40, _⟩ => ⟨S1x1024x1024, .bf16⟩
  | .hbm, ⟨41, _⟩ => ⟨S1024x1024, .bf16⟩
  | .hbm, ⟨42, _⟩ => ⟨S1024x1024, .f32⟩
  | .hbm, ⟨43, _⟩ => ⟨S1x1024x1024, .bf16⟩
  | .hbm, ⟨44, _⟩ => ⟨S1024x1024, .bf16⟩
  | .hbm, ⟨45, _⟩ => ⟨S1024x1024, .f32⟩
  | .hbm, ⟨46, _⟩ => ⟨S1x1x2048, .f32⟩
  | .hbm, ⟨47, _⟩ => ⟨S8x4096x2048, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096x2048, .f32⟩
  | .hbm, ⟨53, _⟩ => ⟨S8x4096x2048, .f32⟩
  | .hbm, ⟨54, _⟩ => ⟨S_, .f32⟩
  | .hbm, ⟨55, _⟩ => ⟨S8x4096x2048, .f32⟩
  | .hbm, ⟨56, _⟩ => ⟨S8x4096x2048, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S1x1024, .f32⟩
  | .hbm, ⟨70, _⟩ => ⟨S8x4096x1024, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x1024, .f32⟩
  | .hbm, ⟨82, _⟩ => ⟨S8x4096x1024, .f32⟩
  | .hbm, ⟨83, _⟩ => ⟨S1x1x1024, .f32⟩
  | .hbm, ⟨84, _⟩ => ⟨S8x4096x1024, .f32⟩
  | .hbm, ⟨85, _⟩ => ⟨S8x4096x1024, .f32⟩
  | .hbm, ⟨86, _⟩ => ⟨S_, .f32⟩
  | .hbm, ⟨87, _⟩ => ⟨S8x1x1024, .f32⟩
  | .hbm, ⟨88, _⟩ => ⟨S8x1x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S1x1024x5632, .bf16⟩
  | .hbm, ⟨94, _⟩ => ⟨S1024x5632, .bf16⟩
  | .hbm, ⟨95, _⟩ => ⟨S1024x5632, .f32⟩
  | .hbm, ⟨96, _⟩ => ⟨S1x2816x1024, .bf16⟩
  | .hbm, ⟨97, _⟩ => ⟨S2816x1024, .bf16⟩
  | .hbm, ⟨98, _⟩ => ⟨S2816x1024, .f32⟩
  | .hbm, ⟨99, _⟩ => ⟨S8x4096x5632, .f32⟩
  | .hbm, ⟨100, _⟩ => ⟨S8x4096x2816, .f32⟩
  | .hbm, ⟨101, _⟩ => ⟨S8x4096x2816, .f32⟩
  | .hbm, ⟨102, _⟩ => ⟨S8x4096x2816, .f32⟩
  | .hbm, ⟨103, _⟩ => ⟨S8x4096x2816, .f32⟩
  | .hbm, ⟨104, _⟩ => ⟨S_, .f32⟩
  | .hbm, ⟨105, _⟩ => ⟨S8x4096x2816, .f32⟩
  | .hbm, ⟨106, _⟩ => ⟨S8x4096x2816, .f32⟩
  | .hbm, ⟨107, _⟩ => ⟨S_, .f32⟩
  | .hbm, ⟨108, _⟩ => ⟨S8x4096x2816, .f32⟩
  | .hbm, ⟨109, _⟩ => ⟨S8x4096x2816, .f32⟩
  | .hbm, ⟨110, _⟩ => ⟨S8x4096x2816, .f32⟩
  | .hbm, ⟨111, _⟩ => ⟨S8x4096x2816, .f32⟩
  | .hbm, ⟨112, _⟩ => ⟨S8x4096x1024, .f32⟩
  | .hbm, ⟨113, _⟩ => ⟨S8x4096x1024, .f32⟩
  | .hbm, ⟨114, _⟩ => ⟨S8x4096x1024, .f32⟩
  | .hbm, ⟨115, _⟩ => ⟨S8x4096x1024, .f32⟩
  | .hbm, ⟨116, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst : Ref sig .tc := ⟨.hbm, 51, rfl⟩
abbrev main_v38 : Ref sig .tc := ⟨.hbm, 52, rfl⟩
abbrev main_v39 : Ref sig .tc := ⟨.hbm, 53, rfl⟩
abbrev main_cst_0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_1 : Ref sig .tc := ⟨.hbm, 71, rfl⟩
abbrev main_v56 : Ref sig .tc := ⟨.hbm, 72, rfl⟩
abbrev main_v57 : Ref sig .tc := ⟨.hbm, 73, rfl⟩
abbrev main_cst_2 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Kernel8.lean ====
abbrev S2048x1024 : Shape := ⟨2, ![2048, 1024]⟩
abbrev S2048x2048 : Shape := ⟨2, ![2048, 2048]⟩
abbrev S2x1x2048 : Shape := ⟨3, ![2, 1, 2048]⟩
abbrev S512x2048 : Shape := ⟨2, ![512, 2048]⟩
abbrev S1024x2048 : Shape := ⟨2, ![1024, 2048]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S16x6144 : Shape := ⟨2, ![16, 6144]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S512x1024 : Shape := ⟨2, ![512, 1024]⟩
abbrev S1x1x2048 : Shape := ⟨3, ![1, 1, 2048]⟩
abbrev S512x512 : Shape := ⟨2, ![512, 512]⟩
abbrev S1024x512 : Shape := ⟨2, ![1024, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x2048 : Shape := ⟨2, ![1, 2048]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 15
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S2x1x2048, .f32⟩
  | .hbm, ⟨3, _⟩ => ⟨S512x2048, .bf16⟩
  | .hbm, ⟨4, _⟩ => ⟨S1024x2048, .bf16⟩
  | .hbm, ⟨5, _⟩ => ⟨S2x512x1024, .bf16⟩
  | .hbm, ⟨6, _⟩ => ⟨S2x1024x1024, .bf16⟩
  | .hbm, ⟨7, _⟩ => ⟨S2x1024x1024, .bf16⟩
  | .hbm, ⟨8, _⟩ => ⟨S2x1x1024, .f32⟩
  | .hbm, ⟨9, _⟩ => ⟨S16x6144, .f32⟩
  | .hbm, ⟨10, _⟩ => ⟨S2x1024x5632, .bf16⟩
  | .hbm, ⟨11, _⟩ => ⟨S2x2816x1024, .bf16⟩
  | .hbm, ⟨12, _⟩ => ⟨S1024, .f32⟩
  | .hbm, ⟨13, _⟩ => ⟨S1x1024, .f32⟩
  | .hbm, ⟨14, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S512x512, .bf16⟩
  | .local _ .vmem, ⟨6, _⟩ => ⟨S512x512, .bf16⟩
  | .local _ .vmem, ⟨7, _⟩ => ⟨S1024x512, .bf16⟩
  | .local _ .vmem, ⟨8, _⟩ => ⟨S1024x512, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S16x6144, .f32⟩
  | .local _ .vmem, ⟨14, _⟩ => ⟨S1x1024x5632, .bf16⟩
  | .local _ .vmem, ⟨15, _⟩ => ⟨S1x2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c8_i32 : BitVec 32 := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1073741824_i32 : BitVec 32 := 1073741824#32
  let c0_i32_1 : BitVec 32 := 0#32
  let v6 : BitVec 1 := Scalar.cmpi .sgt c1073741824_i32 c0_i32_1
  let v7 : BitVec 32 := Scalar.extui v6
  let c0_i32_2 : BitVec 32 := 0#32
  let v8 : BitVec 1 := Scalar.cmpi .slt c1073741824_i32 c0_i32_2
  let v9 : BitVec 32 := Scalar.extui v8
  let v10 : BitVec 32 := Scalar.subi v7 v9
  let v11 : BitVec 1 := Scalar.cmpi .ne v5 v10
  let v12 : BitVec 32 := Scalar.remsi arg0 c1073741824_i32
  let c0_i32_3 : BitVec 32 := 0#32
  let v13 : BitVec 1 := Scalar.cmpi .ne v12 c0_i32_3
  let v14 : BitVec 1 := Scalar.andi v11 v13
  let v0 : BitVec 32 := Scalar.divsi arg0 c1073741824_i32
  let c1_i32 : BitVec 32 := 1#32
  let v15 : BitVec 32 := Scalar.subi v0 c1_i32
  let v16 : BitVec 32 := Scalar.select v14 v15 v0
  let v17 : BitVec 32 := Scalar.addi c8_i32 v16
  let v46 : Index := Scalar.indexCast v17
  let c2048 : Index := 2048#32
  ![v46.toNat, 2048]
def k0_off2 (i : grid0.Coords) : Fin 2 → Nat :=
  let c8_i32 : BitVec 32 := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1073741824_i32 : BitVec 32 := 1073741824#32
  let c0_i32_1 : BitVec 32 := 0#32
  let v6 : BitVec 1 := Scalar.cmpi .sgt c1073741824_i32 c0_i32_1
  let v7 : BitVec 32 := Scalar.extui v6
  let c0_i32_2 : BitVec 32 := 0#32
  let v8 : BitVec 1 := Scalar.cmpi .slt c1073741824_i32 c0_i32_2
  let v9 : BitVec 32 := Scalar.extui v8
  let v10 : BitVec 32 := Scalar.subi v7 v9
  let v11 : BitVec 1 := Scalar.cmpi .ne v5 v10
  let v12 : BitVec 32 := Scalar.remsi arg0 c1073741824_i32
  let c0_i32_3 : BitVec 32 := 0#32
  let v13 : BitVec 1 := Scalar.cmpi .ne v12 c0_i32_3
  let v14 : BitVec 1 := Scalar.andi v11 v13
  let v0 : BitVec 32 := Scalar.divsi arg0 c1073741824_i32
  let c1_i32 : BitVec 32 := 1#32
  let v15 : BitVec 32 := Scalar.subi v0 c1_i32
  let v16 : BitVec 32 := Scalar.select v14 v15 v0
  let v17 : BitVec 32 := Scalar.addi c8_i32 v16
  let v68 : Index := Scalar.indexCast v17
  let c4096 : Index := 4096#32
  ![v68.toNat, 4096]
def k0_off3 (i : grid0.Coords) : Fin 2 → Nat :=
  let c8_i32 : BitVec 32 := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1073741824_i32 : BitVec 32 := 1073741824#32
  let c0_i32_1 : BitVec 32 := 0#32
  let v6 : BitVec 1 := Scalar.cmpi .sgt c1073741824_i32 c0_i32_1
  let v7 : BitVec 32 := Scalar.extui v6
  let c0_i32_2 : BitVec 32 := 0#32
  let v8 : BitVec 1 := Scalar.cmpi .slt c1073741824_i32 c0_i32_2
  let v9 : BitVec 32 := Scalar.extui v8
  let v10 : BitVec 32 := Scalar.subi v7 v9
  let v11 : BitVec 1 := Scalar.cmpi .ne v5 v10
  let v12 : BitVec 32 := Scalar.remsi arg0 c1073741824_i32
  let c0_i32_3 : BitVec 32 := 0#32
  let v13 : BitVec 1 := Scalar.cmpi .ne v12 c0_i32_3
  let v14 : BitVec 1 := Scalar.andi v11 v13
  let v0 : BitVec 32 := Scalar.divsi arg0 c1073741824_i32
  let c1_i32 : BitVec 32 := 1#32
  let v15 : BitVec 32 := Scalar.subi v0 c1_i32
  let v16 : BitVec 32 := Scalar.select v14 v15 v0
  let v17 : BitVec 32 := Scalar.addi c8_i32 v16
  let v74 : Index := Scalar.indexCast v17
  let c3072 : Index := 3072#32
  ![v74.toNat, 3072]
def k0_off4 (i : grid0.Coords) : Fin 2 → Nat :=
  let c8_i32 : BitVec 32 := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1073741824_i32 : BitVec 32 := 1073741824#32
  let c0_i32_1 : BitVec 32 := 0#32
  let v6 : BitVec 1 := Scalar.cmpi .sgt c1073741824_i32 c0_i32_1
  let v7 : BitVec 32 := Scalar.extui v6
  let c0_i32_2 : BitVec 32 := 0#32
  let v8 : BitVec 1 := Scalar.cmpi .slt c1073741824_i32 c0_i32_2
  let v9 : BitVec 32 := Scalar.extui v8
  let v10 : BitVec 32 := Scalar.subi v7 v9
  let v11 : BitVec 1 := Scalar.cmpi .ne v5 v10
  let v12 : BitVec 32 := Scalar.remsi arg0 c1073741824_i32
  let c0_i32_3 : BitVec 32 := 0#32
  let v13 : BitVec 1 := Scalar.cmpi .ne v12 c0_i32_3
  let v14 : BitVec 1 := Scalar.andi v11 v13
  let v0 : BitVec 32 := Scalar.divsi arg0 c1073741824_i32
  let c1_i32 : BitVec 32 := 1#32
  let v15 : BitVec 32 := Scalar.subi v0 c1_i32
  let v16 : BitVec 32 := Scalar.select v14 v15 v0
  let v17 : BitVec 32 := Scalar.addi c8_i32 v16
  let v298 : Index := Scalar.indexCast v17
  let c5120_182 : Index := 5120#32
  ![v298.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S2048x1024 : Shape := ⟨2, ![2048, 1024]⟩
abbrev S2048x2048 : Shape := ⟨2, ![2048, 2048]⟩
abbrev S2x1x2048 : Shape := ⟨3, ![2, 1, 2048]⟩
abbrev S512x2048 : Shape := ⟨2, ![512, 2048]⟩
abbrev S1024x2048 : Shape := ⟨2, ![1024, 2048]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S16x6144 : Shape := ⟨2, ![16, 6144]⟩
abbrev S2x1024x5632 : Shape := ⟨3, ![2, 1024, 5632]⟩
abbrev S2x2816x1024 : Shape := ⟨3, ![2, 2816, 1024]⟩
abbrev S1024 : Shape := ⟨1, ![1024]⟩
abbrev S1x6144 : Shape := ⟨2, ![1, 6144]⟩
abbrev S6144 : Shape := ⟨1, ![6144]⟩
abbrev S1x1x2048 : Shape := ⟨3, ![1, 1, 2048]⟩
abbrev S1x2048 : Shape := ⟨2, ![1, 2048]⟩
abbrev S2048x512 : Shape := ⟨2, ![2048, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1x1x1024 : Shape := ⟨3, ![1, 1, 1024]⟩
abbrev S2048 : Shape := ⟨1, ![2048]⟩
abbrev S2048x1 : Shape := ⟨2, ![2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2048x5632 : Shape := ⟨2, ![2048, 5632]⟩
abbrev S2048x2816 : Shape := ⟨2, ![2048, 2816]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S2x1x2048, .f32⟩
  | .hbm, ⟨3, _⟩ => ⟨S512x2048, .bf16⟩
  | .hbm, ⟨4, _⟩ => ⟨S1024x2048, .bf16⟩
  | .hbm, ⟨5, _⟩ => ⟨S2x512x1024, .bf16⟩
  | .hbm, ⟨6, _⟩ => ⟨S2x1024x1024, .bf16⟩
  | .hbm, ⟨7, _⟩ => ⟨S2x1024x1024, .bf16⟩
  | .hbm, ⟨8, _⟩ => ⟨S2x1x1024, .f32⟩
  | .hbm, ⟨9, _⟩ => ⟨S16x6144, .f32⟩
  | .hbm, ⟨10, _⟩ => ⟨S2x1024x5632, .bf16⟩
  | .hbm, ⟨11, _⟩ => ⟨S2x2816x1024, .bf16⟩
  | .hbm, ⟨12, _⟩ => ⟨S1024, .f32⟩
  | .hbm, ⟨13, _⟩ => ⟨S1x6144, .f32⟩
  | .hbm, ⟨14, _⟩ => ⟨S6144, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S2048x2048, .f32⟩
  | .hbm, ⟨22, _⟩ => ⟨S1x1x2048, .f32⟩
  | .hbm, ⟨23, _⟩ => ⟨S1x2048, .f32⟩
  | .hbm, ⟨24, _⟩ => ⟨S2048x512, .bf16⟩
  | .hbm, ⟨25, _⟩ => ⟨S2048x512, .f32⟩
  | .hbm, ⟨26, _⟩ => ⟨S2048x1024, .bf16⟩
  | .hbm, ⟨27, _⟩ => ⟨S2048x1024, .f32⟩
  | .hbm, ⟨28, _⟩ => ⟨S1x512x1024, .bf16⟩
  | .hbm, ⟨29, _⟩ => ⟨S512x1024, .bf16⟩
  | .hbm, ⟨30, _⟩ => ⟨S512x1024, .f32⟩
  | .hbm, ⟨31, _⟩ => ⟨S1x1024x1024, .bf16⟩
  | .hbm, ⟨32, _⟩ => ⟨S1024x1024, .bf16⟩
  | .hbm, ⟨33, _⟩ => ⟨S1024x1024, .f32⟩
  | .hbm, ⟨34, _⟩ => ⟨S1x1024x1024, .bf16⟩
  | .hbm, ⟨35, _⟩ => ⟨S1024x1024, .bf16⟩
  | .hbm, ⟨36, _⟩ => ⟨S1024x1024, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S1x1x1024, .f32⟩
  | .hbm, ⟨60, _⟩ => ⟨S1x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x1, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S1x1024, .f32⟩
  | .hbm, ⟨83, _⟩ => ⟨S2048x1024, .f32⟩
  | .hbm, ⟨84, _⟩ => ⟨S2048x1024, .f32⟩
  | .hbm, ⟨85, _⟩ => ⟨S1x1024x5632, .bf16⟩
  | .hbm, ⟨86, _⟩ => ⟨S1024x5632, .bf16⟩
  | .hbm, ⟨87, _⟩ => ⟨S1024x5632, .f32⟩
  | .hbm, ⟨88, _⟩ => ⟨S1x2816x1024, .bf16⟩
  | .hbm, ⟨89, _⟩ => ⟨S2816x1024, .bf16⟩
  | .hbm, ⟨90, _⟩ => ⟨S2816x1024, .f32⟩
  | .hbm, ⟨91, _⟩ => ⟨S2048x5632, .f32⟩
  | .hbm, ⟨92, _⟩ => ⟨S2048x2816, .f32⟩
  | .hbm, ⟨93, _⟩ => ⟨S2048x2816, .f32⟩
  | .hbm, ⟨94, _⟩ => ⟨S2048x2816, .f32⟩
  | .hbm, ⟨95, _⟩ => ⟨S2048x2816, .f32⟩
  | .hbm, ⟨96, _⟩ => ⟨S_, .f32⟩
  | .hbm, ⟨97, _⟩ => ⟨S2048x2816, .f32⟩
  | .hbm, ⟨98, _⟩ => ⟨S2048x2816, .f32⟩
  | .hbm, ⟨99, _⟩ => ⟨S_, .f32⟩
  | .hbm, ⟨100, _⟩ => ⟨S2048x2816, .f32⟩
  | .hbm, ⟨101, _⟩ => ⟨S2048x2816, .f32⟩
  | .hbm, ⟨102, _⟩ => ⟨S2048x2816, .f32⟩
  | .hbm, ⟨103, _⟩ => ⟨S2048x2816, .f32⟩
  | .hbm, ⟨104, _⟩ => ⟨S2048x1024, .f32⟩
  | .hbm, ⟨105, _⟩ => ⟨S1x1024, .f32⟩
  | .hbm, ⟨106, _⟩ => ⟨S2048x1024, .f32⟩
  | .hbm, ⟨107, _⟩ => ⟨S2048x1024, .f32⟩
  | .hbm, ⟨108, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_cst_0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_1 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_cst_3 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_4 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_call0_v5 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Kernel9.lean ====
abbrev S2048x1024 : Shape := ⟨2, ![2048, 1024]⟩
abbrev S1024 : Shape := ⟨1, ![1024]⟩
abbrev S16x6144 : Shape := ⟨2, ![16, 6144]⟩
abbrev S2x1024x896 : Shape := ⟨3, ![2, 1024, 896]⟩
abbrev S2x1024x2048 : Shape := ⟨3, ![2, 1024, 2048]⟩
abbrev S2x1536x1024 : Shape := ⟨3, ![2, 1536, 1024]⟩
abbrev S1x1024 : Shape := ⟨2, ![1, 1024]⟩
abbrev S2048x896 : Shape := ⟨2, ![2048, 896]⟩
abbrev S2048x2048 : Shape := ⟨2, ![2048, 2048]⟩
abbrev S1536x2048 : Shape := ⟨2, ![1536, 2048]⟩
abbrev S512x1024 : Shape := ⟨2, ![512, 1024]⟩
abbrev S1x1024x896 : Shape := ⟨3, ![1, 1024, 896]⟩
abbrev S1x1024x2048 : Shape := ⟨3, ![1, 1024, 2048]⟩
abbrev S1x1536x1024 : Shape := ⟨3, ![1, 1536, 1024]⟩
abbrev S512x896 : Shape := ⟨2, ![512, 896]⟩
abbrev S512x2048 : Shape := ⟨2, ![512, 2048]⟩
abbrev S1536x512 : Shape := ⟨2, ![1536, 512]⟩
abbrev S512 : Shape := ⟨1, ![512]⟩
abbrev S512x1 : Shape := ⟨2, ![512, 1]⟩
abbrev S1024x896 : Shape := ⟨2, ![1024, 896]⟩
abbrev S1024x2048 : Shape := ⟨2, ![1024, 2048]⟩
abbrev S1536x1024 : Shape := ⟨2, ![1536, 1024]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S16x6144, .f32⟩
  | .hbm, ⟨3, _⟩ => ⟨S2x1024x896, .bf16⟩
  | .hbm, ⟨4, _⟩ => ⟨S2x1024x2048, .bf16⟩
  | .hbm, ⟨5, _⟩ => ⟨S2x1536x1024, .bf16⟩
  | .hbm, ⟨6, _⟩ => ⟨S1x1024, .f32⟩
  | .hbm, ⟨7, _⟩ => ⟨S2048x896, .bf16⟩
  | .hbm, ⟨8, _⟩ => ⟨S2048x2048, .bf16⟩
  | .hbm, ⟨9, _⟩ => ⟨S1536x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S16x6144, .f32⟩
  | .local _ .vmem, ⟨4, _⟩ => ⟨S1x1024x896, .bf16⟩
  | .local _ .vmem, ⟨5, _⟩ => ⟨S1x1024x2048, .bf16⟩
  | .local _ .vmem, ⟨6, _⟩ => ⟨S1x1536x1024, .bf16⟩
  | .local _ .vmem, ⟨7, _⟩ => ⟨S512x896, .bf16⟩
  | .local _ .vmem, ⟨8, _⟩ => ⟨S512x896, .bf16⟩
  | .local _ .vmem, ⟨9, _⟩ => ⟨S512x2048, .bf16⟩
  | .local _ .vmem, ⟨10, _⟩ => ⟨S512x2048, .bf16⟩
  | .local _ .vmem, ⟨11, _⟩ => ⟨S1536x512, .f32⟩
  | .local _ .vmem, ⟨12, _⟩ => ⟨S1536x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c8_i32 : BitVec 32 := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1073741824_i32 : BitVec 32 := 1073741824#32
  let c0_i32_1 : BitVec 32 := 0#32
  let v6 : BitVec 1 := Scalar.cmpi .sgt c1073741824_i32 c0_i32_1
  let v7 : BitVec 32 := Scalar.extui v6
  let c0_i32_2 : BitVec 32 := 0#32
  let v8 : BitVec 1 := Scalar.cmpi .slt c1073741824_i32 c0_i32_2
  let v9 : BitVec 32 := Scalar.extui v8
  let v10 : BitVec 32 := Scalar.subi v7 v9
  let v11 : BitVec 1 := Scalar.cmpi .ne v5 v10
  let v12 : BitVec 32 := Scalar.remsi arg0 c1073741824_i32
  let c0_i32_3 : BitVec 32 := 0#32
  let v13 : BitVec 1 := Scalar.cmpi .ne v12 c0_i32_3
  let v14 : BitVec 1 := Scalar.andi v11 v13
  let v0 : BitVec 32 := Scalar.divsi arg0 c1073741824_i32
  let c1_i32 : BitVec 32 := 1#32
  let v15 : BitVec 32 := Scalar.subi v0 c1_i32
  let v16 : BitVec 32 := Scalar.select v14 v15 v0
  let v17 : BitVec 32 := Scalar.addi c8_i32 v16
  let v33 : Index := Scalar.indexCast v17
  let c1024 : Index := 1024#32
  ![v33.toNat, 1024]
def k0_off2 (i : grid0.Coords) : Fin 2 → Nat :=
  let c8_i32 : BitVec 32 := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1073741824_i32 : BitVec 32 := 1073741824#32
  let c0_i32_1 : BitVec 32 := 0#32
  let v6 : BitVec 1 := Scalar.cmpi .sgt c1073741824_i32 c0_i32_1
  let v7 : BitVec 32 := Scalar.extui v6
  let c0_i32_2 : BitVec 32 := 0#32
  let v8 : BitVec 1 := Scalar.cmpi .slt c1073741824_i32 c0_i32_2
  let v9 : BitVec 32 := Scalar.extui v8
  let v10 : BitVec 32 := Scalar.subi v7 v9
  let v11 : BitVec 1 := Scalar.cmpi .ne v5 v10
  let v12 : BitVec 32 := Scalar.remsi arg0 c1073741824_i32
  let c0_i32_3 : BitVec 32 := 0#32
  let v13 : BitVec 1 := Scalar.cmpi .ne v12 c0_i32_3
  let v14 : BitVec 1 := Scalar.andi v11 v13
  let v0 : BitVec 32 := Scalar.divsi arg0 c1073741824_i32
  let c1_i32 : BitVec 32 := 1#32
  let v15 : BitVec 32 := Scalar.subi v0 c1_i32
  let v16 : BitVec 32 := Scalar.select v14 v15 v0
  let v17 : BitVec 32 := Scalar.addi c8_i32 v16
  let v39 : Index := Scalar.indexCast v17
  let c0_10 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S2048x1024 : Shape := ⟨2, ![2048, 1024]⟩
abbrev S1024 : Shape := ⟨1, ![1024]⟩
abbrev S16x6144 : Shape := ⟨2, ![16, 6144]⟩
abbrev S2x1024x896 : Shape := ⟨3, ![2, 1024, 896]⟩
abbrev S2x1024x2048 : Shape := ⟨3, ![2, 1024, 2048]⟩
abbrev S2x1536x1024 : Shape := ⟨3, ![2, 1536, 1024]⟩
abbrev S1x6144 : Shape := ⟨2, ![1, 6144]⟩
abbrev S6144 : Shape := ⟨1, ![6144]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1024x896 : Shape := ⟨3, ![1, 1024, 896]⟩
abbrev S1024x896 : Shape := ⟨2, ![1024, 896]⟩
abbrev S2048x896 : Shape := ⟨2, ![2048, 896]⟩
abbrev S1x1024x2048 : Shape := ⟨3, ![1, 1024, 2048]⟩
abbrev S1024x2048 : Shape := ⟨2, ![1024, 2048]⟩
abbrev S2048x2048 : Shape := ⟨2, ![2048, 2048]⟩
abbrev S1x1536x1024 : Shape := ⟨3, ![1, 1536, 1024]⟩
abbrev S1536x1024 : Shape := ⟨2, ![1536, 1024]⟩
abbrev S1024x1536 : Shape := ⟨2, ![1024, 1536]⟩
abbrev S2048x1536 : Shape := ⟨2, ![2048, 1536]⟩
abbrev S1536x2048 : Shape := ⟨2, ![1536, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S16x6144, .f32⟩
  | .hbm, ⟨3, _⟩ => ⟨S2x1024x896, .bf16⟩
  | .hbm, ⟨4, _⟩ => ⟨S2x1024x2048, .bf16⟩
  | .hbm, ⟨5, _⟩ => ⟨S2x1536x1024, .bf16⟩
  | .hbm, ⟨6, _⟩ => ⟨S1x6144, .f32⟩
  | .hbm, ⟨7, _⟩ => ⟨S6144, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S1x1024x896, .bf16⟩
  | .hbm, ⟨40, _⟩ => ⟨S1024x896, .bf16⟩
  | .hbm, ⟨41, _⟩ => ⟨S1024x896, .f32⟩
  | .hbm, ⟨42, _⟩ => ⟨S2048x896, .f32⟩
  | .hbm, ⟨43, _⟩ => ⟨S2048x896, .bf16⟩
  | .hbm, ⟨44, _⟩ => ⟨S1x1024x2048, .bf16⟩
  | .hbm, ⟨45, _⟩ => ⟨S1024x2048, .bf16⟩
  | .hbm, ⟨46, _⟩ => ⟨S1024x2048, .f32⟩
  | .hbm, ⟨47, _⟩ => ⟨S2048x2048, .f32⟩
  | .hbm, ⟨48, _⟩ => ⟨S2048x2048, .bf16⟩
  | .hbm, ⟨49, _⟩ => ⟨S1x1536x1024, .bf16⟩
  | .hbm, ⟨50, _⟩ => ⟨S1536x1024, .bf16⟩
  | .hbm, ⟨51, _⟩ => ⟨S1536x1024, .f32⟩
  | .hbm, ⟨52, _⟩ => ⟨S1024x1536, .f32⟩
  | .hbm, ⟨53, _⟩ => ⟨S2048x1536, .f32⟩
  | .hbm, ⟨54, _⟩ => ⟨S1536x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Proof.AttnUnit.lean ====
/-
  One unit of the attention kernel: 256 queries of one head against all 4352 keys of one batch element. The kernel's
  body runs 32 of them (four heads, eight groups of queries) and stores each unit's 64 × 256 result into its own tile of
  the output block. `unit` is what one such unit computes, as a function of the loaded queries, keys and values;
  `out_eq` says that the body's output block is the 32 units laid side by side.
-/
module

public import proofs.«01_k».proof.Proof.Gen.KernelIdeal.Frame
public import Idealize.ShloMosaic.Lib.Pipeline.Value

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-- The scores of 1024 keys (rows) against 256 queries (columns). -/
def score (k : Vec F S1024x128 .bf16) (q : Vec F S256x128 .bf16) : FVec F S1024x256 .f32 :=
  matmul dot_S1024x128_S256x128_S1024x256_1_1_0_0_n_n none k q (constant S1024x256 .f32 0x00000000#32)

/-- The scores of the 256 context keys against 256 queries. -/
def scoreC (k : Vec F S256x128 .bf16) (q : Vec F S256x128 .bf16) : FVec F S256x256 .f32 :=
  matmul dot_S256x128_S256x128_S256x256_1_1_0_0_n_n none k q (constant S256x256 .f32 0x00000000#32)

/-- The largest score of each query among 1024 keys. -/
def top (s : FVec F S1024x256 .f32) : FVec F S1x256 .f32 :=
  shapeCast S1x256 (multiReduction .maximumf [0] S256 s 0xFF800000#32 reduces_S1024x256_S256 (.inl rfl) rfl) shapeCasts_S256_S1x256

/-- The largest score of each query among the 256 context keys. -/
def topC (s : FVec F S256x256 .f32) : FVec F S1x256 .f32 :=
  shapeCast S1x256 (multiReduction .maximumf [0] S256 s 0xFF800000#32 reduces_S256x256_S256 (.inl rfl) rfl) shapeCasts_S256_S1x256

/-- The largest score of each query among all keys. -/
def topAll (s0 s1 s2 s3 : FVec F S1024x256 .f32) (s4 : FVec F S256x256 .f32) : FVec F S1x256 .f32 :=
  maximumf (maximumf (maximumf (maximumf (top s0) (top s1)) (top s2)) (top s3)) (topC s4)

/-- The weights of 1024 keys, not yet normalised: two to the score less the largest. -/
def wt (s : FVec F S1024x256 .f32) (m : FVec F S1x256 .f32) : FVec F S1024x256 .f32 :=
  exp2 (subf s (broadcastTo S1024x256 m broadcasts_S1x256_S1024x256))

/-- The weights of the 256 context keys, not yet normalised. -/
def wtC (s : FVec F S256x256 .f32) (m : FVec F S1x256 .f32) : FVec F S256x256 .f32 :=
  exp2 (subf s (broadcastTo S256x256 m broadcasts_S1x256_S256x256))

/-- The sum of 1024 keys' weights, for each query. -/
def mass (p : FVec F S1024x256 .f32) : FVec F S1x256 .f32 :=
  shapeCast S1x256 (multiReduction .add [0] S256 p 0x00000000#32 reduces_S1024x256_S256 (.inl rfl) rfl) shapeCasts_S256_S1x256

/-- The sum of the context keys' weights, for each query. -/
def massC (p : FVec F S256x256 .f32) : FVec F S1x256 .f32 :=
  shapeCast S1x256 (multiReduction .add [0] S256 p 0x00000000#32 reduces_S256x256_S256 (.inl rfl) rfl) shapeCasts_S256_S1x256

/-- The values of 1024 keys, weighted and added up. -/
def mix (v : Vec F S64x1024 .bf16) (p : FVec F S1024x256 .f32) : FVec F S64x256 .f32 :=
  matmul dot_S64x1024_S1024x256_S64x256_1_0_0_1_n_n none v (truncf .bf16 p bitsLt_bf16_f32 : FVec F S1024x256 .bf16) (constant S64x256 .f32 0x00000000#32)

/-- The values of the context keys, weighted and added up. -/
def mixC (v : Vec F S64x256 .bf16) (p : FVec F S256x256 .f32) : FVec F S64x256 .f32 :=
  matmul dot_S64x256_S256x256_S64x256_1_0_0_1_n_n none v (truncf .bf16 p bitsLt_bf16_f32 : FVec F S256x256 .bf16) (constant S64x256 .f32 0x00000000#32)

/-- The unit from its scores and values: the weighted values over the weights' sum. -/
def soft (s0 s1 s2 s3 : FVec F S1024x256 .f32) (s4 : FVec F S256x256 .f32) (m : FVec F S1x256 .f32)
    (v0 v1 v2 v3 : Vec F S64x1024 .bf16) (v4 : Vec F S64x256 .bf16) : FVec F S64x256 .bf16 :=
  truncf .bf16 (divf
    (addf (addf (addf (addf (mix v0 (wt s0 m)) (mix v1 (wt s1 m))) (mix v2 (wt s2 m))) (mix v3 (wt s3 m))) (mixC v4 (wtC s4 m)))
    (broadcastTo S64x256 (addf (addf (addf (addf (mass (wt s0 m)) (mass (wt s1 m))) (mass (wt s2 m))) (mass (wt s3 m))) (massC (wtC s4 m)))
      broadcasts_S1x256_S64x256)) bitsLt_bf16_f32

/-- One unit of the attention: the scores of all keys, their largest, and the values weighted by them. -/
def unit (q : Vec F S256x128 .bf16) (k0 k1 k2 k3 : Vec F S1024x128 .bf16) (k4 : Vec F S256x128 .bf16)
    (v0 v1 v2 v3 : Vec F S64x1024 .bf16) (v4 : Vec F S64x256 .bf16) : FVec F S64x256 .bf16 :=
  soft (score k0 q) (score k1 q) (score k2 q) (score k3 q) (scoreC k4 q)
    (topAll (score k0 q) (score k1 q) (score k2 q) (score k3 q) (scoreC k4 q)) v0 v1 v2 v3 v4

theorem inbQ (h : Fin 4) (j : Fin 8) : ∀ a, (![j.val * 256, h.val * 128] : Fin 2 → Nat) a + S256x128.size a ≤ S2048x512.size a := by
  revert h j; decide +kernel
theorem inbK (h : Fin 4) (c : Fin 4) : ∀ a, (![c.val * 1024, h.val * 128] : Fin 2 → Nat) a + S1024x128.size a ≤ S4096x512.size a := by
  revert h c; decide +kernel
theorem inbKC (h : Fin 4) : ∀ a, (![0, h.val * 128] : Fin 2 → Nat) a + S256x128.size a ≤ S256x512.size a := by
  revert h; decide +kernel
theorem inbV (h : Fin 4) (c : Fin 4) : ∀ a, (![h.val * 64, c.val * 1024] : Fin 2 → Nat) a + S64x1024.size a ≤ S256x4096.size a := by
  revert h c; decide +kernel
theorem inbVC (h : Fin 4) : ∀ a, (![h.val * 64, 0] : Fin 2 → Nat) a + S64x256.size a ≤ S256x256.size a := by
  revert h; decide +kernel
theorem inbO (h : Fin 4) (j : Fin 8) : ∀ a, (![h.val * 64, j.val * 256] : Fin 2 → Nat) a + S64x256.size a ≤ S256x2048.size a := by
  revert h j; decide +kernel

variable (x0 : Vec F S2048x512 .bf16) (x1 : Vec F S4096x512 .bf16) (x2 : Vec F S256x512 .bf16) (x3 : Vec F S256x4096 .bf16) (x4 : Vec F S256x256 .bf16)

/-- The queries of head `h`, group `j`, out of the block of queries. -/
def ldQ (h : Fin 4) (j : Fin 8) : Vec F S256x128 .bf16 := View.ld x0 (Rect.unit (s := S2048x512) ![j.val * 256, h.val * 128] S256x128.size (inbQ h j))
/-- The keys of head `h`, chunk `c`. -/
def ldK (h : Fin 4) (c : Fin 4) : Vec F S1024x128 .bf16 := View.ld x1 (Rect.unit (s := S4096x512) ![c.val * 1024, h.val * 128] S1024x128.size (inbK h c))
/-- The context keys of head `h`. -/
def ldKC (h : Fin 4) : Vec F S256x128 .bf16 := View.ld x2 (Rect.unit (s := S256x512) ![0, h.val * 128] S256x128.size (inbKC h))
/-- The values of head `h`, chunk `c`. -/
def ldV (h : Fin 4) (c : Fin 4) : Vec F S64x1024 .bf16 := View.ld x3 (Rect.unit (s := S256x4096) ![h.val * 64, c.val * 1024] S64x1024.size (inbV h c))
/-- The context values of head `h`. -/
def ldVC (h : Fin 4) : Vec F S64x256 .bf16 := View.ld x4 (Rect.unit (s := S256x256) ![h.val * 64, 0] S64x256.size (inbVC h))

/-- The tile that head `h`, group `j` stores. -/
def tile (h : Fin 4) (j : Fin 8) : FVec F S64x256 .bf16 :=
  unit (ldQ x0 h j) (ldK x1 h 0) (ldK x1 h 1) (ldK x1 h 2) (ldK x1 h 3) (ldKC x2 h)
    (ldV x3 h 0) (ldV x3 h 1) (ldV x3 h 2) (ldV x3 h 3) (ldVC x4 h)

/-- The head of the `k`-th store, counted from the last: heads run fastest. -/
def hd (k : Fin 32) : Fin 4 := ⟨(31 - k.val) % 4, by omega⟩
/-- The query group of the `k`-th store, counted from the last. -/
def gr (k : Fin 32) : Fin 8 := ⟨(31 - k.val) / 4, by omega⟩
/-- Where in the output block the `k`-th store, counted from the last, puts its tile. -/
def place (k : Fin 32) : Fin 2 → Nat := ![(hd k).val * 64, (gr k).val * 256]

/-- The body's output block is the thirty-two tiles, each at its place. -/
theorem out_eq : out0_5 x0 x1 x2 x3 x4 = View.canon (List.ofFn fun k : Fin 32 =>
    (⟨Rect.unit (s := S256x2048) (place k) S64x256.size (inbO (hd k) (gr k)), tile x0 x1 x2 x3 x4 (hd k) (gr k)⟩ : View.Piece (Elt F) S256x2048 .bf16)) := rfl

end Cert.KernelIdeal.Attn

end
-- ==== Proof.Soft.lean ====
/-
  The mathematics of one softmax-weighted sum over the extended reals, with no program in sight.

  For finitely many real scores `s k` and any values `v k`, the weighted sum taken with powers of two and divided once at
  the end equals the sum weighted by the softmax of the scores times `log 2`, whose exponentials are powers of `e`.
-/
module

public import Idealize.ShloMosaic.PureOps.Ideal
public import Idealize.ShloMosaic.PureOps.Ideal.Laws

@[expose] public section

noncomputable section

namespace Cert.Soft

open Idealize.ShloMosaic

/-- A sum times a nonnegative real is the sum of the products, whatever the terms. -/
theorem sum_mul_real {κ : Type} (S : Finset κ) (f : κ → EReal) {c : ℝ} (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

/-- The sum of reals, taken over the extended reals. -/
theorem coe_sum {κ : Type} (S : Finset κ) (f : κ → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

variable {κ : Type} [Fintype κ]

/-- The weighted sum with powers of two, divided once: what the kernel computes. -/
def once (s v : κ → EReal) : EReal :=
  Ideal.div (∑ k, v k * Ideal.exp2 (s k - Finset.univ.sup s)) (∑ k, Ideal.exp2 (s k - Finset.univ.sup s))

/-- The sum weighted by the softmax of the scores `s`: each weight is divided before it is used. -/
def each (s v : κ → EReal) : EReal :=
  ∑ k, v k * Ideal.div (Ideal.exp (s k - Finset.univ.sup s)) (∑ k', Ideal.exp (s k' - Finset.univ.sup s))

/-- The largest of finitely many reals is one of them. -/
theorem sup_real [Nonempty κ] (a : κ → ℝ) : ∃ k0, (Finset.univ.sup fun k => (a k : EReal)) = (a k0 : EReal) ∧ ∀ k, a k ≤ a k0 := by
  obtain ⟨k0, -, h⟩ := Finset.exists_mem_eq_sup (Finset.univ : Finset κ) Finset.univ_nonempty fun k => (a k : EReal)
  refine ⟨k0, h, fun k => ?_⟩
  have := Finset.le_sup (f := fun k => (a k : EReal)) (Finset.mem_univ k)
  rw [h] at this
  exact_mod_cast this

/-- At real scores the two agree: a power of two is the exponential of `log 2` times the exponent, and a positive real
    divides a sum term by term. -/
theorem once_eq_each [Nonempty κ] (a : κ → ℝ) (v : κ → EReal) :
    once (fun k => (a k : EReal)) v = each (fun k => (a k : EReal) * (Real.log 2 : EReal)) v := by
  obtain ⟨k0, hsup, hle⟩ := sup_real a
  have hl : 0 < Real.log 2 := Real.log_pos (by norm_num)
  have hsup' : (Finset.univ.sup fun k => (a k : EReal) * (Real.log 2 : EReal)) = ((a k0 * Real.log 2 : ℝ) : EReal) := by
    apply le_antisymm
    · refine Finset.sup_le fun k _ => ?_
      rw [← EReal.coe_mul]
      exact_mod_cast mul_le_mul_of_nonneg_right (hle k) hl.le
    · rw [EReal.coe_mul]
      exact Finset.le_sup (f := fun k => (a k : EReal) * (Real.log 2 : EReal)) (Finset.mem_univ k0)
  have hw : ∀ k, Ideal.exp2 ((a k : EReal) - (a k0 : EReal)) = ((Real.exp ((a k - a k0) * Real.log 2) : ℝ) : EReal) := fun k => by
    rw [← EReal.coe_sub, Ideal.exp2_coe]
    congr 1
    show (2 : ℝ) ^ (a k - a k0) = _
    rw [Real.rpow_def_of_pos (by norm_num), mul_comm]
  have hw' : ∀ k, Ideal.exp ((a k : EReal) * (Real.log 2 : EReal) - ((a k0 * Real.log 2 : ℝ) : EReal)) = ((Real.exp ((a k - a k0) * Real.log 2) : ℝ) : EReal) := fun k => by
    rw [← EReal.coe_mul, ← EReal.coe_sub, Ideal.exp_coe, sub_mul]
  unfold once each
  rw [hsup, hsup']
  simp only [hw, hw']
  rw [coe_sum]
  have hpos : 0 < ∑ k, Real.exp ((a k - a k0) * Real.log 2) :=
    Finset.sum_pos (fun k _ => Real.exp_pos _) Finset.univ_nonempty
  rw [Ideal.div_coe hpos.ne', sum_mul_real _ _ (by positivity)]
  refine Finset.sum_congr rfl fun k _ => ?_
  rw [Ideal.div_coe hpos.ne', mul_assoc]

/-- A sum over 4352 keys in five parts: four of 1024 and one of 256. -/
theorem sum_parts (f : Fin 4352 → EReal) :
    ∑ k, f k = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩)
      + ∑ k : Fin 256, f ⟨4096 + k.val, by omega⟩ := by
  have h1 := Fin.sum_univ_add (a := 4096) (b := 256) f
  have h2 := Fin.sum_univ_add (a := 3072) (b := 1024) fun k => f (Fin.castAdd 256 k)
  have h3 := Fin.sum_univ_add (a := 2048) (b := 1024) fun k => f (Fin.castAdd 256 (Fin.castAdd 1024 k))
  have h4 := Fin.sum_univ_add (a := 1024) (b := 1024) fun k => f (Fin.castAdd 256 (Fin.castAdd 1024 (Fin.castAdd 1024 k)))
  rw [h2, h3, h4] at h1
  exact h1

/-- A maximum over 4352 keys in five parts. -/
theorem sup_parts (f : Fin 4352 → EReal) :
    Finset.univ.sup f = max (max (max (max (Finset.univ.sup fun k : Fin 1024 => f ⟨k.val, by omega⟩) (Finset.univ.sup fun k : Fin 1024 => f ⟨1024 + k.val, by omega⟩))
      (Finset.univ.sup fun k : Fin 1024 => f ⟨2048 + k.val, by omega⟩)) (Finset.univ.sup fun k : Fin 1024 => f ⟨3072 + k.val, by omega⟩))
      (Finset.univ.sup fun k : Fin 256 => f ⟨4096 + k.val, by omega⟩) := by
  apply le_antisymm
  · refine Finset.sup_le fun k _ => ?_
    simp only [le_max_iff]
    by_cases h1 : k.val < 1024
    · exact .inl (.inl (.inl (.inl (Finset.le_sup (f := fun k : Fin 1024 => f ⟨k.val, by omega⟩) (Finset.mem_univ ⟨k.val, h1⟩)))))
    by_cases h2 : k.val < 2048
    · refine .inl (.inl (.inl (.inr ?_)))
      convert Finset.le_sup (f := fun k : Fin 1024 => f ⟨1024 + k.val, by omega⟩) (Finset.mem_univ ⟨k.val - 1024, by omega⟩) using 2
      apply Fin.ext; dsimp only; omega
    by_cases h3 : k.val < 3072
    · refine .inl (.inl (.inr ?_))
      convert Finset.le_sup (f := fun k : Fin 1024 => f ⟨2048 + k.val, by omega⟩) (Finset.mem_univ ⟨k.val - 2048, by omega⟩) using 2
      apply Fin.ext; dsimp only; omega
    by_cases h4 : k.val < 4096
    · refine .inl (.inr ?_)
      convert Finset.le_sup (f := fun k : Fin 1024 => f ⟨3072 + k.val, by omega⟩) (Finset.mem_univ ⟨k.val - 3072, by omega⟩) using 2
      apply Fin.ext; dsimp only; omega
    · refine .inr ?_
      convert Finset.le_sup (f := fun k : Fin 256 => f ⟨4096 + k.val, by omega⟩) (Finset.mem_univ ⟨k.val - 4096, by omega⟩) using 2
      apply Fin.ext; dsimp only; omega
  · simp only [max_le_iff]
    refine ⟨⟨⟨⟨?_, ?_⟩, ?_⟩, ?_⟩, ?_⟩ <;> exact Finset.sup_le fun k _ => Finset.le_sup (Finset.mem_univ _)

end Cert.Soft

end
-- ==== Proof.AttnSpec.lean ====
/-
  The latent attention as one formula: at batch element `b`, head `n`, query `i` and value column `d`, the values of the
  4352 keys (4096 latent, then 256 context) weighted by the scores of the keys against the query.
-/
module

public import proofs.«01_k».proof.Proof.Soft
public import Idealize.ShloMosaic.Lib.Pointwise

@[expose] public section

noncomputable section

namespace Cert.AttnSpec

open Idealize.ShloMosaic

/-- The shapes of the arguments and of the result. -/
abbrev SQ : Shape := ⟨2, ![32768, 2048]⟩
abbrev SC : Shape := ⟨2, ![2048, 2048]⟩
abbrev SV : Shape := ⟨2, ![1024, 32768]⟩
abbrev SVC : Shape := ⟨2, ![1024, 2048]⟩

variable (q kl : SQ.Idx → EReal) (kc : SC.Idx → EReal) (vl : SV.Idx → EReal) (vc : SVC.Idx → EReal)

/-- Coordinate `e` of key `k` of head `n`: the latent keys first, then the context keys. -/
def key (b : Fin 8) (n : Fin 16) (k : Fin 4352) (e : Fin 128) : EReal :=
  if h : k.val < 4096 then kl (ix2 ⟨b.val * 4096 + k.val, by omega⟩ ⟨n.val * 128 + e.val, by omega⟩)
  else kc (ix2 ⟨b.val * 256 + (k.val - 4096), by omega⟩ ⟨n.val * 128 + e.val, by omega⟩)

/-- The score of key `k` against query `i`: their inner product. -/
def score (b : Fin 8) (n : Fin 16) (i : Fin 4096) (k : Fin 4352) : EReal :=
  ∑ e : Fin 128, key kl kc b n k e * q (ix2 ⟨b.val * 4096 + i.val, by omega⟩ ⟨n.val * 128 + e.val, by omega⟩)

/-- Column `d` of the value of key `k`. -/
def value (b : Fin 8) (n : Fin 16) (d : Fin 64) (k : Fin 4352) : EReal :=
  if h : k.val < 4096 then vl (ix2 ⟨n.val * 64 + d.val, by omega⟩ ⟨b.val * 4096 + k.val, by omega⟩)
  else vc (ix2 ⟨n.val * 64 + d.val, by omega⟩ ⟨b.val * 256 + (k.val - 4096), by omega⟩)

/-- The attention with powers of two and one division, at head and column `y 0`, batch element and query `y 1`. -/
def attn (y : SV.Idx) : EReal :=
  Soft.once (score q kl kc ⟨(y 1).val / 4096, by have : (y 1).val < 32768 := (y 1).isLt; omega⟩ ⟨(y 0).val / 64, by have : (y 0).val < 1024 := (y 0).isLt; omega⟩ ⟨(y 1).val % 4096, by omega⟩)
    (value vl vc ⟨(y 1).val / 4096, by have : (y 1).val < 32768 := (y 1).isLt; omega⟩ ⟨(y 0).val / 64, by have : (y 0).val < 1024 := (y 0).isLt; omega⟩ ⟨(y 0).val % 64, by omega⟩)

end Cert.AttnSpec

end
-- ==== Proof.AttnRead.lean ====
/-
  What one unit of the attention computes over the extended reals: the weighted sum `Soft.once` of its keys' scores and
  values, the 4352 keys taken as four chunks of 1024 and one of 256.
-/
module

public import proofs.«01_k».proof.Proof.AttnUnit
public import proofs.«01_k».proof.Proof.AttnSpec

@[expose] public section

set_option maxRecDepth 16384

noncomputable section

namespace Cert.KernelIdeal.Attn

open Cert.KernelIdeal Cert.KernelIdeal.Gen Idealize.ShloMosaic Idealize.ShloMosaic.TcCoe Idealize.SL.Sem

/-- The pattern the maximum starts from denotes minus infinity. -/
theorem ofBits_negInf : Ideal.ofBits .f32 0xFF800000#32 = ⊥ := by
  show Ideal.ieee 8 23 (0xFF800000#32) = ⊥
  unfold Ideal.ieee
  rw [if_pos (by decide), if_pos (by decide)]
  rfl

theorem fold_max {n : Nat} (f : Fin n → EReal) : Finset.fold max (Ideal.ofBits .f32 4286578688#32) f Finset.univ = Finset.univ.sup f := by
  rw [show Ideal.ofBits .f32 4286578688#32 = ⊥ from ofBits_negInf]; rfl

theorem score_apply (k : Vec Ideal S1024x128 .bf16) (q : Vec Ideal S256x128 .bf16) (r : Fin 1024) (t : Fin 256) :
    score (F := Ideal) k q (ix2 r t) = ∑ e : Fin 128, k (ix2 r e) * q (ix2 t e) := by
  pointwise [score]
theorem scoreC_apply (k : Vec Ideal S256x128 .bf16) (q : Vec Ideal S256x128 .bf16) (r t : Fin 256) :
    scoreC (F := Ideal) k q (ix2 r t) = ∑ e : Fin 128, k (ix2 r e) * q (ix2 t e) := by
  pointwise [scoreC]
theorem top_apply (s : FVec Ideal S1024x256 .f32) (t : Fin 256) :
    top (F := Ideal) s (ix2 0 t) = Finset.univ.sup fun r : Fin 1024 => s (ix2 r t) := by
  pointwise [top]; exact fold_max _
theorem topC_apply (s : FVec Ideal S256x256 .f32) (t : Fin 256) :
    topC (F := Ideal) s (ix2 0 t) = Finset.univ.sup fun r : Fin 256 => s (ix2 r t) := by
  pointwise [topC]; exact fold_max _
theorem wt_apply (s : FVec Ideal S1024x256 .f32) (m : FVec Ideal S1x256 .f32) (r : Fin 1024) (t : Fin 256) :
    wt (F := Ideal) s m (ix2 r t) = Ideal.exp2 (s (ix2 r t) - m (ix2 0 t)) := by
  pointwise [wt]; rfl
theorem wtC_apply (s : FVec Ideal S256x256 .f32) (m : FVec Ideal S1x256 .f32) (r t : Fin 256) :
    wtC (F := Ideal) s m (ix2 r t) = Ideal.exp2 (s (ix2 r t) - m (ix2 0 t)) := by
  pointwise [wtC]; rfl
theorem mass_apply (p : FVec Ideal S1024x256 .f32) (t : Fin 256) :
    mass (F := Ideal) p (ix2 0 t) = ∑ r : Fin 1024, p (ix2 r t) := by
  pointwise [mass]
theorem massC_apply (p : FVec Ideal S256x256 .f32) (t : Fin 256) :
    massC (F := Ideal) p (ix2 0 t) = ∑ r : Fin 256, p (ix2 r t) := by
  pointwise [massC]
theorem mix_apply (v : Vec Ideal S64x1024 .bf16) (p : FVec Ideal S1024x256 .f32) (d : Fin 64) (t : Fin 256) :
    mix (F := Ideal) v p (ix2 d t) = ∑ r : Fin 1024, v (ix2 d r) * p (ix2 r t) := by
  pointwise [mix]
theorem mixC_apply (v : Vec Ideal S64x256 .bf16) (p : FVec Ideal S256x256 .f32) (d : Fin 64) (t : Fin 256) :
    mixC (F := Ideal) v p (ix2 d t) = ∑ r : Fin 256, v (ix2 d r) * p (ix2 r t) := by
  pointwise [mixC]

theorem soft_apply (s0 s1 s2 s3 : FVec Ideal S1024x256 .f32) (s4 : FVec Ideal S256x256 .f32) (m : FVec Ideal S1x256 .f32)
    (v0 v1 v2 v3 : Vec Ideal S64x1024 .bf16) (v4 : Vec Ideal S64x256 .bf16) (d : Fin 64) (t : Fin 256) :
    soft (F := Ideal) s0 s1 s2 s3 s4 m v0 v1 v2 v3 v4 (ix2 d t) = Ideal.div
      (mix v0 (wt s0 m) (ix2 d t) + mix v1 (wt s1 m) (ix2 d t) + mix v2 (wt s2 m) (ix2 d t) + mix v3 (wt s3 m) (ix2 d t) + mixC v4 (wtC s4 m) (ix2 d t))
      (mass (wt s0 m) (ix2 0 t) + mass (wt s1 m) (ix2 0 t) + mass (wt s2 m) (ix2 0 t) + mass (wt s3 m) (ix2 0 t) + massC (wtC s4 m) (ix2 0 t)) := by
  pointwise [soft]

theorem topAll_apply (s0 s1 s2 s3 : FVec Ideal S1024x256 .f32) (s4 : FVec Ideal S256x256 .f32) (t : Fin 256) :
    topAll (F := Ideal) s0 s1 s2 s3 s4 (ix2 0 t) = max (max (max (max (top s0 (ix2 0 t)) (top s1 (ix2 0 t))) (top s2 (ix2 0 t))) (top s3 (ix2 0 t))) (topC s4 (ix2 0 t)) := by
  pointwise [topAll]

/-- A unit whose five score blocks are the parts of `s` and whose five value blocks are the parts of `w` computes
    `Soft.once s w` at each query and column. -/
theorem unit_apply (q : Vec Ideal S256x128 .bf16) (k0 k1 k2 k3 : Vec Ideal S1024x128 .bf16) (k4 : Vec Ideal S256x128 .bf16)
    (v0 v1 v2 v3 : Vec Ideal S64x1024 .bf16) (v4 : Vec Ideal S64x256 .bf16) (d : Fin 64) (t : Fin 256) (s w : Fin 4352 → EReal)
    (h0 : ∀ r : Fin 1024, ∑ e : Fin 128, k0 (ix2 r e) * q (ix2 t e) = s ⟨r.val, by omega⟩)
    (h1 : ∀ r : Fin 1024, ∑ e : Fin 128, k1 (ix2 r e) * q (ix2 t e) = s ⟨1024 + r.val, by omega⟩)
    (h2 : ∀ r : Fin 1024, ∑ e : Fin 128, k2 (ix2 r e) * q (ix2 t e) = s ⟨2048 + r.val, by omega⟩)
    (h3 : ∀ r : Fin 1024, ∑ e : Fin 128, k3 (ix2 r e) * q (ix2 t e) = s ⟨3072 + r.val, by omega⟩)
    (h4 : ∀ r : Fin 256, ∑ e : Fin 128, k4 (ix2 r e) * q (ix2 t e) = s ⟨4096 + r.val, by omega⟩)
    (g0 : ∀ r : Fin 1024, v0 (ix2 d r) = w ⟨r.val, by omega⟩)
    (g1 : ∀ r : Fin 1024, v1 (ix2 d r) = w ⟨1024 + r.val, by omega⟩)
    (g2 : ∀ r : Fin 1024, v2 (ix2 d r) = w ⟨2048 + r.val, by omega⟩)
    (g3 : ∀ r : Fin 1024, v3 (ix2 d r) = w ⟨3072 + r.val, by omega⟩)
    (g4 : ∀ r : Fin 256, v4 (ix2 d r) = w ⟨4096 + r.val, by omega⟩) :
    unit (F := Ideal) q k0 k1 k2 k3 k4 v0 v1 v2 v3 v4 (ix2 d t) = Soft.once s w := by
  unfold unit
  rw [soft_apply]
  simp only [mix_apply, mixC_apply, mass_apply, massC_apply, wt_apply, wtC_apply, topAll_apply, top_apply, topC_apply,
    score_apply, scoreC_apply, h0, h1, h2, h3, h4, g0, g1, g2, g3, g4]
  rw [← Soft.sup_parts s, ← Soft.sum_parts fun k => w k * Ideal.exp2 (s k - Finset.univ.sup s),
    ← Soft.sum_parts fun k => Ideal.exp2 (s k - Finset.univ.sup s)]
  rfl

end Cert.KernelIdeal.Attn

end
-- ==== Proof.AttnBlock.lean ====
/-
  The output block of one grid point: if its five input blocks are the queries, keys and values of batch element `b` and
  head group `g`, its element at column `y 0` and query `y 1` is the attention of that head, column and query.
-/
module

public import proofs.«01_k».proof.Proof.AttnRead
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Cert.AttnSpec (SQ SC SV SVC)

variable (q kl : SQ.Idx → EReal) (kc : SC.Idx → EReal) (vl : SV.Idx → EReal) (vc : SVC.Idx → EReal)
variable (x0 : Vec Ideal S2048x512 .bf16) (x1 : Vec Ideal S4096x512 .bf16) (x2 : Vec Ideal S256x512 .bf16)
  (x3 : Vec Ideal S256x4096 .bf16) (x4 : Vec Ideal S256x256 .bf16)
variable (b : Fin 8) (g : Fin 4) (u : Fin 2)

theorem ldQ_apply (h : Fin 4) (j : Fin 8) (t : Fin 256) (e : Fin 128) :
    ldQ x0 h j (ix2 t e) = x0 (ix2 ⟨j.val * 256 + t.val, by omega⟩ ⟨h.val * 128 + e.val, by omega⟩) := by
  pointwise [ldQ]
theorem ldK_apply (h c : Fin 4) (r : Fin 1024) (e : Fin 128) :
    ldK x1 h c (ix2 r e) = x1 (ix2 ⟨c.val * 1024 + r.val, by omega⟩ ⟨h.val * 128 + e.val, by omega⟩) := by
  pointwise [ldK]
theorem ldKC_apply (h : Fin 4) (r : Fin 256) (e : Fin 128) :
    ldKC x2 h (ix2 r e) = x2 (ix2 r ⟨h.val * 128 + e.val, by omega⟩) := by
  pointwise [ldKC]
theorem ldV_apply (h c : Fin 4) (d : Fin 64) (r : Fin 1024) :
    ldV x3 h c (ix2 d r) = x3 (ix2 ⟨h.val * 64 + d.val, by omega⟩ ⟨c.val * 1024 + r.val, by omega⟩) := by
  pointwise [ldV]
theorem ldVC_apply (h : Fin 4) (d : Fin 64) (r : Fin 256) :
    ldVC x4 h (ix2 d r) = x4 (ix2 ⟨h.val * 64 + d.val, by omega⟩ r) := by
  pointwise [ldVC]

/-- The five blocks of a grid point are the parts of the arrays that belong to batch element `b`, head group `g` and half
    `u` of the queries. -/
structure Blocks : Prop where
  hq : ∀ (p : Fin 2048) (e : Fin 512), x0 (ix2 p e) = q (ix2 ⟨b.val * 4096 + u.val * 2048 + p.val, by omega⟩ ⟨g.val * 512 + e.val, by omega⟩)
  hk : ∀ (p : Fin 4096) (e : Fin 512), x1 (ix2 p e) = kl (ix2 ⟨b.val * 4096 + p.val, by omega⟩ ⟨g.val * 512 + e.val, by omega⟩)
  hc : ∀ (p : Fin 256) (e : Fin 512), x2 (ix2 p e) = kc (ix2 ⟨b.val * 256 + p.val, by omega⟩ ⟨g.val * 512 + e.val, by omega⟩)
  hv : ∀ (d : Fin 256) (p : Fin 4096), x3 (ix2 d p) = vl (ix2 ⟨g.val * 256 + d.val, by omega⟩ ⟨b.val * 4096 + p.val, by omega⟩)
  hw : ∀ (d : Fin 256) (p : Fin 256), x4 (ix2 d p) = vc (ix2 ⟨g.val * 256 + d.val, by omega⟩ ⟨b.val * 256 + p.val, by omega⟩)

variable {q kl kc vl vc x0 x1 x2 x3 x4 b g u}

theorem congr_ix {n k : Nat} {x : (⟨2, ![n, k]⟩ : Shape).Idx → EReal} {a a' : Fin n} {e e' : Fin k} (h : a.val = a'.val) (h' : e.val = e'.val) :
    x (ix2 a e) = x (ix2 a' e') := by
  rw [Fin.ext h, Fin.ext h']

theorem score_chunk (H : Blocks q kl kc vl vc x0 x1 x2 x3 x4 b g u) (h c : Fin 4) (j : Fin 8) (t : Fin 256) (r : Fin 1024) (k : Fin 4352)
    (hk : k.val = c.val * 1024 + r.val) :
    ∑ e : Fin 128, ldK x1 h c (ix2 r e) * ldQ x0 h j (ix2 t e)
      = AttnSpec.score q kl kc b ⟨g.val * 4 + h.val, by omega⟩ ⟨u.val * 2048 + j.val * 256 + t.val, by omega⟩ k := by
  refine Finset.sum_congr rfl fun e _ => ?_
  rw [ldK_apply, ldQ_apply, H.hk, H.hq, AttnSpec.key, dif_pos (by omega)]
  exact congrArg₂ _ (congr_ix (by show _ = b.val * 4096 + k.val; simp only []; omega) (by simp only []; omega)) (congr_ix (by simp only []; omega) (by simp only []; omega))

theorem score_context (H : Blocks q kl kc vl vc x0 x1 x2 x3 x4 b g u) (h : Fin 4) (j : Fin 8) (t : Fin 256) (r : Fin 256) (k : Fin 4352)
    (hk : k.val = 4096 + r.val) :
    ∑ e : Fin 128, ldKC x2 h (ix2 r e) * ldQ x0 h j (ix2 t e)
      = AttnSpec.score q kl kc b ⟨g.val * 4 + h.val, by omega⟩ ⟨u.val * 2048 + j.val * 256 + t.val, by omega⟩ k := by
  refine Finset.sum_congr rfl fun e _ => ?_
  rw [ldKC_apply, ldQ_apply, H.hc, H.hq, AttnSpec.key, dif_neg (by omega)]
  exact congrArg₂ _ (congr_ix (by simp only []; omega) (by simp only []; omega)) (congr_ix (by simp only []; omega) (by simp only []; omega))

theorem value_chunk (H : Blocks q kl kc vl vc x0 x1 x2 x3 x4 b g u) (h c : Fin 4) (d : Fin 64) (r : Fin 1024) (k : Fin 4352)
    (hk : k.val = c.val * 1024 + r.val) :
    ldV x3 h c (ix2 d r) = AttnSpec.value vl vc b ⟨g.val * 4 + h.val, by omega⟩ d k := by
  rw [ldV_apply, H.hv, AttnSpec.value, dif_pos (by omega)]
  exact congr_ix (by simp only []; omega) (by simp only []; omega)

theorem value_context (H : Blocks q kl kc vl vc x0 x1 x2 x3 x4 b g u) (h : Fin 4) (d : Fin 64) (r : Fin 256) (k : Fin 4352)
    (hk : k.val = 4096 + r.val) :
    ldVC x4 h (ix2 d r) = AttnSpec.value vl vc b ⟨g.val * 4 + h.val, by omega⟩ d k := by
  rw [ldVC_apply, H.hw, AttnSpec.value, dif_neg (by omega)]
  exact congr_ix (by simp only []; omega) (by simp only []; omega)

/-- The tile of head `h` and query group `j`, at column `d` and query `t`. -/
theorem tile_apply (H : Blocks q kl kc vl vc x0 x1 x2 x3 x4 b g u) (h : Fin 4) (j : Fin 8) (d : Fin 64) (t : Fin 256) :
    tile x0 x1 x2 x3 x4 h j (ix2 d t)
      = Soft.once (AttnSpec.score q kl kc b ⟨g.val * 4 + h.val, by omega⟩ ⟨u.val * 2048 + j.val * 256 + t.val, by omega⟩)
          (AttnSpec.value vl vc b ⟨g.val * 4 + h.val, by omega⟩ d) :=
  unit_apply _ _ _ _ _ _ _ _ _ _ _ d t _ _
    (fun r => score_chunk H h 0 j t r _ (by show r.val = 0 * 1024 + r.val; omega)) (fun r => score_chunk H h 1 j t r _ (by rfl))
    (fun r => score_chunk H h 2 j t r _ (by rfl)) (fun r => score_chunk H h 3 j t r _ (by rfl)) (fun r => score_context H h j t r _ rfl)
    (fun r => value_chunk H h 0 d r _ (by show r.val = 0 * 1024 + r.val; omega)) (fun r => value_chunk H h 1 d r _ (by rfl))
    (fun r => value_chunk H h 2 d r _ (by rfl)) (fun r => value_chunk H h 3 d r _ (by rfl)) (fun r => value_context H h d r _ rfl)

theorem once_congr {b b' : Fin 8} {n n' : Fin 16} {i i' : Fin 4096} {d d' : Fin 64} (hb : b.val = b'.val) (hn : n.val = n'.val)
    (hi : i.val = i'.val) (hd : d.val = d'.val) :
    Soft.once (AttnSpec.score q kl kc b n i) (AttnSpec.value vl vc b n d) = Soft.once (AttnSpec.score q kl kc b' n' i') (AttnSpec.value vl vc b' n' d') := by
  rw [Fin.ext hb, Fin.ext hn, Fin.ext hi, Fin.ext hd]

/-- The output block at column `y 0` and query `y 1`. -/
theorem out_apply (H : Blocks q kl kc vl vc x0 x1 x2 x3 x4 b g u) (y : S256x2048.Idx) :
    out0_5 x0 x1 x2 x3 x4 y = AttnSpec.attn q kl kc vl vc
      (ix2 ⟨g.val * 256 + (y 0).val, by have : (y 0).val < 256 := (y 0).isLt; omega⟩
        ⟨b.val * 4096 + u.val * 2048 + (y 1).val, by have : (y 1).val < 2048 := (y 1).isLt; omega⟩) := by
  have h0 : (y 0).val < 256 := (y 0).isLt
  have h1 : (y 1).val < 2048 := (y 1).isLt
  rw [out_eq]
  refine View.canon_ofFn_unit_eq_of_forall (S := S256x2048) (Val := Elt Ideal) (e := .bf16) place S64x256.size (fun k => inbO (hd k) (gr k)) (fun k => tile x0 x1 x2 x3 x4 (hd k) (gr k)) y _ ?_ ?_
  · refine ⟨⟨31 - ((y 1).val / 256 * 4 + (y 0).val / 64), by omega⟩, fun a => ?_⟩
    match a with
    | ⟨0, _⟩ => show (31 - (31 - ((y 1).val / 256 * 4 + (y 0).val / 64))) % 4 * 64 ≤ (y 0).val ∧ (y 0).val < (31 - (31 - ((y 1).val / 256 * 4 + (y 0).val / 64))) % 4 * 64 + 64; omega
    | ⟨1, _⟩ => show (31 - (31 - ((y 1).val / 256 * 4 + (y 0).val / 64))) / 4 * 256 ≤ (y 1).val ∧ (y 1).val < (31 - (31 - ((y 1).val / 256 * 4 + (y 0).val / 64))) / 4 * 256 + 256; omega
  · intro k x hx
    have e0 : (y 0).val = (hd k).val * 64 + (x 0).val := hx 0
    have e1 : (y 1).val = (gr k).val * 256 + (x 1).val := hx 1
    obtain ⟨d, t, rfl⟩ : ∃ (d : Fin 64) (t : Fin 256), x = ix2 d t := ⟨x 0, x 1, by funext a; match a with | ⟨0, _⟩ => rfl | ⟨1, _⟩ => rfl⟩
    replace e0 : (y 0).val = (hd k).val * 64 + d.val := e0
    replace e1 : (y 1).val = (gr k).val * 256 + t.val := e1
    have := (hd k).isLt
    have := (gr k).isLt
    rw [tile_apply H]
    refine once_congr ?_ ?_ ?_ ?_
    · show b.val = (b.val * 4096 + u.val * 2048 + (y 1).val) / 4096; omega
    · show g.val * 4 + (hd k).val = (g.val * 256 + (y 0).val) / 64; omega
    · show u.val * 2048 + (gr k).val * 256 + t.val = (b.val * 4096 + u.val * 2048 + (y 1).val) % 4096; omega
    · show d.val = (g.val * 256 + (y 0).val) % 64; omega

end Cert.KernelIdeal.Attn

end
-- ==== Proof.AttnArray.lean ====
/-
  The array the attention kernel leaves: `AttnSpec.attn` of its arguments, at every index.
-/
module

public import proofs.«01_k».proof.Proof.AttnBlock
public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- Which blocks grid point `t` reads and writes: batch element `t / 8`, head group `t / 2 % 4`, half `t % 2`. -/
theorem idx0 : ∀ t : Fin cfg0.N, win0_0.index t = ![t.val / 8 * 2 + t.val % 2, t.val / 2 % 4] :=
  (by decide +kernel : ∀ t : Fin grid0.N, win0_0.index t = ![t.val / 8 * 2 + t.val % 2, t.val / 2 % 4])
theorem idx1 : ∀ t : Fin cfg0.N, win0_1.index t = ![t.val / 8, t.val / 2 % 4] :=
  (by decide +kernel : ∀ t : Fin grid0.N, win0_1.index t = ![t.val / 8, t.val / 2 % 4])
theorem idx2 : ∀ t : Fin cfg0.N, win0_2.index t = ![t.val / 8, t.val / 2 % 4] :=
  (by decide +kernel : ∀ t : Fin grid0.N, win0_2.index t = ![t.val / 8, t.val / 2 % 4])
theorem idx3 : ∀ t : Fin cfg0.N, win0_3.index t = ![t.val / 2 % 4, t.val / 8] :=
  (by decide +kernel : ∀ t : Fin grid0.N, win0_3.index t = ![t.val / 2 % 4, t.val / 8])
theorem idx4 : ∀ t : Fin cfg0.N, win0_4.index t = ![t.val / 2 % 4, t.val / 8] :=
  (by decide +kernel : ∀ t : Fin grid0.N, win0_4.index t = ![t.val / 2 % 4, t.val / 8])
theorem idx5 : ∀ t : Fin cfg0.N, win0_5.index t = ![t.val / 2 % 4, t.val / 8 * 2 + t.val % 2] :=
  (by decide +kernel : ∀ t : Fin grid0.N, win0_5.index t = ![t.val / 2 % 4, t.val / 8 * 2 + t.val % 2])

variable (m : (ℓ : Loc nD τ sig) → Buf (Elt Ideal) ℓ) (c : Dev nD)

/-- The blocks of grid point `t`, out of the argument arrays. -/
theorem blocks (t : Fin cfg0.N) (ht : t.val < 64) :
    Blocks (m ((c : Thread nD τ).loc main_arg0)) (m ((c : Thread nD τ).loc main_arg1)) (m ((c : Thread nD τ).loc main_arg2))
      (m ((c : Thread nD τ).loc main_arg3)) (m ((c : Thread nD τ).loc main_arg4))
      (iblk m c 0 t) (iblk m c 1 t) (iblk m c 2 t) (iblk m c 3 t) (iblk m c 4 t)
      ⟨t.val / 8, by omega⟩ ⟨t.val / 2 % 4, by omega⟩ ⟨t.val % 2, by omega⟩ where
  hq p e := by blk_ext [iblk, V, idx0 t]
  hk p e := by blk_ext [iblk, V, idx1 t]
  hc p e := by blk_ext [iblk, V, idx2 t]
  hv d p := by blk_ext [iblk, V, idx3 t]
  hw d p := by blk_ext [iblk, V, idx4 t]

/-- The final array of the kernel's output window. -/
theorem final :
    (dats m 0 c).arrAt 5 cfg0.N = AttnSpec.attn (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 64 := t.isLt
  blk_simp
  rw [after0_5]
  refine (out_apply (blocks m c t ht) _).trans ?_
  refine congrArg _ ?_
  blk_ext [idx5 t]

end Cert.KernelIdeal.Attn

end
-- ==== Proof.AttnReference.lean ====
/-
  The reference program's result at an index: the values weighted by the normalised exponentials of the scores.
-/
module

public import proofs.«01_k».proof.Proof.AttnSpec
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.StableHlo

variable (x0 x1 : (⟨S32768x2048, .bf16⟩ : BufTy).Contents (Elt Ideal)) (x2 : (⟨S2048x2048, .bf16⟩ : BufTy).Contents (Elt Ideal))
  (x3 : (⟨S1024x32768, .bf16⟩ : BufTy).Contents (Elt Ideal)) (x4 : (⟨S1024x2048, .bf16⟩ : BufTy).Contents (Elt Ideal))

/-- The pattern the maximum starts from denotes minus infinity. -/
theorem ofBits_negInf : Ideal.ofBits .f32 0xFF800000#32 = ⊥ := by
  show Ideal.ieee 8 23 (0xFF800000#32) = ⊥
  unfold Ideal.ieee
  rw [if_pos (by decide), if_pos (by decide)]
  rfl

theorem log_two : Ideal.log (Ideal.ofBits .f32 1073741824#32) = (Real.log 2 : ℝ) := by
  have h : Ideal.ofBits .f32 1073741824#32 = ((2 : ℝ) : EReal) := by
    simp [Ideal.ofBits, Ideal.ieee]
    rw [← EReal.coe_mul]
    norm_num
  rw [h, Ideal.log_coe, if_neg (by norm_num)]

/-- A maximum over the last of four axes, started from minus infinity, at an index. -/
theorem reduceMax_at {p q r k : Nat} {u : Shape} (y : FVec Ideal ⟨4, ![p, q, r, k]⟩ .f32) (z : FVec Ideal u .f32)
    (h : (⟨4, ![p, q, r, k]⟩ : Shape).ReducesTo [3] ⟨3, ![p, q, r]⟩) (hu : 0 < u.numel) (hz : z (Shape.Idx.first hu) = ⊥)
    (a : Fin p) (b : Fin q) (c : Fin r) :
    Host.reduce FloatOps.maximumf y z h hu (ix3 a b c) = Finset.univ.sup fun e : Fin k => y (ix4 a b c e) := by
  rw [Host.reduce_eq_fold, Shape.ReducesTo.fold_fiber_r4_a3, hz]
  rfl

theorem v1_at (b : Fin 8) (i : Fin 4096) (n : Fin 16) (e : Fin 128) :
    val_main_v1 (F := Ideal) x0 (ix4 b i n e) = x0 (ix2 ⟨b.val * 4096 + i.val, by omega⟩ ⟨n.val * 128 + e.val, by omega⟩) := by
  pointwise [val_main_v1, val_main_v0]
theorem v6_at (b : Fin 8) (k : Fin 4352) (n : Fin 16) (e : Fin 128) :
    val_main_v6 (F := Ideal) x1 x2 (ix4 b k n e) = AttnSpec.key x1 x2 b n k e := by
  unfold AttnSpec.key
  pointwise [val_main_v6, val_main_v3, val_main_v2, val_main_v5, val_main_v4]
theorem v11_at (n : Fin 16) (d : Fin 64) (b : Fin 8) (k : Fin 4352) :
    val_main_v11 (F := Ideal) x3 x4 (ix4 n d b k) = AttnSpec.value x3 x4 b n d k := by
  unfold AttnSpec.value
  pointwise [val_main_v11, val_main_v8, val_main_v7, val_main_v10, val_main_v9]
theorem v12_at (b : Fin 8) (n : Fin 16) (i : Fin 4096) (k : Fin 4352) :
    val_main_v12 (F := Ideal) x0 x1 x2 (ix4 b n i k) = AttnSpec.score x0 x1 x2 b n i k := by
  unfold val_main_v12
  generalize h1 : val_main_v1 x0 = y1
  generalize h2 : val_main_v6 x1 x2 = y2
  pointwise []
  subst h1 h2
  refine Finset.sum_congr rfl fun e _ => ?_
  rw [v1_at, v6_at, mul_comm]
theorem v15_at (b : Fin 8) (n : Fin 16) (i : Fin 4096) (k : Fin 4352) :
    val_main_v15 (F := Ideal) x0 x1 x2 (ix4 b n i k) = AttnSpec.score x0 x1 x2 b n i k * (Real.log 2 : ℝ) := by
  rw [← v12_at]
  unfold val_main_v15
  generalize h1 : val_main_v12 x0 x1 x2 = y1
  pointwise [val_main_v14, val_main_v13, val_main_cst]
  rw [log_two]
theorem cst_0_at (i : S_.Idx) : val_main_cst_0 (F := Ideal) i = ⊥ := by
  rw [val_main_cst_0_apply]
  exact ofBits_negInf
theorem reduce_at (b : Fin 8) (n : Fin 16) (i : Fin 4096) (y : FVec Ideal S8x16x4096x4352 .f32) :
    Host.reduce FloatOps.maximumf y (val_main_cst_0 (F := Ideal)) reducesTo_S8x16x4096x4352_S8x16x4096_d3 h_S_ (ix3 b n i)
      = Finset.univ.sup fun k => y (ix4 b n i k) :=
  reduceMax_at y _ _ _ (cst_0_at _) b n i
theorem v16_at (b : Fin 8) (n : Fin 16) (i : Fin 4096) :
    val_main_v16 (F := Ideal) x0 x1 x2 (ix3 b n i) = Finset.univ.sup fun k => AttnSpec.score x0 x1 x2 b n i k * (Real.log 2 : ℝ) :=
  (reduce_at b n i _).trans (congrArg _ (funext fun k => v15_at x0 x1 x2 b n i k))
theorem max_bot (a b : EReal) (h : a = ⊥) : FloatOps.maximumf (F := Ideal) (φ := .f32) a b = b := by
  rw [h]
  exact max_eq_right bot_le
theorem v17_at (i : S8x16x4096.Idx) : val_main_v17 (F := Ideal) i = ⊥ := by
  rw [val_main_v17_apply, val_main_cst_1_apply]
  exact ofBits_negInf
theorem v18_at (b : Fin 8) (n : Fin 16) (i : Fin 4096) :
    val_main_v18 (F := Ideal) x0 x1 x2 (ix3 b n i) = Finset.univ.sup fun k => AttnSpec.score x0 x1 x2 b n i k * (Real.log 2 : ℝ) := by
  rw [val_main_v18_apply, ← v16_at]
  exact max_bot _ _ (v17_at _)
theorem v22_at (b : Fin 8) (n : Fin 16) (i : Fin 4096) (k : Fin 4352) :
    val_main_v22 (F := Ideal) x0 x1 x2 (ix4 b n i k) = Ideal.exp (val_main_v15 (F := Ideal) x0 x1 x2 (ix4 b n i k) - val_main_v18 (F := Ideal) x0 x1 x2 (ix3 b n i)) := by
  unfold val_main_v22 val_main_v21 val_main_v20 val_main_v19
  generalize h1 : val_main_v15 x0 x1 x2 = y1
  generalize h2 : val_main_v18 x0 x1 x2 = y2
  pointwise []
theorem v26_at (b : Fin 8) (n : Fin 16) (i : Fin 4096) (k : Fin 4352) :
    val_main_v26 (F := Ideal) x0 x1 x2 (ix4 b n i k) = Ideal.div (val_main_v22 (F := Ideal) x0 x1 x2 (ix4 b n i k)) (∑ l, val_main_v22 (F := Ideal) x0 x1 x2 (ix4 b n i l)) := by
  unfold val_main_v26 val_main_v25 val_main_v24 val_main_v23
  generalize h1 : val_main_v22 x0 x1 x2 = y1
  pointwise [val_main_cst_2]
theorem v30_at (n : Fin 16) (d : Fin 64) (b : Fin 8) (i : Fin 4096) :
    val_main_v30 (F := Ideal) x0 x1 x2 x3 x4 (ix2 ⟨n.val * 64 + d.val, by omega⟩ ⟨b.val * 4096 + i.val, by omega⟩)
      = ∑ k, val_main_v11 (F := Ideal) x3 x4 (ix4 n d b k) * val_main_v26 (F := Ideal) x0 x1 x2 (ix4 b n i k) := by
  unfold val_main_v30 val_main_v29 val_main_v28 val_main_v27
  generalize h1 : val_main_v11 x3 x4 = y1
  generalize h2 : val_main_v26 x0 x1 x2 = y2
  pointwise []

/-- The reference's result at head `n`, column `d`, batch element `b` and query `i`. -/
theorem result_at (n : Fin 16) (d : Fin 64) (b : Fin 8) (i : Fin 4096) :
    val_main_v30 (F := Ideal) x0 x1 x2 x3 x4 (ix2 ⟨n.val * 64 + d.val, by omega⟩ ⟨b.val * 4096 + i.val, by omega⟩)
      = Soft.each (fun k => AttnSpec.score x0 x1 x2 b n i k * (Real.log 2 : ℝ)) (AttnSpec.value x3 x4 b n d) := by
  rw [v30_at]
  simp only [v26_at, v22_at, v11_at, v18_at, v15_at]
  rfl

end Cert.ReferenceIdeal.Attn

end
-- ==== Proof.AttnEquation.lean ====
/-
  The equation of the attention: where the queries and the keys are finite, the kernel's formula is the reference's result.
-/
module

public import proofs.«01_k».proof.Proof.AttnReference
public import proofs.«01_k».proof.Proof.Gen.Pre_finite_scores
public import Idealize.ShloMosaic.Lib.ReduceAll

@[expose] public section

set_option maxRecDepth 16384

noncomputable section

namespace Cert.AttnEquation

open Idealize.ShloMosaic Cert.AttnSpec

/-- Neither infinity. -/
abbrev Fin' (x : EReal) : Prop := x ≠ ⊥ ∧ x ≠ ⊤

theorem ofBits_inf : Ideal.ofBits .f32 0x7F800000#32 = ⊤ := by
  show Ideal.ieee 8 23 (0x7F800000#32) = ⊤
  unfold Ideal.ieee
  rw [if_pos (by decide), if_pos (by decide)]
  rfl

/-- A value whose magnitude is below plus infinity is neither infinity. -/
theorem finite_of_cmp (x y : EReal) (hy : y = ⊤) (h : Ideal.cmp .olt (max x (-x)) y = 1#1) : Fin' x := by
  subst hy
  by_contra hn
  have : max x (-x) = ⊤ := by
    rw [not_and_or, not_not, not_not] at hn
    rcases hn with rfl | rfl <;> simp
  rw [this] at h
  simp [Ideal.cmp] at h

instance : Subsingleton Cert.Pre_finite_scores.S_.Idx := ⟨fun a b => funext fun i => i.elim0⟩

/-- The precondition says that every query and every key is finite. -/
theorem finite_args (q kl : FVec Ideal SQ .bf16) (kc : FVec Ideal SC .bf16) (vl : FVec Ideal SV .bf16) (vc : FVec Ideal SVC .bf16)
    (h : Cert.Pre_finite_scores.fn (F := Ideal) q kl kc vl vc = fun _ => 1#1) :
    (∀ i, Fin' (q i)) ∧ (∀ i, Fin' (kl i)) ∧ ∀ i, Fin' (kc i) := by
  have h0 := congrFun h (fun a => a.elim0)
  unfold Cert.Pre_finite_scores.fn at h0
  obtain ⟨h1, hc⟩ := IntOp.andi_eq_one.1 h0
  obtain ⟨hq, hk⟩ := IntOp.andi_eq_one.1 h1
  exact ⟨fun i => finite_of_cmp _ _ ofBits_inf (Host.reduce_andi_all _ _ _ _ _ hq i),
    fun i => finite_of_cmp _ _ ofBits_inf (Host.reduce_andi_all _ _ _ _ _ hk i),
    fun i => finite_of_cmp _ _ ofBits_inf (Host.reduce_andi_all _ _ _ _ _ hc i)⟩

theorem real_of_finite {x : EReal} (h : Fin' x) : ∃ r : ℝ, x = (r : EReal) := ⟨x.toReal, (EReal.coe_toReal h.2 h.1).symm⟩

variable (q kl : FVec Ideal SQ .bf16) (kc : FVec Ideal SC .bf16) (vl : FVec Ideal SV .bf16) (vc : FVec Ideal SVC .bf16)

/-- The scores are real numbers. -/
theorem score_real (hq : ∀ i, Fin' (q i)) (hk : ∀ i, Fin' (kl i)) (hc : ∀ i, Fin' (kc i)) (b : Fin 8) (n : Fin 16) (i : Fin 4096) :
    ∃ a : Fin 4352 → ℝ, score q kl kc b n i = fun k => (a k : EReal) := by
  have hkey : ∀ (k : Fin 4352) (e : Fin 128), ∃ r : ℝ, key kl kc b n k e = (r : EReal) := fun k e => by
    unfold key
    split
    · exact real_of_finite (hk _)
    · exact real_of_finite (hc _)
  choose K hK using hkey
  choose Q hQ using fun i => real_of_finite (hq i)
  refine ⟨fun k => ∑ e : Fin 128, K k e * Q (ix2 ⟨b.val * 4096 + i.val, by omega⟩ ⟨n.val * 128 + e.val, by omega⟩), funext fun k => ?_⟩
  unfold score
  rw [← Soft.coe_sum]
  refine Finset.sum_congr rfl fun e _ => ?_
  rw [hK, hQ, EReal.coe_mul]

theorem at_parts {α : Type} (f : SV.Idx → α) (y : SV.Idx) (h0 : (y 0).val < 1024) (h1 : (y 1).val < 32768) :
    f y = f (ix2 ⟨(y 0).val / 64 * 64 + (y 0).val % 64, by omega⟩ ⟨(y 1).val / 4096 * 4096 + (y 1).val % 4096, by omega⟩) := by
  refine congrArg f (funext fun a => Fin.ext ?_)
  match a with
  | ⟨0, _⟩ => show (y 0).val = (y 0).val / 64 * 64 + (y 0).val % 64; omega
  | ⟨1, _⟩ => show (y 1).val = (y 1).val / 4096 * 4096 + (y 1).val % 4096; omega

/-- The reference's result is the attention formula. -/
theorem reference_eq (h : Cert.Pre_finite_scores.fn (F := Ideal) q kl kc vl vc = fun _ => 1#1) :
    Cert.ReferenceIdeal.Read.val_main_v30 (F := Ideal) q kl kc vl vc = attn q kl kc vl vc := by
  obtain ⟨hq, hk, hc⟩ := finite_args q kl kc vl vc h
  funext y
  have h0 : (y 0).val < 1024 := (y 0).isLt
  have h1 : (y 1).val < 32768 := (y 1).isLt
  refine (at_parts _ y h0 h1).trans ((Cert.ReferenceIdeal.Attn.result_at q kl kc vl vc ⟨(y 0).val / 64, by omega⟩ ⟨(y 0).val % 64, by omega⟩ ⟨(y 1).val / 4096, by omega⟩ ⟨(y 1).val % 4096, by omega⟩).trans ?_)
  obtain ⟨a, ha⟩ := score_real q kl kc hq hk hc ⟨(y 1).val / 4096, by omega⟩ ⟨(y 0).val / 64, by omega⟩ ⟨(y 1).val % 4096, by omega⟩
  unfold attn
  rw [ha]
  exact (Soft.once_eq_each a _).symm

end Cert.AttnEquation

end
-- ==== Proof.AttnClaims.lean ====
/-
  The attention's claims: the frames of the two programs and of the reference, and the value claim.
-/
module

public import proofs.«01_k».proof.Defs
public import proofs.«01_k».proof.Proof.AttnArray
public import proofs.«01_k».proof.Proof.AttnEquation
public import proofs.«01_k».proof.Proof.Gen.Kernel.Frame

@[expose] public section

noncomputable section

namespace Cert.AttnClaims

open Idealize.ShloMosaic Idealize.SL.Sem

/-- The reference runs, ends with its arguments unchanged and owns no semaphore. -/
theorem frame_reference : Cert.quiescent_ReferenceIdeal := fun m ρ _ => (θ_run Cert.ReferenceIdeal.defs _ _).mono
  (fun r h => And.intro (fun c => (h c).2) (Idealize.ShloMosaic.sem_eq_zero_of_no_sems (by decide) r.2))
  (Cert.ReferenceIdeal.Value.run (F := Ideal) m ρ)

/-- From memories agreeing on the arguments, the queries and keys finite, the kernel and the reference end with the same
    array: the attention formula of the arguments. -/
theorem algebraic : Cert.algebraic_KernelIdeal_ReferenceIdeal_pre_finite_scores := by
  intro m ρ m' ρ' hpre hag
  refine ⟨fun c => AttnSpec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.KernelIdeal.Attn.final m c), (h c).2⟩)
      (Cert.KernelIdeal.Value.run_blocks m ρ)
  · refine (θ_run Cert.ReferenceIdeal.defs _ _).mono (fun _ h c => ⟨(h c).1.trans ?_, (h c).2⟩) (Cert.ReferenceIdeal.Value.run m' ρ')
    obtain ⟨h0, h1, h2, h3, h4⟩ := hag c
    rw [Cert.ReferenceIdeal.Read.val_main_v30_eq, h0, h1, h2, h3, h4]
    exact AttnEquation.reference_eq _ _ _ _ _ (hpre c)

end Cert.AttnClaims

end
-- ==== Proof.MixUnit.lean ====
/-
  One block of 512 tokens of the gated mix and feed-forward kernel, as a function of the loaded blocks. The body merges
  the two mixers' outputs under their gates, adds them to the stream, normalises, runs the feed-forward block in eleven
  chunks of 256 hidden columns, adds that too, and applies the final norm. `out_eq` says that this is what the body stores.
-/
module

public import proofs.«01_k».proof.Proof.Gen.Kernel2Ideal.Frame
public import Idealize.ShloMosaic.Lib.Pipeline.Value

@[expose] public section

set_option maxRecDepth 16384

noncomputable section

namespace Cert.Kernel2Ideal.Mix

open Cert.Kernel2Ideal Cert.Kernel2Ideal.Gen Idealize.ShloMosaic Idealize.ShloMosaic.TcCoe Idealize.SL.Sem

variable {F : FTy → Type} [FloatOps F]

/-- The gates of both mixers: the logistic function of the token's gate plus the bias. -/
def gates (u : Vec F S512x2048 .bf16) (b : Vec F S1x1x2048 .f32) : FVec F S512x2048 .f32 :=
  divf (broadcast S512x2048 (Scalar.ofBits .f32 0x3F800000#32)) (addf (broadcast S512x2048 (Scalar.ofBits .f32 0x3F800000#32))
    (exp (subf (broadcast S512x2048 (Scalar.ofBits .f32 0x00000000#32))
      (addf (extf .f32 u bitsLt_bf16_f32) (broadcastTo S512x2048 (shapeCast S1x2048 b shapeCasts_S1x1x2048_S1x2048) broadcasts_S1x2048_S512x2048)))))

/-- The Hyena mixer's output projected. -/
def projY (y : Vec F S512x512 .bf16) (w : Vec F S1x512x1024 .bf16) : FVec F S512x1024 .f32 :=
  matmul dot_S512x512_S512x1024_S512x1024_0_0_1_1_n_n none y (shapeCast S512x1024 w shapeCasts_S1x512x1024_S512x1024) (constant S512x1024 .f32 0x00000000#32)

/-- The attention's output projected. -/
def projA (a : Vec F S1024x512 .bf16) (w : Vec F S1x1024x1024 .bf16) : FVec F S512x1024 .f32 :=
  matmul dot_S1024x512_S1024x1024_S512x1024_0_0_1_1_n_n none a (shapeCast S1024x1024 w shapeCasts_S1x1024x1024_S1024x1024) (constant S512x1024 .f32 0x00000000#32)

/-- The two projections under their gates, added. -/
def gated (g : FVec F S512x2048 .f32) (y a : FVec F S512x1024 .f32) : FVec F S512x1024 .bf16 :=
  truncf .bf16 (addf (mulf (extractStridedSlice S512x1024 ![0, 0] g slices_S512x2048_o0_0_S512x1024) y)
    (mulf (extractStridedSlice S512x1024 ![0, 1024] g slices_S512x2048_o0_1024_S512x1024) a)) bitsLt_bf16_f32

/-- The stream after the mixers: `h` plus the scaled output projection. -/
def mixed (h : Vec F S512x1024 .f32) (s : Vec F S1x1024 .f32) (x : FVec F S512x1024 .bf16) (w : Vec F S1x1024x1024 .bf16) : FVec F S512x1024 .f32 :=
  addf h (mulf (broadcastTo S512x1024 s broadcasts_S1x1024_S512x1024)
    (matmul dot_S512x1024_S1024x1024_S512x1024_1_0_0_1_n_n none x (shapeCast S1024x1024 w shapeCasts_S1x1024x1024_S1024x1024) (constant S512x1024 .f32 0x00000000#32)))

/-- Each row over its root mean square. -/
def normed (x : FVec F S512x1024 .f32) : FVec F S512x1024 .f32 :=
  mulf x (broadcastTo S512x1024 (rsqrt (addf (divf (shapeCast S512x1
      (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The feed-forward block's input: the normalised stream times its gain, scaled and shifted. -/
def modulated (x : FVec F S512x1024 .f32) (g : Vec F S1x1x1024 .f32) (sc sh : Vec F S1x1024 .f32) : FVec F S512x1024 .bf16 :=
  truncf .bf16 (addf (mulf (mulf (normed x) (broadcastTo S512x1024 (shapeCast S1x1024 g shapeCasts_S1x1x1024_S1x1024) broadcasts_S1x1024_S512x1024))
      (broadcastTo S512x1024 (addf (broadcast S1x1024 (Scalar.ofBits .f32 0x3F800000#32)) sc) broadcasts_S1x1024_S512x1024))
    (broadcastTo S512x1024 sh broadcasts_S1x1024_S512x1024)) bitsLt_bf16_f32

/-- The product of the input with 256 of the first weight's columns. -/
def wide (f : FVec F S512x1024 .bf16) (w : Vec F S1x1024x256 .bf16) : FVec F S512x256 .f32 :=
  matmul dot_S512x1024_S1024x256_S512x256_1_0_0_1_n_n none f (shapeCast S1024x256 w shapeCasts_S1x1024x256_S1024x256) (constant S512x256 .f32 0x00000000#32)

/-- The hidden values of one chunk: the gate times its logistic, times the other half. -/
def act (g u : FVec F S512x256 .f32) : FVec F S512x256 .bf16 :=
  truncf .bf16 (mulf (mulf g (divf (broadcast S512x256 (Scalar.ofBits .f32 0x3F800000#32)) (addf (broadcast S512x256 (Scalar.ofBits .f32 0x3F800000#32))
    (exp (subf (broadcast S512x256 (Scalar.ofBits .f32 0x00000000#32)) g))))) u) bitsLt_bf16_f32

/-- One chunk's share of the feed-forward block's output. -/
def chunk (f : FVec F S512x1024 .bf16) (wg wu : Vec F S1x1024x256 .bf16) (wd : Vec F S1x256x1024 .bf16) : FVec F S512x1024 .f32 :=
  matmul dot_S512x256_S256x1024_S512x1024_1_0_0_1_n_n none (act (wide f wg) (wide f wu)) (shapeCast S256x1024 wd shapeCasts_S1x256x1024_S256x1024) (constant S512x1024 .f32 0x00000000#32)

/-- The stream after the feed-forward block, normalised, times the final gain. -/
def finish (h y : FVec F S512x1024 .f32) (s g : Vec F S1x1024 .f32) : FVec F S512x1024 .f32 :=
  mulf (normed (addf h (mulf (broadcastTo S512x1024 s broadcasts_S1x1024_S512x1024) y)))
    (broadcastTo S512x1024 (shapeCast S1x1024 g shapeCasts_S1x1024_S1x1024) broadcasts_S1x1024_S512x1024)

theorem inbG (k : Fin 11) : ∀ a, (![0, 0, k.val * 256] : Fin 3 → Nat) a + S1x1024x256.size a ≤ S1x1024x5632.size a := by
  revert k; decide +kernel
theorem inbU (k : Fin 11) : ∀ a, (![0, 0, 2816 + k.val * 256] : Fin 3 → Nat) a + S1x1024x256.size a ≤ S1x1024x5632.size a := by
  revert k; decide +kernel
theorem inbD (k : Fin 11) : ∀ a, (![0, k.val * 256, 0] : Fin 3 → Nat) a + S1x256x1024.size a ≤ S1x2816x1024.size a := by
  revert k; decide +kernel

/-- Chunk `k`'s columns of the first weight: its gate half. -/
def ldG (x : Vec F S1x1024x5632 .bf16) (k : Fin 11) : Vec F S1x1024x256 .bf16 := View.ld x (Rect.unit (s := S1x1024x5632) ![0, 0, k.val * 256] S1x1024x256.size (inbG k))
/-- Chunk `k`'s columns of the first weight: its other half. -/
def ldU (x : Vec F S1x1024x5632 .bf16) (k : Fin 11) : Vec F S1x1024x256 .bf16 := View.ld x (Rect.unit (s := S1x1024x5632) ![0, 0, 2816 + k.val * 256] S1x1024x256.size (inbU k))
/-- Chunk `k`'s rows of the second weight. -/
def ldD (x : Vec F S1x2816x1024 .bf16) (k : Fin 11) : Vec F S1x256x1024 .bf16 := View.ld x (Rect.unit (s := S1x2816x1024) ![0, k.val * 256, 0] S1x256x1024.size (inbD k))

/-- Chunk `k` of the feed-forward block. -/
def part (f : FVec F S512x1024 .bf16) (wi : Vec F S1x1024x5632 .bf16) (wd : Vec F S1x2816x1024 .bf16) (k : Fin 11) : FVec F S512x1024 .f32 :=
  chunk f (ldG wi k) (ldU wi k) (ldD wd k)

/-- The feed-forward block: its eleven chunks, added from the first to the last. -/
def ffn (f : FVec F S512x1024 .bf16) (wi : Vec F S1x1024x5632 .bf16) (wd : Vec F S1x2816x1024 .bf16) : FVec F S512x1024 .f32 :=
  addf (addf (addf (addf (addf (addf (addf (addf (addf (addf (part f wi wd 0) (part f wi wd 1)) (part f wi wd 2)) (part f wi wd 3)) (part f wi wd 4))
    (part f wi wd 5)) (part f wi wd 6)) (part f wi wd 7)) (part f wi wd 8)) (part f wi wd 9)) (part f wi wd 10)

variable (x0 : Vec F S512x1024 .f32) (x1 : Vec F S512x2048 .bf16) (x2 : Vec F S1x1x2048 .f32) (x3 : Vec F S512x512 .bf16) (x4 : Vec F S1024x512 .bf16)
  (x5 : Vec F S1x512x1024 .bf16) (x6 : Vec F S1x1024x1024 .bf16) (x7 : Vec F S1x1024x1024 .bf16) (x8 : Vec F S1x1x1024 .f32) (x9 : Vec F S16x6144 .f32)
  (x10 : Vec F S1x1024x5632 .bf16) (x11 : Vec F S1x2816x1024 .bf16) (x12 : Vec F S1x1024 .f32)

/-- The row of modulations at an offset. -/
def ldM (o : Fin 2 → Nat) (h : ∀ a, o a + S1x1024.size a ≤ S16x6144.size a) : Vec F S1x1024 .f32 :=
  View.ld x9 (Rect.unit (s := S16x6144) o S1x1024.size h)

/-- The stream after the mixers, at grid point `i`. -/
def stream (i : grid0.Coords) : FVec F S512x1024 .f32 :=
  mixed x0 (ldM x9 (k0_off1 i) (k0_off1_inb i)) (gated (gates x1 x2) (projY x3 x5) (projA x4 x6)) x7

/-- The whole block of grid point `i`. -/
def block (i : grid0.Coords) : FVec F S512x1024 .f32 :=
  finish (stream x0 x1 x2 x3 x4 x5 x6 x7 x9 i)
    (ffn (modulated (stream x0 x1 x2 x3 x4 x5 x6 x7 x9 i) x8 (ldM x9 (k0_off2 i) (k0_off2_inb i)) (ldM x9 (k0_off3 i) (k0_off3_inb i))) x10 x11)
    (ldM x9 (k0_off4 i) (k0_off4_inb i)) x12

theorem zero2 (a : Fin 2) : (![0, 0] : Fin 2 → Nat) a = 0 := by revert a; decide
theorem zero3 (a : Fin 3) : (![0, 0, 0] : Fin 3 → Nat) a = 0 := by revert a; decide

variable (c : Dev nD) (i : grid0.Coords) (arg1 : Memref sig .tc .vmem S512x1024 .f32) (harg1 : arg1.IsWhole) (arg2 : Memref sig .tc .vmem S512x2048 .bf16) (harg2 : arg2.IsWhole)
  (arg3 : Memref sig .tc .vmem S1x1x2048 .f32) (harg3 : arg3.IsWhole) (arg4 : Memref sig .tc .vmem S512x512 .bf16) (harg4 : arg4.IsWhole)
  (arg5 : Memref sig .tc .vmem S1024x512 .bf16) (harg5 : arg5.IsWhole) (arg6 : Memref sig .tc .vmem S1x512x1024 .bf16) (harg6 : arg6.IsWhole)
  (arg7 : Memref sig .tc .vmem S1x1024x1024 .bf16) (harg7 : arg7.IsWhole) (arg8 : Memref sig .tc .vmem S1x1024x1024 .bf16) (harg8 : arg8.IsWhole)
  (arg9 : Memref sig .tc .vmem S1x1x1024 .f32) (harg9 : arg9.IsWhole) (arg10 : Memref sig .tc .vmem S16x6144 .f32) (harg10 : arg10.IsWhole)
  (arg11 : Memref sig .tc .vmem S1x1024x5632 .bf16) (harg11 : arg11.IsWhole) (arg12 : Memref sig .tc .vmem S1x2816x1024 .bf16) (harg12 : arg12.IsWhole)
  (arg13 : Memref sig .tc .vmem S1x1024 .f32) (harg13 : arg13.IsWhole) (arg14 : Memref sig .tc .vmem S512x1024 .f32) (harg14 : arg14.IsWhole)

/-- What the body stores is the block. -/
theorem out_eq : out0_A_13 c i arg1 harg1 arg2 harg2 arg3 harg3 arg4 harg4 arg5 harg5 arg6 harg6 arg7 harg7 arg8 harg8 arg9 harg9 arg10 harg10 arg11 harg11 arg12 harg12
    arg13 harg13 arg14 harg14 x0 x1 x2 x3 x4 x5 x6 x7 x8 x9 x10 x11 x12 = block x0 x1 x2 x3 x4 x5 x6 x7 x8 x9 x10 x11 x12 i := by
  unfold out0_A_13
  rw [View.read_writes_junk_eq_canon]
  unfold kernelRun0_A
  dsimp only
  sl_unfold_words
  rw [View.canon_unit_zero (S := S512x1024) (funext zero2)]
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg13.read_unread]
  simp only [View.ld_unit_zero (S := S512x1024) (funext zero2), View.ld_unit_zero (S := S512x2048) (funext zero2), View.ld_unit_zero (S := S512x512) (funext zero2),
    View.ld_unit_zero (S := S1024x512) (funext zero2), View.ld_unit_zero (S := S1x1024) (funext zero2), View.ld_unit_zero (S := S1x1x2048) (funext zero3),
    View.ld_unit_zero (S := S1x512x1024) (funext zero3), View.ld_unit_zero (S := S1x1024x1024) (funext zero3), View.ld_unit_zero (S := S1x1x1024) (funext zero3)]
  rfl

end Cert.Kernel2Ideal.Mix

end
-- ==== Proof.MixSpec.lean ====
/-
  The gated mix, the feed-forward block and the final norm of one token, as formulas over the extended reals. A `Row` is
  what one token needs: its stream, gates, mixers' outputs and modulations, and the layer's weights.
-/
module

public import Idealize.ShloMosaic.PureOps.Ideal
public import Idealize.ShloMosaic.Lib.Pointwise

@[expose] public section

noncomputable section

namespace Cert.MixSpec

open Idealize.ShloMosaic

/-- What one token's result is computed from. -/
@[ext] structure Row where
  /-- the stream -/
  h : Fin 1024 → EReal
  /-- the gates before the logistic function, and their bias -/
  u : Fin 2048 → EReal
  b : Fin 2048 → EReal
  /-- the Hyena mixer's and the attention's output -/
  y : Fin 512 → EReal
  a : Fin 1024 → EReal
  /-- the projections of the two, and of their sum -/
  hp : Fin 512 → Fin 1024 → EReal
  mp : Fin 1024 → Fin 1024 → EReal
  wo : Fin 1024 → Fin 1024 → EReal
  /-- the feed-forward norm's gain -/
  g : Fin 1024 → EReal
  /-- the modulations: of the mix, the shift and the scale of the norm, and of the feed-forward block -/
  sm : Fin 1024 → EReal
  sh : Fin 1024 → EReal
  sc : Fin 1024 → EReal
  sf : Fin 1024 → EReal
  /-- the feed-forward block's weights -/
  wi : Fin 1024 → Fin 5632 → EReal
  wd : Fin 2816 → Fin 1024 → EReal
  /-- the final norm's gain -/
  fg : Fin 1024 → EReal

/-- The logistic function. -/
def lgt (x : EReal) : EReal := Ideal.div 1 (1 + Ideal.exp (-x))

/-- An element of a vector over the vector's root mean square. -/
def rms (x : Fin 1024 → EReal) (n : Fin 1024) : EReal :=
  x n * Ideal.rsqrt (Ideal.div (∑ k, x k * x k) (Ideal.ofBits .f32 0x44800000#32) + Ideal.ofBits .f32 0x358637BD#32)

theorem zero_sub' (x : EReal) : 0 - x = -x := by rw [sub_eq_add_neg, zero_add]

variable (R : Row)

/-- The two mixers' projected outputs under their gates. -/
def mix (n : Fin 1024) : EReal :=
  lgt (R.u ⟨n.val, by omega⟩ + R.b ⟨n.val, by omega⟩) * (∑ k, R.y k * R.hp k n)
    + lgt (R.u ⟨1024 + n.val, by omega⟩ + R.b ⟨1024 + n.val, by omega⟩) * (∑ k, R.a k * R.mp k n)

/-- The stream after the mixers. -/
def stream (n : Fin 1024) : EReal := R.h n + R.sm n * ∑ k, mix R k * R.wo k n

/-- The feed-forward block's input. -/
def input (n : Fin 1024) : EReal := rms (stream R) n * R.g n * (1 + R.sc n) + R.sh n

/-- The input times the first weight. -/
def wide (j : Fin 5632) : EReal := ∑ k, input R k * R.wi k j

/-- A hidden value. -/
def hidden (j : Fin 2816) : EReal :=
  wide R ⟨j.val, by omega⟩ * lgt (wide R ⟨j.val, by omega⟩) * wide R ⟨2816 + j.val, by omega⟩

/-- The stream after the feed-forward block. -/
def after (n : Fin 1024) : EReal := stream R n + R.sf n * ∑ j, hidden R j * R.wd j n

/-- The result. -/
def result (n : Fin 1024) : EReal := rms (after R) n * R.fg n

/-- A sum over 2816 is the sum of eleven sums over 256. -/
theorem sum_chunks (f : Fin 2816 → EReal) (p : Fin 11 → EReal) (h : ∀ k : Fin 11, p k = ∑ r : Fin 256, f ⟨k.val * 256 + r.val, by omega⟩) :
    p 0 + p 1 + p 2 + p 3 + p 4 + p 5 + p 6 + p 7 + p 8 + p 9 + p 10 = ∑ j, f j := by
  have e : ∑ j, f j = ∑ k, p k := by
    rw [← (finProdFinEquiv (m := 11) (n := 256)).sum_comp f, Fintype.sum_prod_type]
    refine Finset.sum_congr rfl fun k _ => ((h k).trans (Finset.sum_congr rfl fun r _ => congrArg f (Fin.ext ?_))).symm
    show k.val * 256 + r.val = r.val + 256 * k.val
    omega
  rw [e]
  simp only [Fin.sum_univ_succ, Finset.univ_eq_empty, Finset.sum_empty, add_zero, add_assoc]
  rfl

/-! ## Of arrays -/

section Arrays

variable (h : (⟨2, ![32768, 1024]⟩ : Shape).Idx → EReal) (ug : (⟨2, ![32768, 2048]⟩ : Shape).Idx → EReal) (gb : (⟨3, ![2, 1, 2048]⟩ : Shape).Idx → EReal)
  (yt : (⟨2, ![512, 32768]⟩ : Shape).Idx → EReal) (at' : (⟨2, ![1024, 32768]⟩ : Shape).Idx → EReal) (hp : (⟨3, ![2, 512, 1024]⟩ : Shape).Idx → EReal)
  (mp wo : (⟨3, ![2, 1024, 1024]⟩ : Shape).Idx → EReal) (g2 : (⟨3, ![2, 1, 1024]⟩ : Shape).Idx → EReal) (mods : (⟨2, ![16, 6144]⟩ : Shape).Idx → EReal)
  (wi : (⟨3, ![2, 1024, 5632]⟩ : Shape).Idx → EReal) (wd : (⟨3, ![2, 2816, 1024]⟩ : Shape).Idx → EReal) (fg : (⟨1, ![1024]⟩ : Shape).Idx → EReal)

/-- The row of token `i` of batch element `b`, with the weights of the last of the two layers. -/
def rowAt (b : Fin 8) (i : Fin 4096) : Row where
  h n := h (ix2 ⟨b.val * 4096 + i.val, by omega⟩ n)
  u j := ug (ix2 ⟨b.val * 4096 + i.val, by omega⟩ j)
  b j := gb (ix3 1 0 j)
  y k := yt (ix2 k ⟨b.val * 4096 + i.val, by omega⟩)
  a k := at' (ix2 k ⟨b.val * 4096 + i.val, by omega⟩)
  hp k n := hp (ix3 1 k n)
  mp k n := mp (ix3 1 k n)
  wo k n := wo (ix3 1 k n)
  g n := g2 (ix3 1 0 n)
  sm n := mods (ix2 ⟨b.val, by omega⟩ ⟨2048 + n.val, by omega⟩)
  sh n := mods (ix2 ⟨b.val, by omega⟩ ⟨3072 + n.val, by omega⟩)
  sc n := mods (ix2 ⟨b.val, by omega⟩ ⟨4096 + n.val, by omega⟩)
  sf n := mods (ix2 ⟨b.val, by omega⟩ ⟨5120 + n.val, by omega⟩)
  wi k j := wi (ix3 1 k j)
  wd j n := wd (ix3 1 j n)
  fg n := fg (ix1 n)

/-- The result array: at row `y 0` the token `y 0 % 4096` of batch element `y 0 / 4096`. -/
def array (y : (⟨2, ![32768, 1024]⟩ : Shape).Idx) : EReal :=
  result (rowAt h ug gb yt at' hp mp wo g2 mods wi wd fg ⟨(y 0).val / 4096, by have : (y 0).val < 32768 := (y 0).isLt; omega⟩ ⟨(y 0).val % 4096, by omega⟩) (y 1)

theorem array_at (b : Fin 8) (i : Fin 4096) (n : Fin 1024) :
    array h ug gb yt at' hp mp wo g2 mods wi wd fg (ix2 ⟨b.val * 4096 + i.val, by omega⟩ n)
      = result (rowAt h ug gb yt at' hp mp wo g2 mods wi wd fg b i) n := by
  show result (rowAt h ug gb yt at' hp mp wo g2 mods wi wd fg ⟨(b.val * 4096 + i.val) / 4096, _⟩ ⟨(b.val * 4096 + i.val) % 4096, _⟩) n = _
  congr 2 <;> apply Fin.ext <;> simp only [] <;> omega

end Arrays

end Cert.MixSpec

end
-- ==== Proof.MixRead.lean ====
/-
  What one block of the gated mix and feed-forward kernel holds over the extended reals: at token `p` and column `n`, the
  formula `MixSpec.result` of the row that the loaded blocks give for that token.
-/
module

public import proofs.«01_k».proof.Proof.MixUnit
public import proofs.«01_k».proof.Proof.MixSpec
public import Idealize.ShloMosaic.Lib.Pointwise

@[expose] public section

set_option maxRecDepth 16384

noncomputable section

namespace Cert.Kernel2Ideal.Mix

open Cert.Kernel2Ideal Cert.Kernel2Ideal.Gen Idealize.ShloMosaic Idealize.ShloMosaic.TcCoe Idealize.SL.Sem

theorem gates_apply (u : Vec Ideal S512x2048 .bf16) (b : Vec Ideal S1x1x2048 .f32) (p : Fin 512) (j : Fin 2048) :
    gates (F := Ideal) u b (ix2 p j) = MixSpec.lgt (u (ix2 p j) + b (ix3 0 0 j)) := by
  pointwise [gates]
  rw [MixSpec.zero_sub']
  rfl
theorem projY_apply (y : Vec Ideal S512x512 .bf16) (w : Vec Ideal S1x512x1024 .bf16) (p : Fin 512) (n : Fin 1024) :
    projY (F := Ideal) y w (ix2 p n) = ∑ k : Fin 512, y (ix2 k p) * w (ix3 0 k n) := by
  pointwise [projY]
theorem projA_apply (a : Vec Ideal S1024x512 .bf16) (w : Vec Ideal S1x1024x1024 .bf16) (p : Fin 512) (n : Fin 1024) :
    projA (F := Ideal) a w (ix2 p n) = ∑ k : Fin 1024, a (ix2 k p) * w (ix3 0 k n) := by
  pointwise [projA]
theorem gated_apply (g : FVec Ideal S512x2048 .f32) (y a : FVec Ideal S512x1024 .f32) (p : Fin 512) (n : Fin 1024) :
    gated (F := Ideal) g y a (ix2 p n) = g (ix2 p ⟨n.val, by omega⟩) * y (ix2 p n) + g (ix2 p ⟨1024 + n.val, by omega⟩) * a (ix2 p n) := by
  pointwise [gated]
theorem mixed_apply (h : Vec Ideal S512x1024 .f32) (s : Vec Ideal S1x1024 .f32) (x : FVec Ideal S512x1024 .bf16) (w : Vec Ideal S1x1024x1024 .bf16)
    (p : Fin 512) (n : Fin 1024) :
    mixed (F := Ideal) h s x w (ix2 p n) = h (ix2 p n) + s (ix2 0 n) * ∑ k : Fin 1024, x (ix2 p k) * w (ix3 0 k n) := by
  pointwise [mixed]
theorem normed_apply (x : FVec Ideal S512x1024 .f32) (p : Fin 512) (n : Fin 1024) :
    normed (F := Ideal) x (ix2 p n) = MixSpec.rms (fun k => x (ix2 p k)) n := by
  pointwise [normed]
  rfl
theorem modulated_apply (x : FVec Ideal S512x1024 .f32) (g : Vec Ideal S1x1x1024 .f32) (sc sh : Vec Ideal S1x1024 .f32) (p : Fin 512) (n : Fin 1024) :
    modulated (F := Ideal) x g sc sh (ix2 p n) = normed (F := Ideal) x (ix2 p n) * g (ix3 0 0 n) * (1 + sc (ix2 0 n)) + sh (ix2 0 n) := by
  unfold modulated
  generalize normed x = y
  pointwise []
theorem wide_apply (f : FVec Ideal S512x1024 .bf16) (w : Vec Ideal S1x1024x256 .bf16) (p : Fin 512) (r : Fin 256) :
    wide (F := Ideal) f w (ix2 p r) = ∑ k : Fin 1024, f (ix2 p k) * w (ix3 0 k r) := by
  pointwise [wide]
theorem act_apply (g u : FVec Ideal S512x256 .f32) (p : Fin 512) (r : Fin 256) :
    act (F := Ideal) g u (ix2 p r) = g (ix2 p r) * MixSpec.lgt (g (ix2 p r)) * u (ix2 p r) := by
  pointwise [act]
  rw [MixSpec.zero_sub']
  rfl
theorem chunk_apply (f : FVec Ideal S512x1024 .bf16) (wg wu : Vec Ideal S1x1024x256 .bf16) (wd : Vec Ideal S1x256x1024 .bf16) (p : Fin 512) (n : Fin 1024) :
    chunk (F := Ideal) f wg wu wd (ix2 p n) = ∑ r : Fin 256, act (F := Ideal) (wide f wg) (wide f wu) (ix2 p r) * wd (ix3 0 r n) := by
  unfold chunk
  generalize act (wide f wg) (wide f wu) = y
  pointwise []
theorem finish_apply (h y : FVec Ideal S512x1024 .f32) (s g : Vec Ideal S1x1024 .f32) (p : Fin 512) (n : Fin 1024) :
    finish (F := Ideal) h y s g (ix2 p n) = MixSpec.rms (fun k => h (ix2 p k) + s (ix2 0 k) * y (ix2 p k)) n * g (ix2 0 n) := by
  unfold finish
  generalize hz : addf h (mulf (broadcastTo S512x1024 s broadcasts_S1x1024_S512x1024) y) = z
  have e : ∀ k, h (ix2 p k) + s (ix2 0 k) * y (ix2 p k) = z (ix2 p k) := fun k => by
    subst hz
    pointwise []
  rw [funext e, ← normed_apply]
  generalize normed z = v
  pointwise []

theorem ldG_apply (x : Vec Ideal S1x1024x5632 .bf16) (c : Fin 11) (k : Fin 1024) (r : Fin 256) :
    ldG x c (ix3 0 k r) = x (ix3 0 k ⟨c.val * 256 + r.val, by omega⟩) := by
  pointwise [ldG]
theorem ldU_apply (x : Vec Ideal S1x1024x5632 .bf16) (c : Fin 11) (k : Fin 1024) (r : Fin 256) :
    ldU x c (ix3 0 k r) = x (ix3 0 k ⟨2816 + (c.val * 256 + r.val), by omega⟩) := by
  pointwise [ldU]
  simp only [Nat.add_assoc]
theorem ldD_apply (x : Vec Ideal S1x2816x1024 .bf16) (c : Fin 11) (r : Fin 256) (n : Fin 1024) :
    ldD x c (ix3 0 r n) = x (ix3 0 ⟨c.val * 256 + r.val, by omega⟩ n) := by
  pointwise [ldD]

variable (x0 : Vec Ideal S512x1024 .f32) (x1 : Vec Ideal S512x2048 .bf16) (x2 : Vec Ideal S1x1x2048 .f32) (x3 : Vec Ideal S512x512 .bf16) (x4 : Vec Ideal S1024x512 .bf16)
  (x5 : Vec Ideal S1x512x1024 .bf16) (x6 : Vec Ideal S1x1024x1024 .bf16) (x7 : Vec Ideal S1x1024x1024 .bf16) (x8 : Vec Ideal S1x1x1024 .f32) (x9 : Vec Ideal S16x6144 .f32)
  (x10 : Vec Ideal S1x1024x5632 .bf16) (x11 : Vec Ideal S1x2816x1024 .bf16) (x12 : Vec Ideal S1x1024 .f32)

/-- The row of token `p` of a block. -/
def row (i : grid0.Coords) (p : Fin 512) : MixSpec.Row where
  h n := x0 (ix2 p n)
  u j := x1 (ix2 p j)
  b j := x2 (ix3 0 0 j)
  y k := x3 (ix2 k p)
  a k := x4 (ix2 k p)
  hp k n := x5 (ix3 0 k n)
  mp k n := x6 (ix3 0 k n)
  wo k n := x7 (ix3 0 k n)
  g n := x8 (ix3 0 0 n)
  sm n := ldM x9 (k0_off1 i) (k0_off1_inb i) (ix2 0 n)
  sc n := ldM x9 (k0_off2 i) (k0_off2_inb i) (ix2 0 n)
  sh n := ldM x9 (k0_off3 i) (k0_off3_inb i) (ix2 0 n)
  sf n := ldM x9 (k0_off4 i) (k0_off4_inb i) (ix2 0 n)
  wi k j := x10 (ix3 0 k j)
  wd j n := x11 (ix3 0 j n)
  fg n := x12 (ix2 0 n)

theorem stream_apply (i : grid0.Coords) (p : Fin 512) (n : Fin 1024) :
    stream (F := Ideal) x0 x1 x2 x3 x4 x5 x6 x7 x9 i (ix2 p n) = MixSpec.stream (row x0 x1 x2 x3 x4 x5 x6 x7 x8 x9 x10 x11 x12 i p) n := by
  unfold stream
  rw [mixed_apply]
  simp only [gated_apply, gates_apply, projY_apply, projA_apply]
  rfl

/-- A chunk of the feed-forward block is that chunk's share of the sum over the hidden columns. -/
theorem part_apply (R : MixSpec.Row) (f : FVec Ideal S512x1024 .bf16) (p : Fin 512) (c : Fin 11) (n : Fin 1024)
    (hf : ∀ k, f (ix2 p k) = MixSpec.input R k) (hi : ∀ k j, x10 (ix3 0 k j) = R.wi k j) (hd : ∀ j n, x11 (ix3 0 j n) = R.wd j n) :
    part (F := Ideal) f x10 x11 c (ix2 p n) = ∑ r : Fin 256, MixSpec.hidden R ⟨c.val * 256 + r.val, by omega⟩ * R.wd ⟨c.val * 256 + r.val, by omega⟩ n := by
  unfold part
  rw [chunk_apply]
  simp only [act_apply, wide_apply, ldG_apply, ldU_apply, ldD_apply, hf, hi, hd]
  rfl

theorem ffn_apply (R : MixSpec.Row) (f : FVec Ideal S512x1024 .bf16) (p : Fin 512) (n : Fin 1024)
    (hf : ∀ k, f (ix2 p k) = MixSpec.input R k) (hi : ∀ k j, x10 (ix3 0 k j) = R.wi k j) (hd : ∀ j n, x11 (ix3 0 j n) = R.wd j n) :
    ffn (F := Ideal) f x10 x11 (ix2 p n) = ∑ j, MixSpec.hidden R j * R.wd j n :=
  MixSpec.sum_chunks (fun j => MixSpec.hidden R j * R.wd j n) (fun c => part (F := Ideal) f x10 x11 c (ix2 p n))
    fun c => part_apply x10 x11 R f p c n hf hi hd

/-- The block at token `p` and column `n`. -/
theorem block_apply (i : grid0.Coords) (p : Fin 512) (n : Fin 1024) :
    block (F := Ideal) x0 x1 x2 x3 x4 x5 x6 x7 x8 x9 x10 x11 x12 i (ix2 p n)
      = MixSpec.result (row x0 x1 x2 x3 x4 x5 x6 x7 x8 x9 x10 x11 x12 i p) n := by
  unfold block
  rw [finish_apply]
  simp only [stream_apply x0 x1 x2 x3 x4 x5 x6 x7 x8 x9 x10 x11 x12]
  have hf : ∀ k, modulated (F := Ideal) (stream x0 x1 x2 x3 x4 x5 x6 x7 x9 i) x8 (ldM x9 (k0_off2 i) (k0_off2_inb i)) (ldM x9 (k0_off3 i) (k0_off3_inb i)) (ix2 p k)
      = MixSpec.input (row x0 x1 x2 x3 x4 x5 x6 x7 x8 x9 x10 x11 x12 i p) k := fun k => by
    rw [modulated_apply, normed_apply]
    simp only [stream_apply x0 x1 x2 x3 x4 x5 x6 x7 x8 x9 x10 x11 x12]
    rfl
  simp only [ffn_apply x10 x11 (row x0 x1 x2 x3 x4 x5 x6 x7 x8 x9 x10 x11 x12 i p) _ p _ hf (fun _ _ => rfl) (fun _ _ => rfl)]
  rfl

end Cert.Kernel2Ideal.Mix

end
-- ==== Proof.MixArray.lean ====
/-
  The array the gated mix and feed-forward kernel leaves: `MixSpec.array` of its arguments, at every index.
-/
module

public import proofs.«01_k».proof.Proof.MixRead
public import proofs.«01_k».proof.Proof.Gen.Kernel2Ideal.Value
public import Idealize.ShloMosaic.Lib.Pipeline.ValueKit

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

/-- Which blocks grid point `t` reads and writes: the tokens `t` of the streams, the last layer of the weights. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![1, 0, 0] := (by decide +kernel : ∀ t : Fin grid0.N, win0_2.index t = ![1, 0, 0])
theorem idx3 : ∀ t : Fin cfg0.N, win0_3.index t = ![0, t.val] := (by decide +kernel : ∀ t : Fin grid0.N, win0_3.index t = ![0, t.val])
theorem idx4 : ∀ t : Fin cfg0.N, win0_4.index t = ![0, t.val] := (by decide +kernel : ∀ t : Fin grid0.N, win0_4.index t = ![0, t.val])
theorem idx5 : ∀ t : Fin cfg0.N, win0_5.index t = ![1, 0, 0] := (by decide +kernel : ∀ t : Fin grid0.N, win0_5.index t = ![1, 0, 0])
theorem idx6 : ∀ t : Fin cfg0.N, win0_6.index t = ![1, 0, 0] := (by decide +kernel : ∀ t : Fin grid0.N, win0_6.index t = ![1, 0, 0])
theorem idx7 : ∀ t : Fin cfg0.N, win0_7.index t = ![1, 0, 0] := (by decide +kernel : ∀ t : Fin grid0.N, win0_7.index t = ![1, 0, 0])
theorem idx8 : ∀ t : Fin cfg0.N, win0_8.index t = ![1, 0, 0] := (by decide +kernel : ∀ t : Fin grid0.N, win0_8.index t = ![1, 0, 0])
theorem idx9 : ∀ t : Fin cfg0.N, win0_9.index t = ![0, 0] := (by decide +kernel : ∀ t : Fin grid0.N, win0_9.index t = ![0, 0])
theorem idx10 : ∀ t : Fin cfg0.N, win0_10.index t = ![1, 0, 0] := (by decide +kernel : ∀ t : Fin grid0.N, win0_10.index t = ![1, 0, 0])
theorem idx11 : ∀ t : Fin cfg0.N, win0_11.index t = ![1, 0, 0] := (by decide +kernel : ∀ t : Fin grid0.N, win0_11.index t = ![1, 0, 0])
theorem idx12 : ∀ t : Fin cfg0.N, win0_12.index t = ![0, 0] := (by decide +kernel : ∀ t : Fin grid0.N, win0_12.index t = ![0, 0])
theorem idx13 : ∀ t : Fin cfg0.N, win0_13.index t = ![t.val, 0] := (by decide +kernel : ∀ t : Fin grid0.N, win0_13.index t = ![t.val, 0])

/-- Where the modulations of grid point `t` lie: in the row of its batch element `t / 8`. -/
theorem off1 : ∀ t : Fin cfg0.N, k0_off1 (grid0.coords t) = ![t.val / 8, 2048] := (by decide +kernel : ∀ t : Fin grid0.N, k0_off1 (grid0.coords t) = ![t.val / 8, 2048])
theorem off2 : ∀ t : Fin cfg0.N, k0_off2 (grid0.coords t) = ![t.val / 8, 4096] := (by decide +kernel : ∀ t : Fin grid0.N, k0_off2 (grid0.coords t) = ![t.val / 8, 4096])
theorem off3 : ∀ t : Fin cfg0.N, k0_off3 (grid0.coords t) = ![t.val / 8, 3072] := (by decide +kernel : ∀ t : Fin grid0.N, k0_off3 (grid0.coords t) = ![t.val / 8, 3072])
theorem off4 : ∀ t : Fin cfg0.N, k0_off4 (grid0.coords t) = ![t.val / 8, 5120] := (by decide +kernel : ∀ t : Fin grid0.N, k0_off4 (grid0.coords t) = ![t.val / 8, 5120])

theorem ldM_apply (x9 : Vec Ideal S16x6144 .f32) (o : Fin 2 → Nat) (h : ∀ a, o a + S1x1024.size a ≤ S16x6144.size a) (a b : Nat) (ho : o = ![a, b])
    (ha : a < 16) (n : Fin 1024) (hb : b + n.val < 6144) : ldM x9 o h (ix2 0 n) = x9 (ix2 ⟨a, ha⟩ ⟨b + n.val, hb⟩) := by
  subst ho
  pointwise [ldM]

variable (m : (ℓ : Loc nD τ sig) → Buf (Elt Ideal) ℓ) (c : Dev nD)

/-- The final norm's gain reaches the kernel as one row. -/
theorem gain (n : Fin 1024) : V m c main_v0 (ix2 0 n) = m ((c : Thread nD τ).loc main_arg12) (ix1 n) := by
  have e : V m c main_v0 = shapeCast S1x1024 (m ((c : Thread nD τ).loc main_arg12)) shapeCasts_S1024_S1x1024 := by
    simp only [V, hostOps0, StableHlo.after_cons, StableHlo.after_nil]
    exact StableHlo.reshape_result main_arg12 main_v0 rfl shapeCasts_S1024_S1x1024 _ _ _
  rw [e]
  pointwise []

set_option maxHeartbeats 2000000 in
/-- The row of token `p` of grid point `t`, out of the argument arrays. -/
theorem row_eq (t : Fin cfg0.N) (p : Fin 512) (b : Fin 8) (i : Fin 4096) (hb : b.val = t.val / 8) (hi : b.val * 4096 + i.val = t.val * 512 + p.val) :
    row (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (grid0.coords t) p
      = MixSpec.rowAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) b i := by
  have ht : t.val < 64 := t.isLt
  ext k j
  · show iblk m c 0 t (ix2 p k) = m ((c : Thread nD τ).loc main_arg0) (ix2 ⟨b.val * 4096 + i.val, by omega⟩ k)
    rw [← V_main_arg0 m c]
    blk_ext [iblk, idx0 t]
  · show iblk m c 1 t (ix2 p k) = m ((c : Thread nD τ).loc main_arg1) (ix2 ⟨b.val * 4096 + i.val, by omega⟩ k)
    rw [← V_main_arg1 m c]
    blk_ext [iblk, idx1 t]
  · show iblk m c 2 t (ix3 0 0 k) = m ((c : Thread nD τ).loc main_arg2) (ix3 1 0 k)
    rw [← V_main_arg2 m c]
    blk_ext [iblk, idx2 t]
  · show iblk m c 3 t (ix2 k p) = m ((c : Thread nD τ).loc main_arg3) (ix2 k ⟨b.val * 4096 + i.val, by omega⟩)
    rw [← V_main_arg3 m c]
    blk_ext [iblk, idx3 t]
  · show iblk m c 4 t (ix2 k p) = m ((c : Thread nD τ).loc main_arg4) (ix2 k ⟨b.val * 4096 + i.val, by omega⟩)
    rw [← V_main_arg4 m c]
    blk_ext [iblk, idx4 t]
  · show iblk m c 5 t (ix3 0 k j) = m ((c : Thread nD τ).loc main_arg5) (ix3 1 k j)
    rw [← V_main_arg5 m c]
    blk_ext [iblk, idx5 t]
  · show iblk m c 6 t (ix3 0 k j) = m ((c : Thread nD τ).loc main_arg6) (ix3 1 k j)
    rw [← V_main_arg6 m c]
    blk_ext [iblk, idx6 t]
  · show iblk m c 7 t (ix3 0 k j) = m ((c : Thread nD τ).loc main_arg7) (ix3 1 k j)
    rw [← V_main_arg7 m c]
    blk_ext [iblk, idx7 t]
  · show iblk m c 8 t (ix3 0 0 k) = m ((c : Thread nD τ).loc main_arg8) (ix3 1 0 k)
    rw [← V_main_arg8 m c]
    blk_ext [iblk, idx8 t]
  · show ldM (iblk m c 9 t) (k0_off1 (grid0.coords t)) (k0_off1_inb (grid0.coords t)) (ix2 0 k) = m ((c : Thread nD τ).loc main_arg9) (ix2 ⟨b.val, by omega⟩ ⟨2048 + k.val, by omega⟩)
    rw [ldM_apply _ _ _ _ _ (off1 t) (by omega) k (by omega)]
    rw [← V_main_arg9 m c]
    blk_ext [iblk, idx9 t]
  · show ldM (iblk m c 9 t) (k0_off3 (grid0.coords t)) (k0_off3_inb (grid0.coords t)) (ix2 0 k) = m ((c : Thread nD τ).loc main_arg9) (ix2 ⟨b.val, by omega⟩ ⟨3072 + k.val, by omega⟩)
    rw [ldM_apply _ _ _ _ _ (off3 t) (by omega) k (by omega)]
    rw [← V_main_arg9 m c]
    blk_ext [iblk, idx9 t]
  · show ldM (iblk m c 9 t) (k0_off2 (grid0.coords t)) (k0_off2_inb (grid0.coords t)) (ix2 0 k) = m ((c : Thread nD τ).loc main_arg9) (ix2 ⟨b.val, by omega⟩ ⟨4096 + k.val, by omega⟩)
    rw [ldM_apply _ _ _ _ _ (off2 t) (by omega) k (by omega)]
    rw [← V_main_arg9 m c]
    blk_ext [iblk, idx9 t]
  · show ldM (iblk m c 9 t) (k0_off4 (grid0.coords t)) (k0_off4_inb (grid0.coords t)) (ix2 0 k) = m ((c : Thread nD τ).loc main_arg9) (ix2 ⟨b.val, by omega⟩ ⟨5120 + k.val, by omega⟩)
    rw [ldM_apply _ _ _ _ _ (off4 t) (by omega) k (by omega)]
    rw [← V_main_arg9 m c]
    blk_ext [iblk, idx9 t]
  · show iblk m c 10 t (ix3 0 k j) = m ((c : Thread nD τ).loc main_arg10) (ix3 1 k j)
    rw [← V_main_arg10 m c]
    blk_ext [iblk, idx10 t]
  · show iblk m c 11 t (ix3 0 k j) = m ((c : Thread nD τ).loc main_arg11) (ix3 1 k j)
    rw [← V_main_arg11 m c]
    blk_ext [iblk, idx11 t]
  · show iblk m c 12 t (ix2 0 k) = m ((c : Thread nD τ).loc main_arg12) (ix1 k)
    rw [← gain m c]
    blk_ext [iblk, idx12 t]

/-- The block grid point `t` leaves, at token `p` and column `n`. -/
theorem outs_apply (t : Fin cfg0.N) (p : Fin 512) (n : Fin 1024) :
    outsAt0 m c t (ix2 p n) = MixSpec.result (row (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (grid0.coords t) p) n := by
  unfold outsAt0
  rw [out_eq]
  exact block_apply ..

/-- The final array of the kernel's output window. -/
theorem final :
    (dats m 0 c).arrAt 13 cfg0.N = MixSpec.array (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) := by
  refine (dats m 0 c).arrAt_eq_of_covers 13 _ (by decide +kernel) fun t hf y => ?_
  have ht : t.val < 64 := t.isLt
  have hp : (y 0).val < 512 := (y 0).isLt
  blk_simp
  rw [after0_13]
  rw [eq_ix2 y]
  refine (outs_apply m c t (y 0) (y 1)).trans ?_
  rw [row_eq m c t (y 0) ⟨t.val / 8, by omega⟩ ⟨t.val % 8 * 512 + (y 0).val, by omega⟩ rfl (by show t.val / 8 * 4096 + (t.val % 8 * 512 + (y 0).val) = t.val * 512 + (y 0).val; omega)]
  refine (MixSpec.array_at _ _ _ _ _ _ _ _ _ _ _ _ _ _ _ _).symm.trans (congrArg _ ?_)
  blk_ext [idx13 t]

end Cert.Kernel2Ideal.Mix

end
-- ==== Proof.MixReference.lean ====
/-
  The reference program's result at an index: the formula `MixSpec.result` of the token's row.
-/
module

public import proofs.«01_k».proof.Proof.MixSpec
public import proofs.«01_k».proof.Proof.Gen.Reference2Ideal.Read
public import Idealize.ShloMosaic.Lib.Pointwise

@[expose] public section

set_option maxRecDepth 16384

noncomputable section

namespace Cert.Reference2Ideal.Mix

open Cert.Reference2Ideal Cert.Reference2Ideal.Gen Cert.Reference2Ideal.Read Idealize.ShloMosaic Idealize.ShloMosaic.TcCoe Idealize.SL.Sem Idealize.ShloMosaic.StableHlo

variable (x0 : (⟨S32768x1024, .f32⟩ : BufTy).Contents (Elt Ideal)) (x1 : (⟨S32768x2048, .bf16⟩ : BufTy).Contents (Elt Ideal))
  (x2 : (⟨S2x1x2048, .f32⟩ : BufTy).Contents (Elt Ideal)) (x3 : (⟨S512x32768, .bf16⟩ : BufTy).Contents (Elt Ideal))
  (x4 : (⟨S1024x32768, .bf16⟩ : BufTy).Contents (Elt Ideal)) (x5 : (⟨S2x512x1024, .bf16⟩ : BufTy).Contents (Elt Ideal))
  (x6 x7 : (⟨S2x1024x1024, .bf16⟩ : BufTy).Contents (Elt Ideal)) (x8 : (⟨S2x1x1024, .f32⟩ : BufTy).Contents (Elt Ideal))
  (x9 : (⟨S16x6144, .f32⟩ : BufTy).Contents (Elt Ideal)) (x10 : (⟨S2x1024x5632, .bf16⟩ : BufTy).Contents (Elt Ideal))
  (x11 : (⟨S2x2816x1024, .bf16⟩ : BufTy).Contents (Elt Ideal)) (x12 : (⟨S1024, .f32⟩ : BufTy).Contents (Elt Ideal))

/-! ## The arguments, as the reference reshapes them -/

theorem v9_at (b : Fin 8) (n : Fin 1024) : val_main_v9 (F := Ideal) x9 (ix3 b 0 n) = x9 (ix2 ⟨b.val, by omega⟩ ⟨2048 + n.val, by omega⟩) := by
  pointwise [val_main_v9, val_main_v3, val_main_v0]
theorem v10_at (b : Fin 8) (n : Fin 1024) : val_main_v10 (F := Ideal) x9 (ix3 b 0 n) = x9 (ix2 ⟨b.val, by omega⟩ ⟨3072 + n.val, by omega⟩) := by
  pointwise [val_main_v10, val_main_v4, val_main_v0]
theorem v11_at (b : Fin 8) (n : Fin 1024) : val_main_v11 (F := Ideal) x9 (ix3 b 0 n) = x9 (ix2 ⟨b.val, by omega⟩ ⟨4096 + n.val, by omega⟩) := by
  pointwise [val_main_v11, val_main_v5, val_main_v0]
theorem v12_at (b : Fin 8) (n : Fin 1024) : val_main_v12 (F := Ideal) x9 (ix3 b 0 n) = x9 (ix2 ⟨b.val, by omega⟩ ⟨5120 + n.val, by omega⟩) := by
  pointwise [val_main_v12, val_main_v6, val_main_v0]
theorem v13_at (b : Fin 8) (i : Fin 4096) (n : Fin 1024) : val_main_v13 (F := Ideal) x0 (ix3 b i n) = x0 (ix2 ⟨b.val * 4096 + i.val, by omega⟩ n) := by
  pointwise [val_main_v13]
theorem v35_at (b : Fin 8) (i : Fin 4096) (j : Fin 2048) :
    val_main_v35 (F := Ideal) x1 x2 (ix3 b i j) = x1 (ix2 ⟨b.val * 4096 + i.val, by omega⟩ j) + x2 (ix3 1 0 j) := by
  pointwise [val_main_v35, val_main_v15, val_main_v14, val_main_v34, val_main_v33, val_main_v17, val_main_v16]
theorem v20_at (b : Fin 8) (i : Fin 4096) (k : Fin 512) : val_main_v20 (F := Ideal) x3 (ix3 b i k) = x3 (ix2 k ⟨b.val * 4096 + i.val, by omega⟩) := by
  pointwise [val_main_v20, val_main_v19, val_main_v18]
theorem v23_at (b : Fin 8) (i : Fin 4096) (k : Fin 1024) : val_main_v23 (F := Ideal) x4 (ix3 b i k) = x4 (ix2 k ⟨b.val * 4096 + i.val, by omega⟩) := by
  pointwise [val_main_v23, val_main_v22, val_main_v21]
theorem v26_at (k : Fin 512) (n : Fin 1024) : val_main_v26 (F := Ideal) x5 (ix2 k n) = x5 (ix3 1 k n) := by
  pointwise [val_main_v26, val_main_v25, val_main_v24]
theorem v29_at (k n : Fin 1024) : val_main_v29 (F := Ideal) x6 (ix2 k n) = x6 (ix3 1 k n) := by
  pointwise [val_main_v29, val_main_v28, val_main_v27]
theorem v32_at (k n : Fin 1024) : val_main_v32 (F := Ideal) x7 (ix2 k n) = x7 (ix3 1 k n) := by
  pointwise [val_main_v32, val_main_v31, val_main_v30]
theorem v66_at (b : Fin 8) (i : Fin 4096) (n : Fin 1024) : val_main_v66 (F := Ideal) x8 (ix3 b i n) = x8 (ix3 1 0 n) := by
  pointwise [val_main_v66, val_main_v65, val_main_v54, val_main_v53]
theorem v76_at (k : Fin 1024) (j : Fin 5632) : val_main_v76 (F := Ideal) x10 (ix2 k j) = x10 (ix3 1 k j) := by
  pointwise [val_main_v76, val_main_v75, val_main_v74]
theorem v79_at (j : Fin 2816) (n : Fin 1024) : val_main_v79 (F := Ideal) x11 (ix2 j n) = x11 (ix3 1 j n) := by
  pointwise [val_main_v79, val_main_v78, val_main_v77]

/-! ## The stages -/

theorem v41_at (b : Fin 8) (i : Fin 4096) (j : Fin 2048) :
    val_main_v41 (F := Ideal) x1 x2 (ix3 b i j) = MixSpec.lgt (x1 (ix2 ⟨b.val * 4096 + i.val, by omega⟩ j) + x2 (ix3 1 0 j)) := by
  rw [← v35_at]
  unfold val_main_v41 val_main_v39 val_main_v37 val_main_v36
  generalize val_main_v35 x1 x2 = y
  pointwise [val_main_v40, val_main_cst_0, val_main_v38, val_main_cst]
  rfl
theorem v44_at (b : Fin 8) (i : Fin 4096) (n : Fin 1024) :
    val_main_v44 (F := Ideal) x3 x5 (ix3 b i n) = ∑ k : Fin 512, val_main_v20 (F := Ideal) x3 (ix3 b i k) * val_main_v26 (F := Ideal) x5 (ix2 k n) := by
  unfold val_main_v44
  generalize val_main_v20 x3 = y
  generalize val_main_v26 x5 = z
  pointwise []
theorem v46_at (b : Fin 8) (i : Fin 4096) (n : Fin 1024) :
    val_main_v46 (F := Ideal) x4 x6 (ix3 b i n) = ∑ k : Fin 1024, val_main_v23 (F := Ideal) x4 (ix3 b i k) * val_main_v29 (F := Ideal) x6 (ix2 k n) := by
  unfold val_main_v46
  generalize val_main_v23 x4 = y
  generalize val_main_v29 x6 = z
  pointwise []
theorem v48_at (b : Fin 8) (i : Fin 4096) (n : Fin 1024) :
    val_main_v48 (F := Ideal) x1 x2 x3 x4 x5 x6 (ix3 b i n)
      = val_main_v41 (F := Ideal) x1 x2 (ix3 b i ⟨n.val, by omega⟩) * val_main_v44 (F := Ideal) x3 x5 (ix3 b i n)
        + val_main_v41 (F := Ideal) x1 x2 (ix3 b i ⟨1024 + n.val, by omega⟩) * val_main_v46 (F := Ideal) x4 x6 (ix3 b i n) := by
  unfold val_main_v48 val_main_v45 val_main_v47 val_main_v42 val_main_v43
  generalize val_main_v41 x1 x2 = y
  generalize val_main_v44 x3 x5 = z
  generalize val_main_v46 x4 x6 = w
  pointwise []
theorem v52_dot (b : Fin 8) (i : Fin 4096) (n : Fin 1024) :
    val_main_v52 (F := Ideal) x0 x1 x2 x3 x4 x5 x6 x7 x9 (ix3 b i n)
      = val_main_v13 (F := Ideal) x0 (ix3 b i n) + val_main_v9 (F := Ideal) x9 (ix3 b 0 n)
        * ∑ k : Fin 1024, val_main_v48 (F := Ideal) x1 x2 x3 x4 x5 x6 (ix3 b i k) * val_main_v32 (F := Ideal) x7 (ix2 k n) := by
  unfold val_main_v52 val_main_v51 val_main_v50 val_main_v49
  generalize val_main_v13 x0 = y
  generalize val_main_v9 x9 = z
  generalize val_main_v48 x1 x2 x3 x4 x5 x6 = w
  generalize val_main_v32 x7 = v
  pointwise []
theorem v52_at (b : Fin 8) (i : Fin 4096) (n : Fin 1024) :
    val_main_v52 (F := Ideal) x0 x1 x2 x3 x4 x5 x6 x7 x9 (ix3 b i n) = MixSpec.stream (MixSpec.rowAt x0 x1 x2 x3 x4 x5 x6 x7 x8 x9 x10 x11 x12 b i) n := by
  rw [v52_dot]
  simp only [v13_at, v9_at, v48_at, v41_at, v44_at, v46_at, v20_at, v23_at, v26_at, v29_at, v32_at]
  rfl
theorem v64_at (b : Fin 8) (i : Fin 4096) (n : Fin 1024) :
    val_main_v64 (F := Ideal) x0 x1 x2 x3 x4 x5 x6 x7 x9 (ix3 b i n)
      = MixSpec.rms (fun k => val_main_v52 (F := Ideal) x0 x1 x2 x3 x4 x5 x6 x7 x9 (ix3 b i k)) n := by
  unfold val_main_v64 val_main_v63 val_main_v62 val_main_v61 val_main_v59 val_main_v57 val_main_v56 val_main_v55
  generalize val_main_v52 x0 x1 x2 x3 x4 x5 x6 x7 x9 = y
  pointwise [val_main_v58, val_main_v60, val_main_cst_1, val_main_cst_2, val_main_cst_3]
  rfl
theorem v73_mod (b : Fin 8) (i : Fin 4096) (n : Fin 1024) :
    val_main_v73 (F := Ideal) x0 x1 x2 x3 x4 x5 x6 x7 x8 x9 (ix3 b i n)
      = val_main_v64 (F := Ideal) x0 x1 x2 x3 x4 x5 x6 x7 x9 (ix3 b i n) * val_main_v66 (F := Ideal) x8 (ix3 b i n)
        * (1 + val_main_v11 (F := Ideal) x9 (ix3 b 0 n)) + val_main_v10 (F := Ideal) x9 (ix3 b 0 n) := by
  unfold val_main_v73 val_main_v72 val_main_v71 val_main_v70 val_main_v69 val_main_v67
  generalize val_main_v64 x0 x1 x2 x3 x4 x5 x6 x7 x9 = y
  generalize val_main_v66 x8 = z
  generalize val_main_v11 x9 = w
  generalize val_main_v10 x9 = v
  pointwise [val_main_v68, val_main_cst_4]
theorem v73_at (b : Fin 8) (i : Fin 4096) (n : Fin 1024) :
    val_main_v73 (F := Ideal) x0 x1 x2 x3 x4 x5 x6 x7 x8 x9 (ix3 b i n) = MixSpec.input (MixSpec.rowAt x0 x1 x2 x3 x4 x5 x6 x7 x8 x9 x10 x11 x12 b i) n := by
  rw [v73_mod, v64_at]
  simp only [v52_at x0 x1 x2 x3 x4 x5 x6 x7 x8 x9 x10 x11 x12, v66_at, v11_at, v10_at]
  rfl
theorem v80_dot (b : Fin 8) (i : Fin 4096) (j : Fin 5632) :
    val_main_v80 (F := Ideal) x0 x1 x2 x3 x4 x5 x6 x7 x8 x9 x10 (ix3 b i j)
      = ∑ k : Fin 1024, val_main_v73 (F := Ideal) x0 x1 x2 x3 x4 x5 x6 x7 x8 x9 (ix3 b i k) * val_main_v76 (F := Ideal) x10 (ix2 k j) := by
  unfold val_main_v80
  generalize val_main_v73 x0 x1 x2 x3 x4 x5 x6 x7 x8 x9 = y
  generalize val_main_v76 x10 = z
  pointwise []
theorem v80_at (b : Fin 8) (i : Fin 4096) (j : Fin 5632) :
    val_main_v80 (F := Ideal) x0 x1 x2 x3 x4 x5 x6 x7 x8 x9 x10 (ix3 b i j) = MixSpec.wide (MixSpec.rowAt x0 x1 x2 x3 x4 x5 x6 x7 x8 x9 x10 x11 x12 b i) j := by
  rw [v80_dot]
  simp only [v73_at x0 x1 x2 x3 x4 x5 x6 x7 x8 x9 x10 x11 x12, v76_at]
  rfl
theorem v84_at (b : Fin 8) (i : Fin 4096) (j : Fin 2816) :
    val_main_v84 (F := Ideal) x0 x1 x2 x3 x4 x5 x6 x7 x8 x9 x10 (ix3 b i j) = MixSpec.hidden (MixSpec.rowAt x0 x1 x2 x3 x4 x5 x6 x7 x8 x9 x10 x11 x12 b i) j := by
  unfold MixSpec.hidden
  rw [← v80_at, ← v80_at]
  unfold val_main_v84 val_main_v83 val_main_call0_v5 val_main_call0_v3 val_main_call0_v1 val_main_call0_v0 val_main_v81 val_main_v82
  generalize val_main_v80 x0 x1 x2 x3 x4 x5 x6 x7 x8 x9 x10 = y
  pointwise [val_main_call0_v4, val_main_call0_cst_0, val_main_call0_v2, val_main_call0_cst]
  rfl
theorem v88_dot (b : Fin 8) (i : Fin 4096) (n : Fin 1024) :
    val_main_v88 (F := Ideal) x0 x1 x2 x3 x4 x5 x6 x7 x8 x9 x10 x11 (ix3 b i n)
      = val_main_v52 (F := Ideal) x0 x1 x2 x3 x4 x5 x6 x7 x9 (ix3 b i n) + val_main_v12 (F := Ideal) x9 (ix3 b 0 n)
        * ∑ j : Fin 2816, val_main_v84 (F := Ideal) x0 x1 x2 x3 x4 x5 x6 x7 x8 x9 x10 (ix3 b i j) * val_main_v79 (F := Ideal) x11 (ix2 j n) := by
  unfold val_main_v88 val_main_v87 val_main_v86 val_main_v85
  generalize val_main_v52 x0 x1 x2 x3 x4 x5 x6 x7 x9 = y
  generalize val_main_v12 x9 = z
  generalize val_main_v84 x0 x1 x2 x3 x4 x5 x6 x7 x8 x9 x10 = w
  generalize val_main_v79 x11 = v
  pointwise []
theorem v88_at (b : Fin 8) (i : Fin 4096) (n : Fin 1024) :
    val_main_v88 (F := Ideal) x0 x1 x2 x3 x4 x5 x6 x7 x8 x9 x10 x11 (ix3 b i n) = MixSpec.after (MixSpec.rowAt x0 x1 x2 x3 x4 x5 x6 x7 x8 x9 x10 x11 x12 b i) n := by
  rw [v88_dot]
  simp only [v52_at x0 x1 x2 x3 x4 x5 x6 x7 x8 x9 x10 x11 x12, v84_at x0 x1 x2 x3 x4 x5 x6 x7 x8 x9 x10 x11 x12, v12_at, v79_at]
  rfl
theorem v98_at (b : Fin 8) (i : Fin 4096) (n : Fin 1024) :
    val_main_v98 (F := Ideal) x0 x1 x2 x3 x4 x5 x6 x7 x8 x9 x10 x11 (ix3 b i n)
      = MixSpec.rms (fun k => val_main_v88 (F := Ideal) x0 x1 x2 x3 x4 x5 x6 x7 x8 x9 x10 x11 (ix3 b i k)) n := by
  unfold val_main_v98 val_main_v97 val_main_v96 val_main_v95 val_main_v93 val_main_v91 val_main_v90 val_main_v89
  generalize val_main_v88 x0 x1 x2 x3 x4 x5 x6 x7 x8 x9 x10 x11 = y
  pointwise [val_main_v92, val_main_v94, val_main_cst_5, val_main_cst_6, val_main_cst_7]
  rfl
theorem v102_norm (b : Fin 8) (i : Fin 4096) (n : Fin 1024) :
    val_main_v102 (F := Ideal) x0 x1 x2 x3 x4 x5 x6 x7 x8 x9 x10 x11 x12 (ix2 ⟨b.val * 4096 + i.val, by omega⟩ n)
      = val_main_v98 (F := Ideal) x0 x1 x2 x3 x4 x5 x6 x7 x8 x9 x10 x11 (ix3 b i n) * x12 (ix1 n) := by
  unfold val_main_v102 val_main_v101
  generalize val_main_v98 x0 x1 x2 x3 x4 x5 x6 x7 x8 x9 x10 x11 = y
  pointwise [val_main_v100, val_main_v99]
theorem v102_at (b : Fin 8) (i : Fin 4096) (n : Fin 1024) :
    val_main_v102 (F := Ideal) x0 x1 x2 x3 x4 x5 x6 x7 x8 x9 x10 x11 x12 (ix2 ⟨b.val * 4096 + i.val, by omega⟩ n) = MixSpec.result (MixSpec.rowAt x0 x1 x2 x3 x4 x5 x6 x7 x8 x9 x10 x11 x12 b i) n := by
  rw [v102_norm, v98_at]
  simp only [v88_at x0 x1 x2 x3 x4 x5 x6 x7 x8 x9 x10 x11 x12]
  rfl

/-- The reference's result is the formula's array. -/
theorem result_eq : val_main_v102 (F := Ideal) x0 x1 x2 x3 x4 x5 x6 x7 x8 x9 x10 x11 x12 = MixSpec.array x0 x1 x2 x3 x4 x5 x6 x7 x8 x9 x10 x11 x12 := by
  funext y
  have h0 : (y 0).val < 32768 := (y 0).isLt
  have e : y = ix2 (n0 := 32768) (n1 := 1024) ⟨(y 0).val / 4096 * 4096 + (y 0).val % 4096, by omega⟩ (y 1) := by
    refine (eq_ix2 y).trans (congrArg (fun a => ix2 a (y 1)) (Fin.ext ?_))
    show (y 0).val = (y 0).val / 4096 * 4096 + (y 0).val % 4096
    omega
  rw [e]
  exact (v102_at x0 x1 x2 x3 x4 x5 x6 x7 x8 x9 x10 x11 x12 ⟨(y 0).val / 4096, by omega⟩ ⟨(y 0).val % 4096, by omega⟩ (y 1)).trans
    (MixSpec.array_at x0 x1 x2 x3 x4 x5 x6 x7 x8 x9 x10 x11 x12 ⟨(y 0).val / 4096, by omega⟩ ⟨(y 0).val % 4096, by omega⟩ (y 1)).symm

end Cert.Reference2Ideal.Mix

end
-- ==== Proof.MixClaims.lean ====
/-
  The claims of the gated mix and feed-forward call: the reference's frame, and the value claim.
-/
module

public import proofs.«01_k».proof.Defs
public import proofs.«01_k».proof.Proof.MixArray
public import proofs.«01_k».proof.Proof.MixReference
public import proofs.«01_k».proof.Proof.Gen.Reference2Ideal.Run

@[expose] public section

noncomputable section

namespace Cert.MixClaims

open Idealize.ShloMosaic Idealize.SL.Sem

/-- The reference runs, ends with its arguments unchanged and owns no semaphore. -/
theorem frame_reference : Cert.quiescent_Reference2Ideal := fun m ρ _ => (θ_run Cert.Reference2Ideal.defs _ _).mono
  (fun r h => And.intro (fun c => (h c).2) (Idealize.ShloMosaic.sem_eq_zero_of_no_sems (by decide) r.2))
  (Cert.Reference2Ideal.Value.run (F := Ideal) m ρ)

/-- From memories agreeing on the arguments, the kernel and the reference end with the same array: the formula of the
    arguments. -/
theorem algebraic : Cert.algebraic_Kernel2Ideal_Reference2Ideal := by
  intro m ρ m' ρ' hpre hag
  refine ⟨fun c => MixSpec.array (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
      (m ((c.tc : Thread Cert.Kernel2Ideal.nD Cert.Kernel2Ideal.τ).loc Cert.Kernel2Ideal.main_arg11))
      (m ((c.tc : Thread Cert.Kernel2Ideal.nD Cert.Kernel2Ideal.τ).loc Cert.Kernel2Ideal.main_arg12)), ?_, ?_⟩
  · exact (θ_run Cert.Kernel2Ideal.defs _ _).mono (fun _ h c => ⟨(h c).1.trans (Cert.Kernel2Ideal.Mix.final m c), (h c).2⟩)
      (Cert.Kernel2Ideal.Value.run_blocks m ρ)
  · refine (θ_run Cert.Reference2Ideal.defs _ _).mono (fun _ h c => ⟨(h c).1.trans ?_, (h c).2⟩) (Cert.Reference2Ideal.Value.run m' ρ')
    obtain ⟨h0, h1, h2, h3, h4, h5, h6, h7, h8, h9, h10, h11, h12⟩ := hag c
    beta_reduce
    rw [← h0, ← h1, ← h2, ← h3, ← h4, ← h5, ← h6, ← h7, ← h8, ← h9, ← h10, ← h11, ← h12]
    exact (Cert.Reference2Ideal.Read.val_main_v102_eq _).trans (Cert.Reference2Ideal.Mix.result_eq ..)

end Cert.MixClaims

end
-- ==== Proof.ProjUnit.lean ====
/-
  One block of 512 tokens of the input projection, as functions of the loaded blocks. The body normalises the stream,
  scales and shifts it, and multiplies it with three weights; the third product is stored transposed. `out6_eq`, `out7_eq`
  and `out8_eq` say that these are what the body stores.
-/
module

public import proofs.«01_k».proof.Proof.Gen.Kernel3Ideal.Frame
public import Idealize.ShloMosaic.Lib.Pipeline.Value

@[expose] public section

set_option maxRecDepth 16384

noncomputable section

namespace Cert.Kernel3Ideal.Proj

open Cert.Kernel3Ideal Cert.Kernel3Ideal.Gen Idealize.ShloMosaic Idealize.ShloMosaic.TcCoe Idealize.SL.Sem

variable {F : FTy → Type} [FloatOps F]

/-- Each row over its root mean square. -/
def normed (x : FVec F S512x1024 .f32) : FVec F S512x1024 .f32 :=
  mulf x (broadcastTo S512x1024 (rsqrt (addf (divf (shapeCast S512x1
      (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The normalised stream times its gain, scaled and shifted. -/
def modulated (x : FVec F S512x1024 .f32) (g sc sh : Vec F S1x1024 .f32) : FVec F S512x1024 .bf16 :=
  truncf .bf16 (addf (mulf (mulf (normed x) (broadcastTo S512x1024 (shapeCast S1x1024 g shapeCasts_S1x1024_S1x1024) broadcasts_S1x1024_S512x1024))
      (broadcastTo S512x1024 (addf (broadcast S1x1024 (Scalar.ofBits .f32 0x3F800000#32)) sc) broadcasts_S1x1024_S512x1024))
    (broadcastTo S512x1024 sh broadcasts_S1x1024_S512x1024)) bitsLt_bf16_f32

/-- The attention's low-rank queries, keys and values. -/
def toQkv (a : FVec F S512x1024 .bf16) (w : Vec F S1x1024x896 .bf16) : FVec F S512x896 .bf16 :=
  truncf .bf16 (matmul dot_S512x1024_S1024x896_S512x896_1_0_0_1_n_n none a (shapeCast S1024x896 w shapeCasts_S1x1024x896_S1024x896)
    (constant S512x896 .f32 0x00000000#32)) bitsLt_bf16_f32

/-- The gates. -/
def toGate (a : FVec F S512x1024 .bf16) (w : Vec F S1x1024x2048 .bf16) : FVec F S512x2048 .bf16 :=
  truncf .bf16 (matmul dot_S512x1024_S1024x2048_S512x2048_1_0_0_1_n_n none a (shapeCast S1024x2048 w shapeCasts_S1x1024x2048_S1024x2048)
    (constant S512x2048 .f32 0x00000000#32)) bitsLt_bf16_f32

/-- The Hyena mixer's input, channels first. -/
def toHyena (a : FVec F S512x1024 .bf16) (w : Vec F S1x1536x1024 .bf16) : FVec F S1536x512 .f32 :=
  matmul dot_S1536x1024_S512x1024_S1536x512_1_1_0_0_n_n none (shapeCast S1536x1024 w shapeCasts_S1x1536x1024_S1536x1024) a
    (constant S1536x512 .f32 0x00000000#32)

variable (x0 : Vec F S512x1024 .f32) (x1 : Vec F S1x1024 .f32) (x2 : Vec F S16x6144 .f32) (x3 : Vec F S1x1024x896 .bf16) (x4 : Vec F S1x1024x2048 .bf16)
  (x5 : Vec F S1x1536x1024 .bf16)

/-- The row of modulations at an offset. -/
def ldM (o : Fin 2 → Nat) (h : ∀ a, o a + S1x1024.size a ≤ S16x6144.size a) : Vec F S1x1024 .f32 :=
  View.ld x2 (Rect.unit (s := S16x6144) o S1x1024.size h)

/-- What the three weights are multiplied with at grid point `i`. -/
def input (i : grid0.Coords) : FVec F S512x1024 .bf16 :=
  modulated x0 x1 (ldM x2 (k0_off1 i) (k0_off1_inb i)) (ldM x2 (k0_off2 i) (k0_off2_inb i))

theorem zero2 (a : Fin 2) : (![0, 0] : Fin 2 → Nat) a = 0 := by revert a; decide
theorem zero3 (a : Fin 3) : (![0, 0, 0] : Fin 3 → Nat) a = 0 := by revert a; decide

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S16x6144 .f32) (harg3 : arg3.IsWhole) (arg4 : Memref sig .tc .vmem S1x1024x896 .bf16) (harg4 : arg4.IsWhole)
  (arg5 : Memref sig .tc .vmem S1x1024x2048 .bf16) (harg5 : arg5.IsWhole) (arg6 : Memref sig .tc .vmem S1x1536x1024 .bf16) (harg6 : arg6.IsWhole)
  (arg7 : Memref sig .tc .vmem S512x896 .bf16) (harg7 : arg7.IsWhole) (arg8 : Memref sig .tc .vmem S512x2048 .bf16) (harg8 : arg8.IsWhole)
  (arg9 : Memref sig .tc .vmem S1536x512 .f32) (harg9 : arg9.IsWhole)

/-- What the body stores first is the low-rank queries, keys and values. -/
theorem out6_eq : out0_A_6 c i arg1 harg1 arg2 harg2 arg3 harg3 arg4 harg4 arg5 harg5 arg6 harg6 arg7 harg7 arg8 harg8 arg9 harg9 x0 x1 x2 x3 x4 x5
    = toQkv (input x0 x1 x2 i) x3 := by
  unfold out0_A_6
  rw [View.read_writes_junk_eq_canon]
  unfold kernelRun0_A
  dsimp only
  sl_unfold_words
  rw [View.canon_unit_zero (S := S512x896) (funext zero2)]
  simp only [View.readAt_eq_ld, harg1.read_unread, harg2.read_unread, harg3.read_unread, harg4.read_unread]
  simp only [View.ld_unit_zero (S := S512x1024) (funext zero2), View.ld_unit_zero (S := S1x1024) (funext zero2), View.ld_unit_zero (S := S1x1024x896) (funext zero3)]
  rfl

/-- What it stores second is the gates. -/
theorem out7_eq : out0_A_7 c i arg1 harg1 arg2 harg2 arg3 harg3 arg4 harg4 arg5 harg5 arg6 harg6 arg7 harg7 arg8 harg8 arg9 harg9 x0 x1 x2 x3 x4 x5
    = toGate (input x0 x1 x2 i) x4 := by
  unfold out0_A_7
  rw [View.read_writes_junk_eq_canon]
  unfold kernelRun0_A
  dsimp only
  sl_unfold_words
  rw [View.canon_unit_zero (S := S512x2048) (funext zero2)]
  simp only [View.readAt_eq_ld, harg1.read_unread, harg2.read_unread, harg3.read_unread, harg5.read_unread]
  simp only [View.ld_unit_zero (S := S512x1024) (funext zero2), View.ld_unit_zero (S := S1x1024) (funext zero2), View.ld_unit_zero (S := S1x1024x2048) (funext zero3)]
  rfl

/-- What it stores third is the Hyena mixer's input. -/
theorem out8_eq : out0_A_8 c i arg1 harg1 arg2 harg2 arg3 harg3 arg4 harg4 arg5 harg5 arg6 harg6 arg7 harg7 arg8 harg8 arg9 harg9 x0 x1 x2 x3 x4 x5
    = toHyena (input x0 x1 x2 i) x5 := by
  unfold out0_A_8
  rw [View.read_writes_junk_eq_canon]
  unfold kernelRun0_A
  dsimp only
  sl_unfold_words
  rw [View.canon_unit_zero (S := S1536x512) (funext zero2)]
  simp only [View.readAt_eq_ld, harg1.read_unread, harg2.read_unread, harg3.read_unread, harg6.read_unread]
  simp only [View.ld_unit_zero (S := S512x1024) (funext zero2), View.ld_unit_zero (S := S1x1024) (funext zero2), View.ld_unit_zero (S := S1x1536x1024) (funext zero3)]
  rfl

end Cert.Kernel3Ideal.Proj

end
-- ==== Proof.ProjSpec.lean ====
/-
  The input projection as formulas over the extended reals: the normalised and modulated stream of a token, and its
  products with the three weights.
-/
module

public import proofs.«01_k».proof.Proof.MixSpec

@[expose] public section

noncomputable section

namespace Cert.ProjSpec

open Idealize.ShloMosaic

/-- A token's stream `h` over its root mean square, times the gain `g`, scaled by `1 + sc` and shifted by `sh`. -/
def input (h g sc sh : Fin 1024 → EReal) (n : Fin 1024) : EReal := MixSpec.rms h n * g n * (1 + sc n) + sh n

/-! ## Of arrays -/

section Arrays

variable (h : (⟨2, ![32768, 1024]⟩ : Shape).Idx → EReal) (g : (⟨1, ![1024]⟩ : Shape).Idx → EReal) (mods : (⟨2, ![16, 6144]⟩ : Shape).Idx → EReal)
  (wq : (⟨3, ![2, 1024, 896]⟩ : Shape).Idx → EReal) (wg : (⟨3, ![2, 1024, 2048]⟩ : Shape).Idx → EReal) (wh : (⟨3, ![2, 1536, 1024]⟩ : Shape).Idx → EReal)

/-- What the weights are multiplied with, for token `i` of batch element `b`. -/
def inputAt (b : Fin 8) (i : Fin 4096) : Fin 1024 → EReal :=
  input (fun n => h (ix2 ⟨b.val * 4096 + i.val, by omega⟩ n)) (fun n => g (ix1 n)) (fun n => mods (ix2 ⟨b.val, by omega⟩ ⟨1024 + n.val, by omega⟩))
    (fun n => mods (ix2 ⟨b.val, by omega⟩ ⟨n.val, by omega⟩))

/-- The same by the token's row among all batch elements' tokens. -/
def inputRow (r : Fin 32768) : Fin 1024 → EReal := inputAt h g mods ⟨r.val / 4096, by omega⟩ ⟨r.val % 4096, by omega⟩

theorem inputRow_at (b : Fin 8) (i : Fin 4096) (hr : b.val * 4096 + i.val < 32768) : inputRow h g mods ⟨b.val * 4096 + i.val, hr⟩ = inputAt h g mods b i := by
  unfold inputRow
  congr 1 <;> apply Fin.ext <;> simp only [] <;> omega

/-- The low-rank queries, keys and values, with the last layer's weight. -/
def qkv (y : (⟨2, ![32768, 896]⟩ : Shape).Idx) : EReal := ∑ k, inputRow h g mods (y 0) k * wq (ix3 1 k (y 1))

/-- The gates. -/
def gate (y : (⟨2, ![32768, 2048]⟩ : Shape).Idx) : EReal := ∑ k, inputRow h g mods (y 0) k * wg (ix3 1 k (y 1))

/-- The Hyena mixer's input, channels first. -/
def hyena (y : (⟨2, ![1536, 32768]⟩ : Shape).Idx) : EReal := ∑ k, inputRow h g mods (y 1) k * wh (ix3 1 (y 0) k)

end Arrays

end Cert.ProjSpec

end
-- ==== Proof.ProjRead.lean ====
/-
  What one block of the input projection holds over the extended reals.
-/
module

public import proofs.«01_k».proof.Proof.ProjUnit
public import proofs.«01_k».proof.Proof.ProjSpec
public import Idealize.ShloMosaic.Lib.Pointwise

@[expose] public section

set_option maxRecDepth 16384

noncomputable section

namespace Cert.Kernel3Ideal.Proj

open Cert.Kernel3Ideal Cert.Kernel3Ideal.Gen Idealize.ShloMosaic Idealize.ShloMosaic.TcCoe Idealize.SL.Sem

theorem normed_apply (x : FVec Ideal S512x1024 .f32) (p : Fin 512) (n : Fin 1024) :
    normed (F := Ideal) x (ix2 p n) = MixSpec.rms (fun k => x (ix2 p k)) n := by
  pointwise [normed]
  rfl
theorem modulated_apply (x : FVec Ideal S512x1024 .f32) (g sc sh : Vec Ideal S1x1024 .f32) (p : Fin 512) (n : Fin 1024) :
    modulated (F := Ideal) x g sc sh (ix2 p n)
      = ProjSpec.input (fun k => x (ix2 p k)) (fun k => g (ix2 0 k)) (fun k => sc (ix2 0 k)) (fun k => sh (ix2 0 k)) n := by
  unfold ProjSpec.input
  rw [← normed_apply]
  unfold modulated
  generalize normed x = y
  pointwise []
theorem toQkv_apply (a : FVec Ideal S512x1024 .bf16) (w : Vec Ideal S1x1024x896 .bf16) (p : Fin 512) (j : Fin 896) :
    toQkv (F := Ideal) a w (ix2 p j) = ∑ k : Fin 1024, a (ix2 p k) * w (ix3 0 k j) := by
  pointwise [toQkv]
theorem toGate_apply (a : FVec Ideal S512x1024 .bf16) (w : Vec Ideal S1x1024x2048 .bf16) (p : Fin 512) (j : Fin 2048) :
    toGate (F := Ideal) a w (ix2 p j) = ∑ k : Fin 1024, a (ix2 p k) * w (ix3 0 k j) := by
  pointwise [toGate]
theorem toHyena_apply (a : FVec Ideal S512x1024 .bf16) (w : Vec Ideal S1x1536x1024 .bf16) (r : Fin 1536) (p : Fin 512) :
    toHyena (F := Ideal) a w (ix2 r p) = ∑ k : Fin 1024, a (ix2 p k) * w (ix3 0 r k) := by
  refine Eq.trans (b := ∑ k : Fin 1024, w (ix3 0 r k) * a (ix2 p k)) ?_ (Finset.sum_congr rfl fun k _ => mul_comm _ _)
  pointwise [toHyena]

end Cert.Kernel3Ideal.Proj

end
-- ==== Proof.ProjArray.lean ====
/-
  The three arrays the input projection leaves: those of `ProjSpec`, at every index.
-/
module

public import proofs.«01_k».proof.Proof.ProjRead
public import proofs.«01_k».proof.Proof.Gen.Kernel3Ideal.Value
public import Idealize.ShloMosaic.Lib.Pipeline.ValueKit

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)

/-- Which blocks grid point `t` reads and writes: the tokens `t` of the stream and the results, the last layer of the weights. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![1, 0, 0] := (by decide +kernel : ∀ t : Fin grid0.N, win0_3.index t = ![1, 0, 0])
theorem idx4 : ∀ t : Fin cfg0.N, win0_4.index t = ![1, 0, 0] := (by decide +kernel : ∀ t : Fin grid0.N, win0_4.index t = ![1, 0, 0])
theorem idx5 : ∀ t : Fin cfg0.N, win0_5.index t = ![1, 0, 0] := (by decide +kernel : ∀ t : Fin grid0.N, win0_5.index t = ![1, 0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, t.val] := (by decide +kernel : ∀ t : Fin grid0.N, win0_8.index t = ![0, t.val])

/-- Where the modulations of grid point `t` lie: in the row of its batch element `t / 8`. -/
theorem off1 : ∀ t : Fin cfg0.N, k0_off1 (grid0.coords t) = ![t.val / 8, 1024] := (by decide +kernel : ∀ t : Fin grid0.N, k0_off1 (grid0.coords t) = ![t.val / 8, 1024])
theorem off2 : ∀ t : Fin cfg0.N, k0_off2 (grid0.coords t) = ![t.val / 8, 0] := (by decide +kernel : ∀ t : Fin grid0.N, k0_off2 (grid0.coords t) = ![t.val / 8, 0])

theorem ldM_apply (x2 : Vec Ideal S16x6144 .f32) (o : Fin 2 → Nat) (h : ∀ a, o a + S1x1024.size a ≤ S16x6144.size a) (a b : Nat) (ho : o = ![a, b])
    (ha : a < 16) (n : Fin 1024) (hb : b + n.val < 6144) : ldM x2 o h (ix2 0 n) = x2 (ix2 ⟨a, ha⟩ ⟨b + n.val, hb⟩) := by
  subst ho
  pointwise [ldM]

variable (m : (ℓ : Loc nD τ sig) → Buf (Elt Ideal) ℓ) (c : Dev nD)

/-- The norm's gain reaches the kernel as one row. -/
theorem gain (n : Fin 1024) : V m c main_v0 (ix2 0 n) = m ((c : Thread nD τ).loc main_arg1) (ix1 n) := by
  have e : V m c main_v0 = shapeCast S1x1024 (m ((c : Thread nD τ).loc main_arg1)) shapeCasts_S1024_S1x1024 := by
    simp only [V, hostOps0, StableHlo.after_cons, StableHlo.after_nil]
    exact StableHlo.reshape_result main_arg1 main_v0 rfl shapeCasts_S1024_S1x1024 _ _ _
  rw [e]
  pointwise []

/-- What the weights are multiplied with at token `p` of grid point `t`, out of the argument arrays. -/
theorem input_eq (t : Fin cfg0.N) (p : Fin 512) (k : Fin 1024) (r : Fin 32768) (hr : r.val = t.val * 512 + p.val) :
    input (iblk m c 0 t) (iblk m c 1 t) (iblk m c 2 t) (grid0.coords t) (ix2 p k)
      = ProjSpec.inputRow (m ((c : Thread nD τ).loc main_arg0)) (m ((c : Thread nD τ).loc main_arg1)) (m ((c : Thread nD τ).loc main_arg2)) r k := by
  have ht : t.val < 64 := t.isLt
  unfold input
  rw [modulated_apply]
  have e : r = ⟨(⟨t.val / 8, by omega⟩ : Fin 8).val * 4096 + (⟨t.val % 8 * 512 + p.val, by omega⟩ : Fin 4096).val, by simp only []; omega⟩ := by
    apply Fin.ext; simp only []; omega
  rw [e, ProjSpec.inputRow_at]
  unfold ProjSpec.inputAt
  congr 1 <;> funext n
  · rw [← V_main_arg0 m c]
    blk_ext [iblk, idx0 t]
  · rw [← gain m c]
    blk_ext [iblk, idx1 t]
  · rw [ldM_apply _ _ _ _ _ (off1 t) (by omega) n (by omega)]
    rw [← V_main_arg2 m c]
    blk_ext [iblk, idx2 t]
  · rw [ldM_apply _ _ _ _ _ (off2 t) (by omega) n (by omega)]
    rw [← V_main_arg2 m c]
    blk_ext [iblk, idx2 t]

/-- The three blocks grid point `t` leaves, with `r` the row of the block's token `p`. -/
theorem outs6_apply (t : Fin cfg0.N) (p : Fin 512) (j : Fin 896) (r : Fin 32768) (hr : r.val = t.val * 512 + p.val) :
    (outsAt0 m c t).1 (ix2 p j) = ProjSpec.qkv (m ((c : Thread nD τ).loc main_arg0)) (m ((c : Thread nD τ).loc main_arg1)) (m ((c : Thread nD τ).loc main_arg2))
      (m ((c : Thread nD τ).loc main_arg3)) (ix2 r j) := by
  unfold outsAt0
  dsimp only
  rw [out6_eq, toQkv_apply]
  refine Finset.sum_congr rfl fun k _ => congrArg₂ _ (input_eq m c t p k r hr) ?_
  show iblk m c 3 t (ix3 0 k j) = m ((c : Thread nD τ).loc main_arg3) (ix3 1 k j)
  rw [← V_main_arg3 m c]
  blk_ext [iblk, idx3 t]
theorem outs7_apply (t : Fin cfg0.N) (p : Fin 512) (j : Fin 2048) (r : Fin 32768) (hr : r.val = t.val * 512 + p.val) :
    (outsAt0 m c t).2.1 (ix2 p j) = ProjSpec.gate (m ((c : Thread nD τ).loc main_arg0)) (m ((c : Thread nD τ).loc main_arg1)) (m ((c : Thread nD τ).loc main_arg2))
      (m ((c : Thread nD τ).loc main_arg4)) (ix2 r j) := by
  unfold outsAt0
  dsimp only
  rw [out7_eq, toGate_apply]
  refine Finset.sum_congr rfl fun k _ => congrArg₂ _ (input_eq m c t p k r hr) ?_
  show iblk m c 4 t (ix3 0 k j) = m ((c : Thread nD τ).loc main_arg4) (ix3 1 k j)
  rw [← V_main_arg4 m c]
  blk_ext [iblk, idx4 t]
theorem outs8_apply (t : Fin cfg0.N) (p : Fin 512) (j : Fin 1536) (r : Fin 32768) (hr : r.val = t.val * 512 + p.val) :
    (outsAt0 m c t).2.2 (ix2 j p) = ProjSpec.hyena (m ((c : Thread nD τ).loc main_arg0)) (m ((c : Thread nD τ).loc main_arg1)) (m ((c : Thread nD τ).loc main_arg2))
      (m ((c : Thread nD τ).loc main_arg5)) (ix2 j r) := by
  unfold outsAt0
  dsimp only
  rw [out8_eq, toHyena_apply]
  refine Finset.sum_congr rfl fun k _ => congrArg₂ _ (input_eq m c t p k r hr) ?_
  show iblk m c 5 t (ix3 0 j k) = m ((c : Thread nD τ).loc main_arg5) (ix3 1 j k)
  rw [← V_main_arg5 m c]
  blk_ext [iblk, idx5 t]

/-- The final arrays of the three output windows. -/
theorem final6 :
    (dats m 0 c).arrAt 6 cfg0.N = ProjSpec.qkv (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  have ht : t.val < 64 := t.isLt
  have hp : (y 0).val < 512 := (y 0).isLt
  blk_simp
  rw [after0_6]
  rw [eq_ix2 y]
  refine (outs6_apply m c t (y 0) (y 1) ⟨t.val * 512 + (y 0).val, by omega⟩ rfl).trans (congrArg _ ?_)
  blk_ext [idx6 t]
theorem final7 :
    (dats m 0 c).arrAt 7 cfg0.N = ProjSpec.gate (m ((c : Thread nD τ).loc main_arg0)) (m ((c : Thread nD τ).loc main_arg1)) (m ((c : Thread nD τ).loc main_arg2))
      (m ((c : Thread nD τ).loc main_arg4)) := by
  refine (dats m 0 c).arrAt_eq_of_covers 7 _ (by decide +kernel) fun t hf y => ?_
  have ht : t.val < 64 := t.isLt
  have hp : (y 0).val < 512 := (y 0).isLt
  blk_simp
  rw [after0_7]
  rw [eq_ix2 y]
  refine (outs7_apply m c t (y 0) (y 1) ⟨t.val * 512 + (y 0).val, by omega⟩ rfl).trans (congrArg _ ?_)
  blk_ext [idx7 t]
theorem final8 :
    (dats m 0 c).arrAt 8 cfg0.N = ProjSpec.hyena (m ((c : Thread nD τ).loc main_arg0)) (m ((c : Thread nD τ).loc main_arg1)) (m ((c : Thread nD τ).loc main_arg2))
      (m ((c : Thread nD τ).loc main_arg5)) := by
  refine (dats m 0 c).arrAt_eq_of_covers 8 _ (by decide +kernel) fun t hf y => ?_
  have ht : t.val < 64 := t.isLt
  have hp : (y 1).val < 512 := (y 1).isLt
  blk_simp
  rw [after0_8]
  rw [eq_ix2 y]
  refine (outs8_apply m c t (y 1) (y 0) ⟨t.val * 512 + (y 1).val, by omega⟩ rfl).trans (congrArg _ ?_)
  blk_ext [idx8 t]

end Cert.Kernel3Ideal.Proj

end
-- ==== Proof.ProjReference.lean ====
/-
  The reference program's three results at an index: the sums of `ProjSpec`.
-/
module

public import proofs.«01_k».proof.Proof.ProjSpec
public import proofs.«01_k».proof.Proof.Gen.Reference3Ideal.Read
public import Idealize.ShloMosaic.Lib.Pointwise

@[expose] public section

set_option maxRecDepth 16384

noncomputable section

namespace Cert.Reference3Ideal.Proj

open Cert.Reference3Ideal Cert.Reference3Ideal.Gen Cert.Reference3Ideal.Read Idealize.ShloMosaic Idealize.ShloMosaic.TcCoe Idealize.SL.Sem Idealize.ShloMosaic.StableHlo

variable (x0 : (⟨S32768x1024, .f32⟩ : BufTy).Contents (Elt Ideal)) (x1 : (⟨S1024, .f32⟩ : BufTy).Contents (Elt Ideal))
  (x2 : (⟨S16x6144, .f32⟩ : BufTy).Contents (Elt Ideal)) (x3 : (⟨S2x1024x896, .bf16⟩ : BufTy).Contents (Elt Ideal))
  (x4 : (⟨S2x1024x2048, .bf16⟩ : BufTy).Contents (Elt Ideal)) (x5 : (⟨S2x1536x1024, .bf16⟩ : BufTy).Contents (Elt Ideal))

/-! ## The arguments, as the reference reshapes them -/

theorem v7_at (b : Fin 8) (n : Fin 1024) : val_main_v7 (F := Ideal) x2 (ix3 b 0 n) = x2 (ix2 ⟨b.val, by omega⟩ ⟨n.val, by omega⟩) := by
  pointwise [val_main_v7, val_main_v1, val_main_v0]
theorem v8_at (b : Fin 8) (n : Fin 1024) : val_main_v8 (F := Ideal) x2 (ix3 b 0 n) = x2 (ix2 ⟨b.val, by omega⟩ ⟨1024 + n.val, by omega⟩) := by
  pointwise [val_main_v8, val_main_v2, val_main_v0]
theorem v13_at (b : Fin 8) (i : Fin 4096) (n : Fin 1024) : val_main_v13 (F := Ideal) x0 (ix3 b i n) = x0 (ix2 ⟨b.val * 4096 + i.val, by omega⟩ n) := by
  pointwise [val_main_v13]
theorem v35_at (k : Fin 1024) (j : Fin 896) : val_main_v35 (F := Ideal) x3 (ix2 k j) = x3 (ix3 1 k j) := by
  pointwise [val_main_v35, val_main_v34, val_main_v33]
theorem v41_at (k : Fin 1024) (j : Fin 2048) : val_main_v41 (F := Ideal) x4 (ix2 k j) = x4 (ix3 1 k j) := by
  pointwise [val_main_v41, val_main_v40, val_main_v39]
theorem v48_at (k : Fin 1024) (r : Fin 1536) : val_main_v48 (F := Ideal) x5 (ix2 k r) = x5 (ix3 1 r k) := by
  pointwise [val_main_v48, val_main_v47, val_main_v46, val_main_v45]

/-! ## The stages -/

theorem v23_at (b : Fin 8) (i : Fin 4096) (n : Fin 1024) :
    val_main_v23 (F := Ideal) x0 (ix3 b i n) = MixSpec.rms (fun k => val_main_v13 (F := Ideal) x0 (ix3 b i k)) n := by
  unfold val_main_v23 val_main_v22 val_main_v21 val_main_v20 val_main_v18 val_main_v16 val_main_v15 val_main_v14
  generalize val_main_v13 x0 = y
  pointwise [val_main_v17, val_main_v19, val_main_cst, val_main_cst_0, val_main_cst_1]
  rfl
theorem v32_mod (b : Fin 8) (i : Fin 4096) (n : Fin 1024) :
    val_main_v32 (F := Ideal) x0 x1 x2 (ix3 b i n)
      = val_main_v23 (F := Ideal) x0 (ix3 b i n) * x1 (ix1 n) * (1 + val_main_v8 (F := Ideal) x2 (ix3 b 0 n)) + val_main_v7 (F := Ideal) x2 (ix3 b 0 n) := by
  unfold val_main_v32 val_main_v31 val_main_v30 val_main_v29 val_main_v28 val_main_v26
  generalize val_main_v23 x0 = y
  generalize val_main_v8 x2 = w
  generalize val_main_v7 x2 = v
  pointwise [val_main_v25, val_main_v24, val_main_v27, val_main_cst_2]
theorem v32_at (b : Fin 8) (i : Fin 4096) (n : Fin 1024) : val_main_v32 (F := Ideal) x0 x1 x2 (ix3 b i n) = ProjSpec.inputAt x0 x1 x2 b i n := by
  rw [v32_mod, v23_at, v8_at, v7_at]
  simp only [v13_at]
  rfl
theorem v38_at (b : Fin 8) (i : Fin 4096) (j : Fin 896) :
    val_main_v38 (F := Ideal) x0 x1 x2 x3 (ix2 ⟨b.val * 4096 + i.val, by omega⟩ j) = ∑ k : Fin 1024, ProjSpec.inputAt x0 x1 x2 b i k * x3 (ix3 1 k j) := by
  simp only [← v32_at, ← v35_at]
  unfold val_main_v38 val_main_v37 val_main_v36
  generalize val_main_v32 x0 x1 x2 = y
  generalize val_main_v35 x3 = z
  pointwise []
theorem v44_at (b : Fin 8) (i : Fin 4096) (j : Fin 2048) :
    val_main_v44 (F := Ideal) x0 x1 x2 x4 (ix2 ⟨b.val * 4096 + i.val, by omega⟩ j) = ∑ k : Fin 1024, ProjSpec.inputAt x0 x1 x2 b i k * x4 (ix3 1 k j) := by
  simp only [← v32_at, ← v41_at]
  unfold val_main_v44 val_main_v43 val_main_v42
  generalize val_main_v32 x0 x1 x2 = y
  generalize val_main_v41 x4 = z
  pointwise []
theorem v51_at (b : Fin 8) (i : Fin 4096) (r : Fin 1536) :
    val_main_v51 (F := Ideal) x0 x1 x2 x5 (ix2 r ⟨b.val * 4096 + i.val, by omega⟩) = ∑ k : Fin 1024, ProjSpec.inputAt x0 x1 x2 b i k * x5 (ix3 1 r k) := by
  simp only [← v32_at, ← v48_at]
  unfold val_main_v51 val_main_v50 val_main_v49
  generalize val_main_v32 x0 x1 x2 = y
  generalize val_main_v48 x5 = z
  pointwise []

/-! ## The results -/

theorem split (r : Fin 32768) : r = ⟨(⟨r.val / 4096, by omega⟩ : Fin 8).val * 4096 + (⟨r.val % 4096, by omega⟩ : Fin 4096).val, by simp only []; omega⟩ := by
  apply Fin.ext
  simp only []
  omega

theorem qkv_eq : val_main_v38 (F := Ideal) x0 x1 x2 x3 = ProjSpec.qkv x0 x1 x2 x3 := by
  funext y
  have e : y = ix2 (n0 := 32768) (n1 := 896) _ (y 1) := (eq_ix2 y).trans (congrArg (fun a => ix2 a (y 1)) (split (y 0)))
  exact (congrArg _ e).trans (v38_at x0 x1 x2 x3 ⟨(y 0).val / 4096, _⟩ ⟨(y 0).val % 4096, _⟩ (y 1))

theorem gate_eq : val_main_v44 (F := Ideal) x0 x1 x2 x4 = ProjSpec.gate x0 x1 x2 x4 := by
  funext y
  have e : y = ix2 (n0 := 32768) (n1 := 2048) _ (y 1) := (eq_ix2 y).trans (congrArg (fun a => ix2 a (y 1)) (split (y 0)))
  exact (congrArg _ e).trans (v44_at x0 x1 x2 x4 ⟨(y 0).val / 4096, _⟩ ⟨(y 0).val % 4096, _⟩ (y 1))

theorem hyena_eq : val_main_v51 (F := Ideal) x0 x1 x2 x5 = ProjSpec.hyena x0 x1 x2 x5 := by
  funext y
  have e : y = ix2 (n0 := 1536) (n1 := 32768) (y 0) _ := (eq_ix2 y).trans (congrArg (fun a => ix2 (y 0) a) (split (y 1)))
  exact (congrArg _ e).trans (v51_at x0 x1 x2 x5 ⟨(y 1).val / 4096, _⟩ ⟨(y 1).val % 4096, _⟩ (y 0))

end Cert.Reference3Ideal.Proj

end
-- ==== Proof.ProjClaims.lean ====
/-
  The claims of the input projection: the reference's frame, and the value claim of its three results.
-/
module

public import proofs.«01_k».proof.Defs
public import proofs.«01_k».proof.Proof.ProjArray
public import proofs.«01_k».proof.Proof.ProjReference
public import proofs.«01_k».proof.Proof.Gen.Reference3Ideal.Run

@[expose] public section

noncomputable section

namespace Cert.ProjClaims

open Idealize.ShloMosaic Idealize.SL.Sem

/-- The reference runs, ends with its arguments unchanged and owns no semaphore. -/
theorem frame_reference : Cert.quiescent_Reference3Ideal := fun m ρ _ => (θ_run Cert.Reference3Ideal.defs _ _).mono
  (fun r h => And.intro (fun c => (h c).2.2.2) (Idealize.ShloMosaic.sem_eq_zero_of_no_sems (by decide) r.2))
  (Cert.Reference3Ideal.Value.run (F := Ideal) m ρ)

/-- From memories agreeing on the arguments, the kernel and the reference end with the same three arrays: the sums of
    `ProjSpec` of the arguments. -/
theorem algebraic : Cert.algebraic_Kernel3Ideal_Reference3Ideal := by
  intro m ρ m' ρ' hpre hag
  refine ⟨fun c => ProjSpec.qkv (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3)),
      fun c => ProjSpec.gate (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg4)),
      fun c => ProjSpec.hyena (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg5)), ?_, ?_⟩
  · exact (θ_run Cert.Kernel3Ideal.defs _ _).mono
      (fun _ h c => ⟨(h c).1.trans (Cert.Kernel3Ideal.Proj.final6 m c), (h c).2.1.trans (Cert.Kernel3Ideal.Proj.final7 m c),
        (h c).2.2.1.trans (Cert.Kernel3Ideal.Proj.final8 m c), (h c).2.2.2⟩)
      (Cert.Kernel3Ideal.Value.run_blocks m ρ)
  · refine (θ_run Cert.Reference3Ideal.defs _ _).mono
      (fun _ h c => ⟨(h c).1.trans ?_, (h c).2.1.trans ?_, (h c).2.2.1.trans ?_, (h c).2.2.2⟩) (Cert.Reference3Ideal.Value.run m' ρ')
    · obtain ⟨h0, h1, h2, h3, h4, h5⟩ := hag c
      beta_reduce
      rw [← h0, ← h1, ← h2, ← h3]
      exact (Cert.Reference3Ideal.Read.val_main_v38_eq _ _ _ _).trans (Cert.Reference3Ideal.Proj.qkv_eq ..)
    · obtain ⟨h0, h1, h2, h3, h4, h5⟩ := hag c
      beta_reduce
      rw [← h0, ← h1, ← h2, ← h4]
      exact (Cert.Reference3Ideal.Read.val_main_v44_eq _ _ _ _).trans (Cert.Reference3Ideal.Proj.gate_eq ..)
    · obtain ⟨h0, h1, h2, h3, h4, h5⟩ := hag c
      beta_reduce
      rw [← h0, ← h1, ← h2, ← h5]
      exact (Cert.Reference3Ideal.Read.val_main_v51_eq _ _ _ _).trans (Cert.Reference3Ideal.Proj.hyena_eq ..)

end Cert.ProjClaims

end
-- ==== Proof.QkvUnit.lean ====
/-
  One block of 512 tokens of the projection up to the queries, keys and values. The body stores sixteen heads of queries and
  sixteen heads of keys, each into its own 128 columns. `headQ` and `headK` are what one head stores, as functions of
  the products with the weights; `out8_eq`, `out9_eq` and `out10_eq` say that these are what the body stores.
-/
module

public import proofs.«01_k».proof.Proof.Gen.Kernel4Ideal.Frame
public import Idealize.ShloMosaic.Lib.Pipeline.Value

@[expose] public section

set_option maxRecDepth 16384

noncomputable section

namespace Cert.Kernel4Ideal.Qkv

open Cert.Kernel4Ideal Cert.Kernel4Ideal.Gen Idealize.ShloMosaic Idealize.ShloMosaic.TcCoe Idealize.SL.Sem

variable {F : FTy → Type} [FloatOps F]

/-- The `k`-th store, counted from the last, is head `15 - k`'s. -/
def hd (k : Fin 16) : Fin 16 := ⟨15 - k.val, by omega⟩

theorem inb (h : Fin 16) : ∀ a, (![0, h.val * 128] : Fin 2 → Nat) a + S512x128.size a ≤ S512x2048.size a := by
  revert h; decide +kernel
theorem cut (h : Fin 16) : S512x2048.Slices ![0, h.val * 128] S512x128 := ⟨rfl, inb h⟩

/-- Head `h`'s columns of a product. -/
def head (Q : FVec F S512x2048 .f32) (h : Fin 16) : FVec F S512x128 .f32 := extractStridedSlice S512x128 ![0, h.val * 128] Q (cut h)

/-- Head `h` of the queries: the product times one table, plus the product rotated either way times another. -/
def headQ (Q : FVec F S512x2048 .f32) (c a b : FVec F S512x128 .f32) (h : Fin 16) : FVec F S512x128 .bf16 :=
  truncf .bf16 (addf (addf (mulf (head Q h) c) (mulf (dynamicRotate 1 112#32 none (head Q h) rotates_S512x128_d1) a))
    (mulf (dynamicRotate 1 16#32 none (head Q h) rotates_S512x128_d1) b)) bitsLt_bf16_f32

/-- Head `h` of the keys: the product plus the rotated lanes common to all heads. -/
def headK (K : FVec F S512x2048 .f32) (kr : FVec F S512x128 .f32) (h : Fin 16) : FVec F S512x128 .bf16 :=
  truncf .bf16 (addf (head K h) kr) bitsLt_bf16_f32

variable (x0 : Vec F S512x896 .bf16) (x1 : Vec F S1x1x384 .f32) (x2 : Vec F S1x1x256 .f32) (x3 : Vec F S1x384x2048 .bf16) (x4 : Vec F S1x256x2048 .bf16)
  (x5 : Vec F S1x1024x256 .bf16) (x6 : Vec F S512x128 .f32) (x7 : Vec F S512x128 .f32)

theorem zero2 (a : Fin 2) : (![0, 0] : Fin 2 → Nat) a = 0 := by revert a; decide
theorem zero3 (a : Fin 3) : (![0, 0, 0] : Fin 3 → Nat) a = 0 := by revert a; decide

/-- The queries' block is the sixteen heads, each at its columns. -/
theorem out8_eq : out0_8 x0 x1 x2 x3 x4 x5 x6 x7 = View.canon (List.ofFn fun k : Fin 16 =>
    (⟨Rect.unit (s := S512x2048) ![0, (hd k).val * 128] S512x128.size (inb (hd k)),
      headQ (k0_pay13 (k0_pay6 x0 x1) x3) (k0_pay15 (k0_pay9 x6)) (k0_pay16 (k0_pay10 x7)) (k0_pay17 (k0_pay10 x7)) (hd k)⟩ : View.Piece (Elt F) S512x2048 .bf16)) := by
  have e : ∀ y0 y1 y3 y6 y7, y0 = x0 → y1 = x1 → y3 = x3 → y6 = x6 → y7 = x7 → View.canon (List.ofFn fun k : Fin 16 =>
    (⟨Rect.unit (s := S512x2048) ![0, (hd k).val * 128] S512x128.size (inb (hd k)),
      headQ (k0_pay13 (k0_pay6 y0 y1) y3) (k0_pay15 (k0_pay9 y6)) (k0_pay16 (k0_pay10 y7)) (k0_pay17 (k0_pay10 y7)) (hd k)⟩ : View.Piece (Elt F) S512x2048 .bf16))
    = View.canon (List.ofFn fun k : Fin 16 =>
    (⟨Rect.unit (s := S512x2048) ![0, (hd k).val * 128] S512x128.size (inb (hd k)),
      headQ (k0_pay13 (k0_pay6 x0 x1) x3) (k0_pay15 (k0_pay9 x6)) (k0_pay16 (k0_pay10 x7)) (k0_pay17 (k0_pay10 x7)) (hd k)⟩ : View.Piece (Elt F) S512x2048 .bf16)) := by
    rintro _ _ _ _ _ rfl rfl rfl rfl rfl; rfl
  exact Eq.trans (by rfl) (e (View.ld x0 r0_0) (View.ld x1 r0_1) (View.ld x3 r0_4) (View.ld x6 r0_3) (View.ld x7 r0_3)
    (View.ld_unit_zero (S := S512x896) (funext zero2) _ _) (View.ld_unit_zero (S := S1x1x384) (funext zero3) _ _)
    (View.ld_unit_zero (S := S1x384x2048) (funext zero3) _ _) (View.ld_unit_zero (S := S512x128) (funext zero2) _ _)
    (View.ld_unit_zero (S := S512x128) (funext zero2) _ _))

/-- The keys' block is the sixteen heads, each at its columns. -/
theorem out9_eq : out0_9 x0 x1 x2 x3 x4 x5 x6 x7 = View.canon (List.ofFn fun k : Fin 16 =>
    (⟨Rect.unit (s := S512x2048) ![0, (hd k).val * 128] S512x128.size (inb (hd k)),
      headK (k0_pay14 (k0_pay7 x0 x2) x4) (k0_pay12 (k0_pay8 x0) (k0_pay10 x7) (k0_pay11 x0 x6)) (hd k)⟩ : View.Piece (Elt F) S512x2048 .bf16)) := by
  have e : ∀ y0 y2 y4 y6 y7, y0 = x0 → y2 = x2 → y4 = x4 → y6 = x6 → y7 = x7 → View.canon (List.ofFn fun k : Fin 16 =>
    (⟨Rect.unit (s := S512x2048) ![0, (hd k).val * 128] S512x128.size (inb (hd k)),
      headK (k0_pay14 (k0_pay7 y0 y2) y4) (k0_pay12 (k0_pay8 y0) (k0_pay10 y7) (k0_pay11 y0 y6)) (hd k)⟩ : View.Piece (Elt F) S512x2048 .bf16))
    = View.canon (List.ofFn fun k : Fin 16 =>
    (⟨Rect.unit (s := S512x2048) ![0, (hd k).val * 128] S512x128.size (inb (hd k)),
      headK (k0_pay14 (k0_pay7 x0 x2) x4) (k0_pay12 (k0_pay8 x0) (k0_pay10 x7) (k0_pay11 x0 x6)) (hd k)⟩ : View.Piece (Elt F) S512x2048 .bf16)) := by
    rintro _ _ _ _ _ rfl rfl rfl rfl rfl; rfl
  exact Eq.trans (by rfl) (e (View.ld x0 r0_0) (View.ld x2 r0_2) (View.ld x4 r0_5) (View.ld x6 r0_3) (View.ld x7 r0_3)
    (View.ld_unit_zero (S := S512x896) (funext zero2) _ _) (View.ld_unit_zero (S := S1x1x256) (funext zero3) _ _)
    (View.ld_unit_zero (S := S1x256x2048) (funext zero3) _ _) (View.ld_unit_zero (S := S512x128) (funext zero2) _ _)
    (View.ld_unit_zero (S := S512x128) (funext zero2) _ _))

/-- The values' block is one product. -/
theorem out10_eq : out0_10 x0 x1 x2 x3 x4 x5 x6 x7 = k0_pay4 (k0_pay7 x0 x2) x5 := by
  unfold out0_10 k0_pay54
  rw [View.canon_unit_zero (S := S1024x512) (funext zero2)]
  simp only [View.ld_unit_zero (S := S512x896) (funext zero2), View.ld_unit_zero (S := S1x1x256) (funext zero3), View.ld_unit_zero (S := S1x1024x256) (funext zero3)]

end Cert.Kernel4Ideal.Qkv

end
-- ==== Proof.QkvSpec.lean ====
/-
  The projection of the latents up to the queries, keys and values, as formulas over the extended reals: the normalised
  latents of a token times the weights, the rotation of the rotary lanes, and the 128 lanes of a head. `turned` and
  `keyed` say that the forms with whole-head tables are these.
-/
module

public import proofs.«01_k».proof.Proof.MixSpec
public import Mathlib.Data.EReal.Operations

@[expose] public section

noncomputable section

namespace Cert.QkvSpec

open Idealize.ShloMosaic

/-- An element of a vector over the vector's root mean square, `N` being the vector's length. -/
def rms {n : Nat} (N : EReal) (x : Fin n → EReal) (k : Fin n) : EReal :=
  x k * Ideal.rsqrt (Ideal.div (∑ j, x j * x j) N + Ideal.ofBits .f32 0x358637BD#32)

/-- The scale of the scores: `96 ^ (-1/2)` times the logarithm of `e` to base two. -/
def scale : EReal := Ideal.ofBits .f32 0x3E16C740#32

/-- The rotary lanes `x` rotated by the angles whose cosines and sines are `c` and `s`. -/
def rot (x : Fin 32 → EReal) (c s : Fin 16 → EReal) (e : Fin 32) : EReal :=
  if h : e.val < 16 then x e * c ⟨e.val, h⟩ - x ⟨e.val + 16, by omega⟩ * s ⟨e.val, h⟩
  else x ⟨e.val - 16, by omega⟩ * s ⟨e.val - 16, by omega⟩ + x e * c ⟨e.val - 16, by omega⟩

/-- The 128 lanes of a head: 64 without a position, 32 rotary ones, and 32 zeros. -/
def lane (nope : Fin 64 → EReal) (rope : Fin 32 → EReal) (d : Fin 128) : EReal :=
  if h : d.val < 64 then nope ⟨d.val, h⟩ else if h' : d.val < 96 then rope ⟨d.val - 64, by omega⟩ else 0

/-- The cosines laid out over a head's lanes, and the sines. -/
def cosTab (c : Fin 16 → EReal) (d : Fin 128) : EReal :=
  if d.val < 64 then 1 else if h : d.val < 80 then c ⟨d.val - 64, by omega⟩ else if h' : d.val < 96 then c ⟨d.val - 80, by omega⟩ else 1
def sinTab (s : Fin 16 → EReal) (d : Fin 128) : EReal :=
  if d.val < 64 then 0 else if h : d.val < 80 then s ⟨d.val - 64, by omega⟩ else if h' : d.val < 96 then s ⟨d.val - 80, by omega⟩ else 0

/-- The rotary lanes' partners, each with its sign, laid out over a head's lanes. -/
def partner (x : Fin 32 → EReal) (d : Fin 128) : EReal :=
  if d.val < 64 then 0 else if h : d.val < 80 then -x ⟨d.val - 48, by omega⟩ else if h' : d.val < 96 then x ⟨d.val - 80, by omega⟩ else 0

/-! ## The scale is a nonnegative real -/

theorem scale_real : ∃ r : ℝ, scale = (r : EReal) ∧ 0 ≤ r := by
  unfold scale
  show ∃ r : ℝ, Ideal.ieee 8 23 (0x3E16C740#32) = (r : EReal) ∧ 0 ≤ r
  unfold Ideal.ieee
  rw [if_neg (by decide), if_neg (by decide)]
  refine ⟨_, rfl, ?_⟩
  rw [if_neg (by decide), one_mul]
  positivity

theorem add_scale (x y : EReal) : (x + y) * scale = x * scale + y * scale := by
  obtain ⟨r, hr, h0⟩ := scale_real
  rw [hr]
  exact EReal.right_distrib_of_nonneg_of_ne_top (EReal.coe_nonneg.2 h0) (EReal.coe_ne_top r) x y

/-! ## The two forms -/

theorem turned (nope : Fin 64 → EReal) (x : Fin 32 → EReal) (c s : Fin 16 → EReal) (d : Fin 128) :
    lane nope x d * (cosTab c d * scale)
        + lane nope x ⟨(d.val + 16) % 128, by omega⟩ * ((if d.val < 80 then 0 - sinTab s d else 0) * scale)
        + lane nope x ⟨(d.val + 112) % 128, by omega⟩ * ((if 80 ≤ d.val then sinTab s d else 0) * scale)
      = lane nope (rot x c s) d * scale := by
  obtain ⟨d, hd⟩ := d
  by_cases h1 : d < 64
  · simp [lane, cosTab, sinTab, h1, show d < 80 by omega, show ¬ 80 ≤ d by omega, sub_eq_add_neg]
  · by_cases h2 : d < 80
    · have e : (d + 16) % 128 = d + 16 := by omega
      simp only [lane, cosTab, sinTab, rot, h1, h2, e, show d < 96 by omega, show ¬ 80 ≤ d by omega, show d - 64 < 16 by omega,
        show ¬ d + 16 < 64 by omega, show d + 16 < 96 by omega, dite_true, dite_false, if_true, if_false, zero_mul, mul_zero, add_zero]
      have e' : d + 16 - 64 = d - 64 + 16 := by omega
      simp only [e']
      rw [MixSpec.zero_sub', sub_eq_add_neg, add_scale]
      simp only [neg_mul, mul_neg, mul_assoc]
    · by_cases h3 : d < 96
      · have e : (d + 112) % 128 = d - 16 := by omega
        have e' : d - 16 - 64 = d - 80 := by omega
        have e'' : d - 64 - 16 = d - 80 := by omega
        simp only [lane, cosTab, sinTab, rot, h1, h2, h3, e, e', e'', show 80 ≤ d by omega, show ¬ d - 64 < 16 by omega, show ¬ d - 16 < 64 by omega,
          show d - 16 < 96 by omega, dite_true, dite_false, if_true, if_false, zero_mul, mul_zero, add_zero]
        rw [add_scale, add_comm, ← mul_assoc, ← mul_assoc]
      · simp [lane, cosTab, sinTab, h1, h2, h3, show 80 ≤ d by omega]

theorem keyed (nope : Fin 64 → EReal) (x : Fin 32 → EReal) (c s : Fin 16 → EReal) (d : Fin 128) :
    lane nope (fun _ => 0) d + (lane (fun _ => 0) x d * cosTab c d + partner x d * sinTab s d) = lane nope (rot x c s) d := by
  obtain ⟨d, hd⟩ := d
  by_cases h1 : d < 64
  · simp [lane, cosTab, sinTab, partner, h1]
  · by_cases h2 : d < 80
    · simp [lane, cosTab, sinTab, partner, rot, h1, h2, show d < 96 by omega, show d - 64 < 16 by omega, sub_eq_add_neg, EReal.neg_mul,
        show d - 64 + 16 = d - 48 by omega]
    · by_cases h3 : d < 96
      · simp [lane, cosTab, sinTab, partner, rot, h1, h2, h3, show ¬ d - 64 < 16 by omega, show d - 64 - 16 = d - 80 by omega]
        rw [add_comm]
      · simp [lane, cosTab, sinTab, partner, h1, h2, h3]

/-- A product with a row of lanes is the lanes of the products. -/
theorem lane_sum {n : Nat} (a : Fin n → EReal) (f : Fin n → Fin 64 → EReal) (g : Fin n → Fin 32 → EReal) (d : Fin 128) :
    ∑ k, a k * lane (f k) (g k) d = lane (fun e => ∑ k, a k * f k e) (fun e => ∑ k, a k * g k e) d := by
  unfold lane
  split_ifs <;> simp

/-! ## Of arrays -/

section Arrays

variable (u : (⟨2, ![32768, 896]⟩ : Shape).Idx → EReal) (qg : (⟨2, ![2, 384]⟩ : Shape).Idx → EReal) (kg : (⟨2, ![2, 256]⟩ : Shape).Idx → EReal)
  (wq : (⟨3, ![2, 384, 1536]⟩ : Shape).Idx → EReal) (wkv : (⟨3, ![2, 256, 2048]⟩ : Shape).Idx → EReal)
  (cos sin : (⟨2, ![4096, 16]⟩ : Shape).Idx → EReal)

/-- The normalised query latents of row `r`, times their gain; and those of the keys and values. -/
def normQ (r : Fin 32768) (k : Fin 384) : EReal :=
  rms (Ideal.ofBits .f32 0x43C00000#32) (fun j : Fin 384 => u (ix2 r ⟨j.val, by omega⟩)) k * qg (ix2 1 k)
def normKV (r : Fin 32768) (k : Fin 256) : EReal :=
  rms (Ideal.ofBits .f32 0x43800000#32) (fun j : Fin 256 => u (ix2 r ⟨384 + j.val, by omega⟩)) k * kg (ix2 1 k)

/-- The queries of row `r`, all heads side by side, with the last layer's weight; and the keys and values. -/
def upQ (r : Fin 32768) (j : Fin 1536) : EReal := ∑ k, normQ u qg r k * wq (ix3 1 k j)
def upKV (r : Fin 32768) (j : Fin 2048) : EReal := ∑ k, normKV u kg r k * wkv (ix3 1 k j)

/-- The angles of the row's position. -/
def angle (t : (⟨2, ![4096, 16]⟩ : Shape).Idx → EReal) (r : Fin 32768) (e : Fin 16) : EReal := t (ix2 ⟨r.val % 4096, by omega⟩ e)

/-- Lane `d` of head `h` of the scaled query of row `r`. -/
def qAt (r : Fin 32768) (h : Fin 16) (d : Fin 128) : EReal :=
  lane (fun e => upQ u qg wq r ⟨h.val * 96 + e.val, by omega⟩)
    (rot (fun e => upQ u qg wq r ⟨h.val * 96 + 64 + e.val, by omega⟩) (angle cos r) (angle sin r)) d * scale

/-- Lane `d` of head `h` of the key of row `r`. The rotary lanes are the same in all heads. -/
def kAt (r : Fin 32768) (h : Fin 16) (d : Fin 128) : EReal :=
  lane (fun e => upKV u kg wkv r ⟨h.val * 128 + e.val, by omega⟩)
    (rot (fun e => u (ix2 r ⟨704 + e.val, by omega⟩)) (angle cos r) (angle sin r)) d

/-- Lane `e` of head `h` of the value of row `r`. -/
def vAt (r : Fin 32768) (h : Fin 16) (e : Fin 64) : EReal := upKV u kg wkv r ⟨h.val * 128 + 64 + e.val, by omega⟩

/-- The stream's padded key columns: the rotary lanes laid out over a head's lanes, and their signed partners. -/
def Padded : Prop := ∀ (r : Fin 32768) (d : Fin 128),
  u (ix2 r ⟨640 + d.val, by omega⟩) = lane (fun _ => 0) (fun e => u (ix2 r ⟨704 + e.val, by omega⟩)) d
    ∧ u (ix2 r ⟨768 + d.val, by omega⟩) = partner (fun e => u (ix2 r ⟨704 + e.val, by omega⟩)) d

/-- The three results. -/
def q (y : (⟨2, ![32768, 2048]⟩ : Shape).Idx) : EReal :=
  qAt u qg wq cos sin (y 0) ⟨(y 1).val / 128, by have : (y 1).val < 2048 := (y 1).isLt; omega⟩ ⟨(y 1).val % 128, by omega⟩
def k (y : (⟨2, ![32768, 2048]⟩ : Shape).Idx) : EReal :=
  kAt u kg wkv cos sin (y 0) ⟨(y 1).val / 128, by have : (y 1).val < 2048 := (y 1).isLt; omega⟩ ⟨(y 1).val % 128, by omega⟩
def v (y : (⟨2, ![1024, 32768]⟩ : Shape).Idx) : EReal :=
  vAt u kg wkv (y 1) ⟨(y 0).val / 64, by have : (y 0).val < 1024 := (y 0).isLt; omega⟩ ⟨(y 0).val % 64, by omega⟩

end Arrays

end Cert.QkvSpec

end
-- ==== Proof.QkvRead.lean ====
/-
  What one block of the projection to queries, keys and values holds over the extended reals.
-/
module

public import proofs.«01_k».proof.Proof.QkvUnit
public import proofs.«01_k».proof.Proof.QkvSpec
public import Idealize.ShloMosaic.Lib.Pointwise
public import Idealize.ShloMosaic.Lib.Pipeline.ValueKit
public import Idealize.ShloMosaic.Lib.WordCmp

@[expose] public section

set_option maxRecDepth 16384

noncomputable section

namespace Cert.Kernel4Ideal.Qkv

open Cert.Kernel4Ideal Cert.Kernel4Ideal.Gen Idealize.ShloMosaic Idealize.ShloMosaic.TcCoe Idealize.SL.Sem

/-! ## The normalised latents and the products -/

theorem pay6_apply (x0 : Vec Ideal S512x896 .bf16) (x1 : Vec Ideal S1x1x384 .f32) (p : Fin 512) (k : Fin 384) :
    k0_pay6 (F := Ideal) x0 x1 (ix2 p k)
      = QkvSpec.rms (Ideal.ofBits .f32 0x43C00000#32) (fun j : Fin 384 => x0 (ix2 p ⟨j.val, by omega⟩)) k * x1 (ix3 0 0 k) := by
  pointwise [k0_pay6, k0_pay5]
  rfl
theorem pay7_apply (x0 : Vec Ideal S512x896 .bf16) (x2 : Vec Ideal S1x1x256 .f32) (p : Fin 512) (k : Fin 256) :
    k0_pay7 (F := Ideal) x0 x2 (ix2 p k)
      = QkvSpec.rms (Ideal.ofBits .f32 0x43800000#32) (fun j : Fin 256 => x0 (ix2 p ⟨384 + j.val, by omega⟩)) k * x2 (ix3 0 0 k) := by
  pointwise [k0_pay7, k0_pay5]
  rfl
theorem pay13_apply (a : FVec Ideal S512x384 .bf16) (w : Vec Ideal S1x384x2048 .bf16) (p : Fin 512) (j : Fin 2048) :
    k0_pay13 (F := Ideal) a w (ix2 p j) = ∑ k : Fin 384, a (ix2 p k) * w (ix3 0 k j) := by
  pointwise [k0_pay13]
theorem pay14_apply (a : FVec Ideal S512x256 .bf16) (w : Vec Ideal S1x256x2048 .bf16) (p : Fin 512) (j : Fin 2048) :
    k0_pay14 (F := Ideal) a w (ix2 p j) = ∑ k : Fin 256, a (ix2 p k) * w (ix3 0 k j) := by
  pointwise [k0_pay14]
theorem pay4_apply (a : FVec Ideal S512x256 .bf16) (w : Vec Ideal S1x1024x256 .bf16) (r : Fin 1024) (p : Fin 512) :
    k0_pay4 (F := Ideal) a w (ix2 r p) = ∑ k : Fin 256, a (ix2 p k) * w (ix3 0 r k) := by
  refine Eq.trans (b := ∑ k : Fin 256, w (ix3 0 r k) * a (ix2 p k)) ?_ (Finset.sum_congr rfl fun k _ => mul_comm _ _)
  pointwise [k0_pay4]

/-! ## The tables and the rotated key lanes -/

theorem cosT_apply (x6 : Vec Ideal S512x128 .f32) (p : Fin 512) (d : Fin 128) :
    k0_pay15 (k0_pay9 (F := Ideal) x6) (ix2 p d) = x6 (ix2 p d) * QkvSpec.scale := by
  pointwise [k0_pay15, k0_pay9]
  rfl
theorem sinA_apply (x7 : Vec Ideal S512x128 .f32) (p : Fin 512) (d : Fin 128) :
    k0_pay16 (k0_pay10 (F := Ideal) x7) (ix2 p d) = (if d.val < 80 then 0 - x7 (ix2 p d) else 0) * QkvSpec.scale := by
  have e : IntOp.cmpi .slt (BitVec.ofNat 32 d.val) 80#32 = if d.val < 80 then 1#1 else 0#1 := by revert d; decide +kernel
  pointwise [k0_pay16, k0_pay10]
  rw [e]
  by_cases hd : d.val < 80
  · rw [if_pos hd, if_pos hd]; rfl
  · rw [if_neg hd, if_neg hd, zero_mul]; rfl
theorem sinB_apply (x7 : Vec Ideal S512x128 .f32) (p : Fin 512) (d : Fin 128) :
    k0_pay17 (k0_pay10 (F := Ideal) x7) (ix2 p d) = (if 80 ≤ d.val then x7 (ix2 p d) else 0) * QkvSpec.scale := by
  have e : IntOp.cmpi .sge (BitVec.ofNat 32 d.val) 80#32 = if 80 ≤ d.val then 1#1 else 0#1 := by revert d; decide +kernel
  pointwise [k0_pay17, k0_pay10]
  rw [e]
  by_cases hd : 80 ≤ d.val
  · rw [if_pos hd, if_pos hd]; rfl
  · rw [if_neg hd, if_neg hd, zero_mul]; rfl
theorem ropeK_apply (x0 : Vec Ideal S512x896 .bf16) (x6 x7 : Vec Ideal S512x128 .f32) (p : Fin 512) (d : Fin 128) :
    k0_pay12 (k0_pay8 (F := Ideal) x0) (k0_pay10 x7) (k0_pay11 x0 x6) (ix2 p d)
      = x0 (ix2 p ⟨640 + d.val, by omega⟩) * x6 (ix2 p d) + x0 (ix2 p ⟨768 + d.val, by omega⟩) * x7 (ix2 p d) := by
  pointwise [k0_pay12, k0_pay11, k0_pay10, k0_pay9, k0_pay8, k0_pay5]

/-! ## A head -/

theorem head_apply (Q : FVec Ideal S512x2048 .f32) (h : Fin 16) (p : Fin 512) (d : Fin 128) :
    head (F := Ideal) Q h (ix2 p d) = Q (ix2 p ⟨h.val * 128 + d.val, by omega⟩) := by
  pointwise [head]
theorem headQ_apply (Q : FVec Ideal S512x2048 .f32) (c a b : FVec Ideal S512x128 .f32) (h : Fin 16) (p : Fin 512) (d : Fin 128) :
    headQ (F := Ideal) Q c a b h (ix2 p d)
      = Q (ix2 p ⟨h.val * 128 + d.val, by omega⟩) * c (ix2 p d)
        + Q (ix2 p ⟨h.val * 128 + (d.val + 16) % 128, by omega⟩) * a (ix2 p d)
        + Q (ix2 p ⟨h.val * 128 + (d.val + 112) % 128, by omega⟩) * b (ix2 p d) := by
  rw [← head_apply Q h p d, ← head_apply Q h p ⟨(d.val + 16) % 128, by omega⟩, ← head_apply Q h p ⟨(d.val + 112) % 128, by omega⟩]
  unfold headQ
  generalize head Q h = y
  pointwise []
  congr 6 <;> omega
theorem headK_apply (K : FVec Ideal S512x2048 .f32) (kr : FVec Ideal S512x128 .f32) (h : Fin 16) (p : Fin 512) (d : Fin 128) :
    headK (F := Ideal) K kr h (ix2 p d) = K (ix2 p ⟨h.val * 128 + d.val, by omega⟩) + kr (ix2 p d) := by
  rw [← head_apply K h p d]
  unfold headK
  generalize head K h = y
  pointwise []

/-! ## The blocks -/

/-- A block of sixteen heads side by side, at an index. -/
theorem heads_apply (T : Fin 16 → FVec Ideal S512x128 .bf16) (y : S512x2048.Idx) :
    View.canon (List.ofFn fun k : Fin 16 =>
      (⟨Rect.unit (s := S512x2048) ![0, (hd k).val * 128] S512x128.size (inb (hd k)), T (hd k)⟩ : View.Piece (Elt Ideal) S512x2048 .bf16)) y
      = T ⟨(y 1).val / 128, by have : (y 1).val < 2048 := (y 1).isLt; omega⟩ (ix2 (y 0) ⟨(y 1).val % 128, by omega⟩) := by
  have h0 : (y 0).val < 512 := (y 0).isLt
  have h1 : (y 1).val < 2048 := (y 1).isLt
  refine View.canon_ofFn_unit_eq_of_forall (S := S512x2048) (Val := Elt Ideal) (e := .bf16) (fun k => ![0, (hd k).val * 128]) S512x128.size (fun k => inb (hd k)) (fun k => T (hd k)) y _ ?_ ?_
  · refine ⟨⟨15 - (y 1).val / 128, by omega⟩, fun a => ?_⟩
    match a with
    | ⟨0, _⟩ => show 0 ≤ (y 0).val ∧ (y 0).val < 0 + 512; omega
    | ⟨1, _⟩ => show (15 - (15 - (y 1).val / 128)) * 128 ≤ (y 1).val ∧ (y 1).val < (15 - (15 - (y 1).val / 128)) * 128 + 128; omega
  · intro k x hx
    have e0 : (y 0).val = 0 + (x 0).val := hx 0
    have e1 : (y 1).val = (hd k).val * 128 + (x 1).val := hx 1
    obtain ⟨p, d, rfl⟩ : ∃ (p : Fin 512) (d : Fin 128), x = ix2 p d := ⟨x 0, x 1, by funext a; match a with | ⟨0, _⟩ => rfl | ⟨1, _⟩ => rfl⟩
    replace e0 : (y 0).val = 0 + p.val := e0
    replace e1 : (y 1).val = (hd k).val * 128 + d.val := e1
    have eh : hd k = ⟨(y 1).val / 128, by omega⟩ := Fin.ext (by show (hd k).val = (y 1).val / 128; omega)
    have ed : d = ⟨(y 1).val % 128, by omega⟩ := Fin.ext (by show d.val = (y 1).val % 128; omega)
    have ep : p = y 0 := Fin.ext (by omega)
    exact congr (congrArg T eh) (congrArg₂ ix2 ep ed)

end Cert.Kernel4Ideal.Qkv

end
-- ==== Proof.QkvHost.lean ====
/-
  What reaches the projection to queries, keys and values from the operations before it: the weights cut by heads and
  padded to 128 lanes, the tables of cosines and sines over a head's lanes, and the norms' gains.
-/
module

public import proofs.«01_k».proof.Proof.Gen.Kernel4Ideal.Frame
public import proofs.«01_k».proof.Proof.QkvSpec
public import Idealize.ShloMosaic.Lib.Pointwise
public import Idealize.ShloMosaic.Lib.Claim

@[expose] public section

set_option maxRecDepth 16384

noncomputable section

namespace Cert.Kernel4Ideal.Qkv

open Cert.Kernel4Ideal Cert.Kernel4Ideal.Gen Idealize.ShloMosaic Idealize.ShloMosaic.TcCoe Idealize.SL.Sem

/-- The query weight cut by heads, each head's 96 columns padded with zeros to 128. -/
def padQ (w : FVec Ideal S2x384x1536 .f32) : FVec Ideal S2x384x2048 .bf16 :=
  truncf .bf16 (shapeCast S2x384x2048 (concatenate S2x384x16x128 3
    [⟨S2x384x16x64, extractStridedSlice S2x384x16x64 ![0, 0, 0, 0] (shapeCast S2x384x16x96 w shapeCasts_S2x384x1536_S2x384x16x96) slices_S2x384x16x96_S2x384x16x64_0_0_0_0⟩,
     ⟨S2x384x16x32, extractStridedSlice S2x384x16x32 ![0, 0, 0, 64] (shapeCast S2x384x16x96 w shapeCasts_S2x384x1536_S2x384x16x96) slices_S2x384x16x96_S2x384x16x32_0_0_0_64⟩,
     ⟨S2x384x16x32, broadcastInDim S2x384x16x32 ![] bcast_S_S2x384x16x32 (constant S_ .f32 0x00000000#32 : FVec Ideal S_ .f32)⟩]
    concatenates_S2x384x16x64_S2x384x16x32_S2x384x16x32_S2x384x16x128_d3) shapeCasts_S2x384x16x128_S2x384x2048) bitsLt_bf16_f32

/-- The keys' columns of the key and value weight, cut by heads, each head's 64 columns padded with zeros to 128. -/
def padK (w : FVec Ideal S2x256x2048 .f32) : FVec Ideal S2x256x2048 .bf16 :=
  truncf .bf16 (shapeCast S2x256x2048 (concatenate S2x256x16x128 3
    [⟨S2x256x16x64, extractStridedSlice S2x256x16x64 ![0, 0, 0, 0] (shapeCast S2x256x16x128 w shapeCasts_S2x256x2048_S2x256x16x128) slices_S2x256x16x128_S2x256x16x64_0_0_0_0⟩,
     ⟨S2x256x16x32, broadcastInDim S2x256x16x32 ![] bcast_S_S2x256x16x32 (constant S_ .f32 0x00000000#32 : FVec Ideal S_ .f32)⟩,
     ⟨S2x256x16x32, broadcastInDim S2x256x16x32 ![] bcast_S_S2x256x16x32 (constant S_ .f32 0x00000000#32 : FVec Ideal S_ .f32)⟩]
    concatenates_S2x256x16x64_S2x256x16x32_S2x256x16x32_S2x256x16x128_d3) shapeCasts_S2x256x16x128_S2x256x2048) bitsLt_bf16_f32

/-- The values' columns of the same weight, channels first. -/
def cutV (w : FVec Ideal S2x256x2048 .f32) : FVec Ideal S2x1024x256 .bf16 :=
  truncf .bf16 (transpose S2x1024x256 [0, 2, 1] (shapeCast S2x256x1024
    (extractStridedSlice S2x256x16x64 ![0, 0, 0, 64] (shapeCast S2x256x16x128 w shapeCasts_S2x256x2048_S2x256x16x128) slices_S2x256x16x128_S2x256x16x64_0_0_0_64)
    shapeCasts_S2x256x16x64_S2x256x1024) transposes_S2x256x1024_S2x1024x256_0_2_1) bitsLt_bf16_f32

/-- The table of cosines, and the table of sines. -/
def tabC (t : FVec Ideal S4096x16 .f32) : FVec Ideal S4096x128 .f32 :=
  concatenate S4096x128 1 [⟨S4096x64, broadcastInDim S4096x64 ![] bcast_S_S4096x64 (constant S_ .f32 0x3F800000#32 : FVec Ideal S_ .f32)⟩, ⟨S4096x16, t⟩, ⟨S4096x16, t⟩,
    ⟨S4096x32, broadcastInDim S4096x32 ![] bcast_S_S4096x32 (constant S_ .f32 0x3F800000#32 : FVec Ideal S_ .f32)⟩]
    concatenates_S4096x64_S4096x16_S4096x16_S4096x32_S4096x128_d1
def tabS (t : FVec Ideal S4096x16 .f32) : FVec Ideal S4096x128 .f32 :=
  concatenate S4096x128 1 [⟨S4096x64, mulf (broadcastInDim S4096x64 ![] bcast_S_S4096x64 (constant S_ .f32 0x00000000#32 : FVec Ideal S_ .f32))
      (broadcastInDim S4096x64 ![] bcast_S_S4096x64 (constant S_ .f32 0x3F800000#32 : FVec Ideal S_ .f32))⟩, ⟨S4096x16, t⟩, ⟨S4096x16, t⟩,
    ⟨S4096x32, broadcastInDim S4096x32 ![] bcast_S_S4096x32 (constant S_ .f32 0x00000000#32 : FVec Ideal S_ .f32)⟩]
    concatenates_S4096x64_S4096x16_S4096x16_S4096x32_S4096x128_d1

/-! ## At an index -/

theorem lt96 (d : Nat) : d - 64 < 32 ↔ d < 96 := by omega
theorem lt80 (d : Nat) : d - 64 < 16 ↔ d < 80 := by omega
theorem lt96' (d : Nat) : d - 80 < 16 ↔ d < 96 := by omega
theorem sub80 (d : Nat) : d - 64 - 16 = d - 80 := by omega

theorem padQ_apply (w : FVec Ideal S2x384x1536 .f32) (k : Fin 384) (h : Fin 16) (d : Fin 128) :
    padQ w (ix3 1 k ⟨h.val * 128 + d.val, by omega⟩)
      = QkvSpec.lane (fun e => w (ix3 1 k ⟨h.val * 96 + e.val, by omega⟩)) (fun e => w (ix3 1 k ⟨h.val * 96 + 64 + e.val, by omega⟩)) d := by
  pointwise [padQ, QkvSpec.lane]
  simp only [lt96, Nat.add_assoc]
theorem padK_apply (w : FVec Ideal S2x256x2048 .f32) (k : Fin 256) (h : Fin 16) (d : Fin 128) :
    padK w (ix3 1 k ⟨h.val * 128 + d.val, by omega⟩) = QkvSpec.lane (fun e => w (ix3 1 k ⟨h.val * 128 + e.val, by omega⟩)) (fun _ => 0) d := by
  pointwise [padK, QkvSpec.lane]
  simp only [lt96]
theorem cutV_apply (w : FVec Ideal S2x256x2048 .f32) (k : Fin 256) (h : Fin 16) (e : Fin 64) :
    cutV w (ix3 1 ⟨h.val * 64 + e.val, by omega⟩ k) = w (ix3 1 k ⟨h.val * 128 + 64 + e.val, by omega⟩) := by
  pointwise [cutV]
  simp only [Nat.add_assoc]
theorem tabC_apply (t : FVec Ideal S4096x16 .f32) (i : Fin 4096) (d : Fin 128) : tabC t (ix2 i d) = QkvSpec.cosTab (fun e => t (ix2 i e)) d := by
  pointwise [tabC, QkvSpec.cosTab]
  simp only [lt80, sub80, lt96', dite_eq_ite]
theorem tabS_apply (t : FVec Ideal S4096x16 .f32) (i : Fin 4096) (d : Fin 128) : tabS t (ix2 i d) = QkvSpec.sinTab (fun e => t (ix2 i e)) d := by
  pointwise [tabS, QkvSpec.sinTab]
  simp only [lt80, sub80, lt96', dite_eq_ite]

/-! ## What the kernel is handed -/

variable (m : (ℓ : Loc nD τ sig) → Buf (Elt Ideal) ℓ) (c : Dev nD)

theorem weightQ : V m c main_v13 = padQ (m ((c : Thread nD τ).loc main_arg3)) := by
  show StableHlo.after hostOps0 (fun b => m (c, b)) main_v13 = _
  simp only [hostOps0, StableHlo.after_cons, StableHlo.after_nil]
  after_results_simp
  rfl
theorem weightK : V m c main_v20 = padK (m ((c : Thread nD τ).loc main_arg4)) := by
  show StableHlo.after hostOps0 (fun b => m (c, b)) main_v20 = _
  simp only [hostOps0, StableHlo.after_cons, StableHlo.after_nil]
  after_results_simp
  rfl
theorem weightV : V m c main_v24 = cutV (m ((c : Thread nD τ).loc main_arg4)) := by
  show StableHlo.after hostOps0 (fun b => m (c, b)) main_v24 = _
  simp only [hostOps0, StableHlo.after_cons, StableHlo.after_nil]
  after_results_simp
  rfl
theorem tableC : V m c main_v2 = tabC (m ((c : Thread nD τ).loc main_arg5)) := by
  show StableHlo.after hostOps0 (fun b => m (c, b)) main_v2 = _
  simp only [hostOps0, StableHlo.after_cons, StableHlo.after_nil]
  after_results_simp
  rfl
theorem tableS : V m c main_v6 = tabS (m ((c : Thread nD τ).loc main_arg6)) := by
  show StableHlo.after hostOps0 (fun b => m (c, b)) main_v6 = _
  simp only [hostOps0, StableHlo.after_cons, StableHlo.after_nil]
  after_results_simp
  rfl
theorem gainQ (k : Fin 384) : V m c main_v25 (ix3 1 0 k) = m ((c : Thread nD τ).loc main_arg1) (ix2 1 k) := by
  have e : V m c main_v25 = shapeCast S2x1x384 (m ((c : Thread nD τ).loc main_arg1)) shapeCasts_S2x384_S2x1x384 := by
    show StableHlo.after hostOps0 (fun b => m (c, b)) main_v25 = _
    simp only [hostOps0, StableHlo.after_cons, StableHlo.after_nil]
    after_results_simp
    rfl
  rw [e]
  pointwise []
theorem gainKV (k : Fin 256) : V m c main_v26 (ix3 1 0 k) = m ((c : Thread nD τ).loc main_arg2) (ix2 1 k) := by
  have e : V m c main_v26 = shapeCast S2x1x256 (m ((c : Thread nD τ).loc main_arg2)) shapeCasts_S2x256_S2x1x256 := by
    show StableHlo.after hostOps0 (fun b => m (c, b)) main_v26 = _
    simp only [hostOps0, StableHlo.after_cons, StableHlo.after_nil]
    after_results_simp
    rfl
  rw [e]
  pointwise []

end Cert.Kernel4Ideal.Qkv

end
-- ==== Proof.QkvArray.lean ====
/-
  The three arrays the projection to queries, keys and values leaves: those of `QkvSpec`, at every index.
-/
module

public import proofs.«01_k».proof.Proof.QkvRead
public import proofs.«01_k».proof.Proof.QkvHost
public import proofs.«01_k».proof.Proof.Gen.Kernel4Ideal.Value
public import Idealize.ShloMosaic.Lib.Pipeline.ValueKit

@[expose] public section

set_option maxRecDepth 16384

noncomputable section

namespace Cert.Kernel4Ideal.Qkv

open Cert.Kernel4Ideal Cert.Kernel4Ideal.Gen Idealize.ShloMosaic Idealize.ShloMosaic.TcCoe Idealize.SL.Sem
open Idealize.ShloMosaic.Pipeline (Dat)

/-- Which blocks grid point `t` reads and writes: the tokens `t` of the stream and the results, their positions' rows of
    the tables, the last layer of the gains and weights. -/
theorem idx0 : ∀ t : Fin cfg0.N, win0_0.index t = ![t.val, 0] := (by decide +kernel : ∀ t : Fin grid0.N, win0_0.index t = ![t.val, 0])
theorem idx1 : ∀ t : Fin cfg0.N, win0_1.index t = ![1, 0, 0] := (by decide +kernel : ∀ t : Fin grid0.N, win0_1.index t = ![1, 0, 0])
theorem idx2 : ∀ t : Fin cfg0.N, win0_2.index t = ![1, 0, 0] := (by decide +kernel : ∀ t : Fin grid0.N, win0_2.index t = ![1, 0, 0])
theorem idx3 : ∀ t : Fin cfg0.N, win0_3.index t = ![1, 0, 0] := (by decide +kernel : ∀ t : Fin grid0.N, win0_3.index t = ![1, 0, 0])
theorem idx4 : ∀ t : Fin cfg0.N, win0_4.index t = ![1, 0, 0] := (by decide +kernel : ∀ t : Fin grid0.N, win0_4.index t = ![1, 0, 0])
theorem idx5 : ∀ t : Fin cfg0.N, win0_5.index t = ![1, 0, 0] := (by decide +kernel : ∀ t : Fin grid0.N, win0_5.index t = ![1, 0, 0])
theorem idx6 : ∀ t : Fin cfg0.N, win0_6.index t = ![t.val % 8, 0] := (by decide +kernel : ∀ t : Fin grid0.N, win0_6.index t = ![t.val % 8, 0])
theorem idx7 : ∀ t : Fin cfg0.N, win0_7.index t = ![t.val % 8, 0] := (by decide +kernel : ∀ t : Fin grid0.N, win0_7.index t = ![t.val % 8, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![0, t.val] := (by decide +kernel : ∀ t : Fin grid0.N, win0_10.index t = ![0, t.val])

variable (m : (ℓ : Loc nD τ sig) → Buf (Elt Ideal) ℓ) (c : Dev nD)

/-! ## The operands of a grid point; `r` is the row of the block's token `p` -/

theorem normQ_eq (t : Fin cfg0.N) (p : Fin 512) (k : Fin 384) (r : Fin 32768) (hr : r.val = t.val * 512 + p.val) :
    k0_pay6 (iblk m c 0 t) (iblk m c 1 t) (ix2 p k) = QkvSpec.normQ (m ((c : Thread nD τ).loc main_arg0)) (m ((c : Thread nD τ).loc main_arg1)) r k := by
  have ht : t.val < 64 := t.isLt
  rw [show r = ⟨t.val * 512 + p.val, by omega⟩ from Fin.ext hr]
  rw [pay6_apply]
  refine congrArg₂ (· * ·) (congrArg (fun f => QkvSpec.rms _ f k) (funext fun j => ?_)) ?_
  · rw [← V_main_arg0 m c]
    blk_ext [iblk, idx0 t]
  · rw [← gainQ m c]
    blk_ext [iblk, idx1 t]
theorem normKV_eq (t : Fin cfg0.N) (p : Fin 512) (k : Fin 256) (r : Fin 32768) (hr : r.val = t.val * 512 + p.val) :
    k0_pay7 (iblk m c 0 t) (iblk m c 2 t) (ix2 p k) = QkvSpec.normKV (m ((c : Thread nD τ).loc main_arg0)) (m ((c : Thread nD τ).loc main_arg2)) r k := by
  have ht : t.val < 64 := t.isLt
  rw [show r = ⟨t.val * 512 + p.val, by omega⟩ from Fin.ext hr]
  rw [pay7_apply]
  refine congrArg₂ (· * ·) (congrArg (fun f => QkvSpec.rms _ f k) (funext fun j => ?_)) ?_
  · rw [← V_main_arg0 m c]
    blk_ext [iblk, idx0 t]
  · rw [← gainKV m c]
    blk_ext [iblk, idx2 t]

theorem blk3 (t : Fin cfg0.N) (k : Fin 384) (j : Fin 2048) : iblk m c 3 t (ix3 0 k j) = padQ (m ((c : Thread nD τ).loc main_arg3)) (ix3 1 k j) := by
  rw [← weightQ m c]
  blk_ext [iblk, idx3 t]
theorem blk4 (t : Fin cfg0.N) (k : Fin 256) (j : Fin 2048) : iblk m c 4 t (ix3 0 k j) = padK (m ((c : Thread nD τ).loc main_arg4)) (ix3 1 k j) := by
  rw [← weightK m c]
  blk_ext [iblk, idx4 t]
theorem blk5 (t : Fin cfg0.N) (j : Fin 1024) (k : Fin 256) : iblk m c 5 t (ix3 0 j k) = cutV (m ((c : Thread nD τ).loc main_arg4)) (ix3 1 j k) := by
  rw [← weightV m c]
  blk_ext [iblk, idx5 t]
theorem blk6 (t : Fin cfg0.N) (p : Fin 512) (d : Fin 128) (r : Fin 32768) (hr : r.val = t.val * 512 + p.val) :
    iblk m c 6 t (ix2 p d) = QkvSpec.cosTab (QkvSpec.angle (m ((c : Thread nD τ).loc main_arg5)) r) d := by
  have ht : t.val < 64 := t.isLt
  have e : (⟨t.val % 8 * 512 + p.val, by omega⟩ : Fin 4096) = ⟨r.val % 4096, by omega⟩ := Fin.ext (by simp only []; omega)
  refine Eq.trans ?_ (tabC_apply (m ((c : Thread nD τ).loc main_arg5)) ⟨r.val % 4096, by omega⟩ d)
  rw [← tableC m c, ← e]
  blk_ext [iblk, idx6 t]
theorem blk7 (t : Fin cfg0.N) (p : Fin 512) (d : Fin 128) (r : Fin 32768) (hr : r.val = t.val * 512 + p.val) :
    iblk m c 7 t (ix2 p d) = QkvSpec.sinTab (QkvSpec.angle (m ((c : Thread nD τ).loc main_arg6)) r) d := by
  have ht : t.val < 64 := t.isLt
  have e : (⟨t.val % 8 * 512 + p.val, by omega⟩ : Fin 4096) = ⟨r.val % 4096, by omega⟩ := Fin.ext (by simp only []; omega)
  refine Eq.trans ?_ (tabS_apply (m ((c : Thread nD τ).loc main_arg6)) ⟨r.val % 4096, by omega⟩ d)
  rw [← tableS m c, ← e]
  blk_ext [iblk, idx7 t]

/-! ## The products, at a lane of a head -/

theorem upQ_eq (t : Fin cfg0.N) (p : Fin 512) (h : Fin 16) (d : Fin 128) (r : Fin 32768) (hr : r.val = t.val * 512 + p.val) :
    k0_pay13 (k0_pay6 (iblk m c 0 t) (iblk m c 1 t)) (iblk m c 3 t) (ix2 p ⟨h.val * 128 + d.val, by omega⟩)
      = QkvSpec.lane (fun e => QkvSpec.upQ (m ((c : Thread nD τ).loc main_arg0)) (m ((c : Thread nD τ).loc main_arg1)) (m ((c : Thread nD τ).loc main_arg3)) r ⟨h.val * 96 + e.val, by omega⟩)
          (fun e => QkvSpec.upQ (m ((c : Thread nD τ).loc main_arg0)) (m ((c : Thread nD τ).loc main_arg1)) (m ((c : Thread nD τ).loc main_arg3)) r ⟨h.val * 96 + 64 + e.val, by omega⟩) d := by
  rw [pay13_apply]
  simp only [QkvSpec.upQ]
  refine Eq.trans (Finset.sum_congr rfl fun k _ => ?_) (QkvSpec.lane_sum _ _ _ d)
  rw [normQ_eq m c t p k r hr]
  exact congrArg _ ((blk3 m c t k _).trans (padQ_apply _ k h d))
theorem upK_eq (t : Fin cfg0.N) (p : Fin 512) (h : Fin 16) (d : Fin 128) (r : Fin 32768) (hr : r.val = t.val * 512 + p.val) :
    k0_pay14 (k0_pay7 (iblk m c 0 t) (iblk m c 2 t)) (iblk m c 4 t) (ix2 p ⟨h.val * 128 + d.val, by omega⟩)
      = QkvSpec.lane (fun e => QkvSpec.upKV (m ((c : Thread nD τ).loc main_arg0)) (m ((c : Thread nD τ).loc main_arg2)) (m ((c : Thread nD τ).loc main_arg4)) r ⟨h.val * 128 + e.val, by omega⟩) (fun _ => 0) d := by
  have z : (fun _ : Fin 32 => (0 : EReal)) = fun _ => ∑ k, QkvSpec.normKV (m ((c : Thread nD τ).loc main_arg0)) (m ((c : Thread nD τ).loc main_arg2)) r k * 0 := by
    simp only [mul_zero, Finset.sum_const_zero]
  rw [pay14_apply, z]
  simp only [QkvSpec.upKV]
  refine Eq.trans (Finset.sum_congr rfl fun k _ => ?_) (QkvSpec.lane_sum _ _ (fun _ _ => 0) d)
  rw [normKV_eq m c t p k r hr]
  exact congrArg _ ((blk4 m c t k _).trans (padK_apply _ k h d))

/-! ## The three blocks -/

theorem q_at (t : Fin cfg0.N) (p : Fin 512) (h : Fin 16) (d : Fin 128) (r : Fin 32768) (hr : r.val = t.val * 512 + p.val) :
    headQ (k0_pay13 (k0_pay6 (iblk m c 0 t) (iblk m c 1 t)) (iblk m c 3 t)) (k0_pay15 (k0_pay9 (iblk m c 6 t)))
        (k0_pay16 (k0_pay10 (iblk m c 7 t))) (k0_pay17 (k0_pay10 (iblk m c 7 t))) h (ix2 p d)
      = QkvSpec.qAt (m ((c : Thread nD τ).loc main_arg0)) (m ((c : Thread nD τ).loc main_arg1)) (m ((c : Thread nD τ).loc main_arg3)) (m ((c : Thread nD τ).loc main_arg5)) (m ((c : Thread nD τ).loc main_arg6)) r h d := by
  rw [headQ_apply, cosT_apply, sinA_apply, sinB_apply, upQ_eq m c t p h d r hr, upQ_eq m c t p h ⟨(d.val + 16) % 128, by omega⟩ r hr,
    upQ_eq m c t p h ⟨(d.val + 112) % 128, by omega⟩ r hr, blk6 m c t p d r hr, blk7 m c t p d r hr]
  exact QkvSpec.turned _ _ _ _ d
theorem k_at (hp : QkvSpec.Padded (m ((c : Thread nD τ).loc main_arg0))) (t : Fin cfg0.N) (p : Fin 512) (h : Fin 16) (d : Fin 128) (r : Fin 32768) (hr : r.val = t.val * 512 + p.val) :
    headK (k0_pay14 (k0_pay7 (iblk m c 0 t) (iblk m c 2 t)) (iblk m c 4 t))
        (k0_pay12 (k0_pay8 (iblk m c 0 t)) (k0_pay10 (iblk m c 7 t)) (k0_pay11 (iblk m c 0 t) (iblk m c 6 t))) h (ix2 p d)
      = QkvSpec.kAt (m ((c : Thread nD τ).loc main_arg0)) (m ((c : Thread nD τ).loc main_arg2)) (m ((c : Thread nD τ).loc main_arg4)) (m ((c : Thread nD τ).loc main_arg5)) (m ((c : Thread nD τ).loc main_arg6)) r h d := by
  have ht : t.val < 64 := t.isLt
  have b0 : ∀ j : Fin 896, iblk m c 0 t (ix2 p j) = (m ((c : Thread nD τ).loc main_arg0)) (ix2 r j) := by
    intro j
    rw [show r = ⟨t.val * 512 + p.val, by omega⟩ from Fin.ext hr]
    rw [← V_main_arg0 m c]
    blk_ext [iblk, idx0 t]
  rw [headK_apply, ropeK_apply, upK_eq m c t p h d r hr, blk6 m c t p d r hr, blk7 m c t p d r hr, b0, b0, (hp r d).1, (hp r d).2]
  exact QkvSpec.keyed _ _ _ _ d
theorem v_at (t : Fin cfg0.N) (p : Fin 512) (h : Fin 16) (e : Fin 64) (r : Fin 32768) (hr : r.val = t.val * 512 + p.val) :
    k0_pay4 (k0_pay7 (iblk m c 0 t) (iblk m c 2 t)) (iblk m c 5 t) (ix2 ⟨h.val * 64 + e.val, by omega⟩ p)
      = QkvSpec.vAt (m ((c : Thread nD τ).loc main_arg0)) (m ((c : Thread nD τ).loc main_arg2)) (m ((c : Thread nD τ).loc main_arg4)) r h e := by
  rw [pay4_apply]
  unfold QkvSpec.vAt QkvSpec.upKV
  refine Finset.sum_congr rfl fun k _ => congrArg₂ (· * ·) (normKV_eq m c t p k r hr) ?_
  exact (blk5 m c t _ k).trans (cutV_apply _ k h e)

theorem outs8_apply (t : Fin cfg0.N) (p : Fin 512) (j : Fin 2048) (r : Fin 32768) (hr : r.val = t.val * 512 + p.val) :
    out0_8 (iblk m c 0 t) (iblk m c 1 t) (iblk m c 2 t) (iblk m c 3 t) (iblk m c 4 t) (iblk m c 5 t) (iblk m c 6 t) (iblk m c 7 t) (ix2 p j) = QkvSpec.q (m ((c : Thread nD τ).loc main_arg0)) (m ((c : Thread nD τ).loc main_arg1)) (m ((c : Thread nD τ).loc main_arg3)) (m ((c : Thread nD τ).loc main_arg5)) (m ((c : Thread nD τ).loc main_arg6)) (ix2 r j) := by
  rw [out8_eq]
  exact (heads_apply (headQ _ _ _ _) (ix2 p j)).trans (q_at m c t p _ _ r hr)
theorem outs9_apply (hp : QkvSpec.Padded (m ((c : Thread nD τ).loc main_arg0))) (t : Fin cfg0.N) (p : Fin 512) (j : Fin 2048) (r : Fin 32768) (hr : r.val = t.val * 512 + p.val) :
    out0_9 (iblk m c 0 t) (iblk m c 1 t) (iblk m c 2 t) (iblk m c 3 t) (iblk m c 4 t) (iblk m c 5 t) (iblk m c 6 t) (iblk m c 7 t) (ix2 p j) = QkvSpec.k (m ((c : Thread nD τ).loc main_arg0)) (m ((c : Thread nD τ).loc main_arg2)) (m ((c : Thread nD τ).loc main_arg4)) (m ((c : Thread nD τ).loc main_arg5)) (m ((c : Thread nD τ).loc main_arg6)) (ix2 r j) := by
  rw [out9_eq]
  exact (heads_apply (headK _ _) (ix2 p j)).trans (k_at m c hp t p _ _ r hr)
theorem outs10_apply (t : Fin cfg0.N) (p : Fin 512) (j : Fin 1024) (r : Fin 32768) (hr : r.val = t.val * 512 + p.val) :
    out0_10 (iblk m c 0 t) (iblk m c 1 t) (iblk m c 2 t) (iblk m c 3 t) (iblk m c 4 t) (iblk m c 5 t) (iblk m c 6 t) (iblk m c 7 t) (ix2 j p) = QkvSpec.v (m ((c : Thread nD τ).loc main_arg0)) (m ((c : Thread nD τ).loc main_arg2)) (m ((c : Thread nD τ).loc main_arg4)) (ix2 j r) := by
  rw [out10_eq]
  have e : j = ⟨(⟨j.val / 64, by omega⟩ : Fin 16).val * 64 + (⟨j.val % 64, by omega⟩ : Fin 64).val, by simp only []; omega⟩ := by
    apply Fin.ext
    simp only []
    omega
  exact (congrArg (fun a => k0_pay4 _ _ (ix2 a p)) e).trans (v_at m c t p ⟨j.val / 64, by omega⟩ ⟨j.val % 64, by omega⟩ r hr)

/-! ## The final arrays of the three output windows -/

theorem final8 :
    (dats m 0 c).arrAt 8 cfg0.N = QkvSpec.q (m ((c : Thread nD τ).loc main_arg0)) (m ((c : Thread nD τ).loc main_arg1)) (m ((c : Thread nD τ).loc main_arg3)) (m ((c : Thread nD τ).loc main_arg5)) (m ((c : Thread nD τ).loc main_arg6)) := by
  refine (dats m 0 c).arrAt_eq_of_covers 8 _ (by decide +kernel) fun t hf y => ?_
  have ht : t.val < 64 := t.isLt
  have hy : (y 0).val < 512 := (y 0).isLt
  blk_simp
  rw [after0_8]
  rw [eq_ix2 y]
  refine (outs8_apply m c t (y 0) (y 1) ⟨t.val * 512 + (y 0).val, by omega⟩ rfl).trans (congrArg _ ?_)
  blk_ext [idx8 t]
theorem final9 (hp : QkvSpec.Padded (m ((c : Thread nD τ).loc main_arg0))) :
    (dats m 0 c).arrAt 9 cfg0.N = QkvSpec.k (m ((c : Thread nD τ).loc main_arg0)) (m ((c : Thread nD τ).loc main_arg2)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht : t.val < 64 := t.isLt
  have hy : (y 0).val < 512 := (y 0).isLt
  blk_simp
  rw [after0_9]
  rw [eq_ix2 y]
  refine (outs9_apply m c hp t (y 0) (y 1) ⟨t.val * 512 + (y 0).val, by omega⟩ rfl).trans (congrArg _ ?_)
  blk_ext [idx9 t]
theorem final10 :
    (dats m 0 c).arrAt 10 cfg0.N = QkvSpec.v (m ((c : Thread nD τ).loc main_arg0)) (m ((c : Thread nD τ).loc main_arg2)) (m ((c : Thread nD τ).loc main_arg4)) := by
  refine (dats m 0 c).arrAt_eq_of_covers 10 _ (by decide +kernel) fun t hf y => ?_
  have ht : t.val < 64 := t.isLt
  have hy : (y 1).val < 512 := (y 1).isLt
  blk_simp
  rw [after0_10]
  rw [eq_ix2 y]
  refine (outs10_apply m c t (y 1) (y 0) ⟨t.val * 512 + (y 1).val, by omega⟩ rfl).trans (congrArg _ ?_)
  blk_ext [idx10 t]

end Cert.Kernel4Ideal.Qkv

end
-- ==== Proof.QkvReference.lean ====
/-
  The reference program's three results at an index: the queries, keys and values of `QkvSpec`.
-/
module

public import proofs.«01_k».proof.Proof.QkvSpec
public import proofs.«01_k».proof.Proof.Gen.Reference4Ideal.Read
public import Idealize.ShloMosaic.Lib.Pointwise

@[expose] public section

set_option maxRecDepth 16384

noncomputable section

namespace Cert.Reference4Ideal.Qkv

open Cert.Reference4Ideal Cert.Reference4Ideal.Gen Cert.Reference4Ideal.Read Idealize.ShloMosaic Idealize.ShloMosaic.TcCoe Idealize.SL.Sem Idealize.ShloMosaic.StableHlo

variable (x0 : (⟨S32768x896, .bf16⟩ : BufTy).Contents (Elt Ideal)) (x1 : (⟨S2x384, .f32⟩ : BufTy).Contents (Elt Ideal))
  (x2 : (⟨S2x256, .f32⟩ : BufTy).Contents (Elt Ideal)) (x3 : (⟨S2x384x1536, .f32⟩ : BufTy).Contents (Elt Ideal))
  (x4 : (⟨S2x256x2048, .f32⟩ : BufTy).Contents (Elt Ideal)) (x5 x6 : (⟨S4096x16, .f32⟩ : BufTy).Contents (Elt Ideal))

/-- The row of position `i` of batch element `b`. -/
def row (b : Fin 8) (i : Fin 4096) : Fin 32768 := ⟨b.val * 4096 + i.val, by omega⟩

theorem angle_row (t : (⟨2, ![4096, 16]⟩ : Shape).Idx → EReal) (b : Fin 8) (i : Fin 4096) : QkvSpec.angle t (row b i) = fun e => t (ix2 i e) := by
  funext e
  exact congrArg (fun a => t (ix2 a e)) (Fin.ext (by show (b.val * 4096 + i.val) % 4096 = i.val; omega))

/-! ## The arguments, as the reference reshapes them -/

theorem v5_at (b : Fin 8) (i : Fin 4096) (k : Fin 384) : val_main_v5 (F := Ideal) x0 (ix3 b i k) = x0 (ix2 (row b i) ⟨k.val, by omega⟩) := by
  pointwise [val_main_v5, val_main_v1, val_main_v0, row]
theorem v50_at (b : Fin 8) (i : Fin 4096) (k : Fin 256) : val_main_v50 (F := Ideal) x0 (ix3 b i k) = x0 (ix2 (row b i) ⟨384 + k.val, by omega⟩) := by
  pointwise [val_main_v50, val_main_v4, val_main_v3, val_main_v2, val_main_v1, val_main_v0, row]
theorem v51_at (b : Fin 8) (i : Fin 4096) (e : Fin 32) : val_main_v51 (F := Ideal) x0 (ix3 b i e) = x0 (ix2 (row b i) ⟨704 + e.val, by omega⟩) := by
  pointwise [val_main_v51, val_main_v4, val_main_v3, val_main_v2, val_main_v1, val_main_v0, row]
theorem v21_at (b : Fin 8) (i : Fin 4096) (k : Fin 384) : val_main_v21 (F := Ideal) x1 (ix3 b i k) = x1 (ix2 1 k) := by
  pointwise [val_main_v21, val_main_v20, val_main_v7, val_main_v6]
theorem v63_at (b : Fin 8) (i : Fin 4096) (k : Fin 256) : val_main_v63 (F := Ideal) x2 (ix3 b i k) = x2 (ix2 1 k) := by
  pointwise [val_main_v63, val_main_v62, val_main_v47, val_main_v46]
theorem v9_at (k : Fin 384) (j : Fin 1536) : val_main_v9 (F := Ideal) x3 (ix2 k j) = x3 (ix3 1 k j) := by
  pointwise [val_main_v9, val_main_v8]
theorem v49_at (k : Fin 256) (j : Fin 2048) : val_main_v49 (F := Ideal) x4 (ix2 k j) = x4 (ix3 1 k j) := by
  pointwise [val_main_v49, val_main_v48]

/-! ## The normalised latents and the products -/

theorem v19_at (b : Fin 8) (i : Fin 4096) (k : Fin 384) : val_main_v19 (F := Ideal) x0 (ix3 b i k)
    = QkvSpec.rms (Ideal.ofBits .f32 0x43C00000#32) (fun j => val_main_v5 (F := Ideal) x0 (ix3 b i j)) k := by
  unfold val_main_v19 val_main_v18 val_main_v17 val_main_v16 val_main_v14 val_main_v12 val_main_v11 val_main_v10
  generalize val_main_v5 x0 = y
  pointwise [val_main_v13, val_main_v15, val_main_cst, val_main_cst_0, val_main_cst_1]
  rfl
theorem v61_at (b : Fin 8) (i : Fin 4096) (k : Fin 256) : val_main_v61 (F := Ideal) x0 (ix3 b i k)
    = QkvSpec.rms (Ideal.ofBits .f32 0x43800000#32) (fun j => val_main_v50 (F := Ideal) x0 (ix3 b i j)) k := by
  unfold val_main_v61 val_main_v60 val_main_v59 val_main_v58 val_main_v56 val_main_v54 val_main_v53 val_main_v52
  generalize val_main_v50 x0 = y
  pointwise [val_main_v55, val_main_v57, val_main_cst_2, val_main_cst_3, val_main_cst_4]
  rfl
theorem v22_at (b : Fin 8) (i : Fin 4096) (k : Fin 384) : val_main_v22 (F := Ideal) x0 x1 (ix3 b i k) = QkvSpec.normQ x0 x1 (row b i) k := by
  show val_main_v19 (F := Ideal) x0 (ix3 b i k) * val_main_v21 (F := Ideal) x1 (ix3 b i k) = _
  rw [v19_at, v21_at]
  simp only [v5_at]
  rfl
theorem v64_at (b : Fin 8) (i : Fin 4096) (k : Fin 256) : val_main_v64 (F := Ideal) x0 x2 (ix3 b i k) = QkvSpec.normKV x0 x2 (row b i) k := by
  show val_main_v61 (F := Ideal) x0 (ix3 b i k) * val_main_v63 (F := Ideal) x2 (ix3 b i k) = _
  rw [v61_at, v63_at]
  simp only [v50_at]
  rfl
theorem v23_at (b : Fin 8) (i : Fin 4096) (j : Fin 1536) : val_main_v23 (F := Ideal) x0 x1 x3 (ix3 b i j) = QkvSpec.upQ x0 x1 x3 (row b i) j := by
  unfold QkvSpec.upQ
  simp only [← v22_at, ← v9_at]
  unfold val_main_v23
  generalize val_main_v22 x0 x1 = y
  generalize val_main_v9 x3 = z
  pointwise []
theorem v65_at (b : Fin 8) (i : Fin 4096) (j : Fin 2048) : val_main_v65 (F := Ideal) x0 x2 x4 (ix3 b i j) = QkvSpec.upKV x0 x2 x4 (row b i) j := by
  unfold QkvSpec.upKV
  simp only [← v64_at, ← v49_at]
  unfold val_main_v65
  generalize val_main_v64 x0 x2 = y
  generalize val_main_v49 x4 = z
  pointwise []

/-! ## By heads -/

theorem v25_at (b : Fin 8) (i : Fin 4096) (h : Fin 16) (e : Fin 64) :
    val_main_v25 (F := Ideal) x0 x1 x3 (ix4 b i h e) = QkvSpec.upQ x0 x1 x3 (row b i) ⟨h.val * 96 + e.val, by omega⟩ := by
  rw [← v23_at]
  unfold val_main_v25 val_main_v24
  generalize val_main_v23 x0 x1 x3 = y
  pointwise []
theorem v26_at (b : Fin 8) (i : Fin 4096) (h : Fin 16) (e : Fin 32) :
    val_main_v26 (F := Ideal) x0 x1 x3 (ix4 b i h e) = QkvSpec.upQ x0 x1 x3 (row b i) ⟨h.val * 96 + 64 + e.val, by omega⟩ := by
  rw [← v23_at]
  unfold val_main_v26 val_main_v24
  generalize val_main_v23 x0 x1 x3 = y
  pointwise []
  simp only [Nat.add_assoc]
theorem v67_at (b : Fin 8) (i : Fin 4096) (h : Fin 16) (e : Fin 64) :
    val_main_v67 (F := Ideal) x0 x2 x4 (ix4 b i h e) = QkvSpec.upKV x0 x2 x4 (row b i) ⟨h.val * 128 + e.val, by omega⟩ := by
  rw [← v65_at]
  unfold val_main_v67 val_main_v66
  generalize val_main_v65 x0 x2 x4 = y
  pointwise []
theorem v99_at (b : Fin 8) (i : Fin 4096) (h : Fin 16) (e : Fin 64) :
    val_main_v99 (F := Ideal) x0 x2 x4 (ix2 ⟨h.val * 64 + e.val, by omega⟩ ⟨b.val * 4096 + i.val, by omega⟩) = QkvSpec.vAt x0 x2 x4 (row b i) h e := by
  unfold QkvSpec.vAt
  rw [← v65_at]
  unfold val_main_v99 val_main_v98 val_main_v97 val_main_v68 val_main_v66
  generalize val_main_v65 x0 x2 x4 = y
  pointwise []
  simp only [Nat.add_assoc]
theorem v45_at (b : Fin 8) (i : Fin 4096) (h : Fin 16) (e : Fin 32) : val_main_v45 (F := Ideal) x0 x1 x3 x5 x6 (ix4 b i h e)
    = QkvSpec.rot (fun e => val_main_v26 (F := Ideal) x0 x1 x3 (ix4 b i h e)) (fun e => x5 (ix2 i e)) (fun e => x6 (ix2 i e)) e := by
  unfold val_main_v45 val_main_v44 val_main_v43 val_main_v40 val_main_v37 val_main_v36 val_main_v33 val_main_v30 val_main_v29
  generalize val_main_v26 x0 x1 x3 = y
  pointwise [QkvSpec.rot, val_main_v42, val_main_v41, val_main_v39, val_main_v38, val_main_v35, val_main_v34, val_main_v32, val_main_v31, val_main_v28, val_main_v27]
  by_cases he : e.val < 16
  · simp only [dif_pos he, Nat.add_comm 16]
  · simp only [dif_neg he, show 16 + (e.val - 16) = e.val by omega]
theorem v85_at (b : Fin 8) (i : Fin 4096) (e : Fin 32) : val_main_v85 (F := Ideal) x0 x5 x6 (ix3 b i e)
    = QkvSpec.rot (fun e => val_main_v51 (F := Ideal) x0 (ix3 b i e)) (fun e => x5 (ix2 i e)) (fun e => x6 (ix2 i e)) e := by
  unfold val_main_v85 val_main_v84 val_main_v83 val_main_v80 val_main_v77 val_main_v76 val_main_v73 val_main_v70 val_main_v69
  generalize val_main_v51 x0 = y
  pointwise [QkvSpec.rot, val_main_v82, val_main_v81, val_main_v79, val_main_v78, val_main_v75, val_main_v74, val_main_v72, val_main_v71]
  by_cases he : e.val < 16
  · simp only [dif_pos he, Nat.add_comm 16]
  · simp only [dif_neg he, show 16 + (e.val - 16) = e.val by omega]

/-! ## The results -/

theorem lt96 (d : Nat) : d - 64 < 32 ↔ d < 96 := by omega

theorem v93_lane (b : Fin 8) (i : Fin 4096) (h : Fin 16) (d : Fin 128) :
    val_main_v93 (F := Ideal) x0 x1 x3 x5 x6 (ix2 ⟨b.val * 4096 + i.val, by omega⟩ ⟨h.val * 128 + d.val, by omega⟩)
      = QkvSpec.lane (fun e => val_main_v25 (F := Ideal) x0 x1 x3 (ix4 b i h e)) (fun e => val_main_v45 (F := Ideal) x0 x1 x3 x5 x6 (ix4 b i h e)) d * QkvSpec.scale := by
  unfold val_main_v93 val_main_v92 val_main_v91 val_main_v89
  generalize val_main_v25 x0 x1 x3 = y
  generalize val_main_v45 x0 x1 x3 x5 x6 = z
  pointwise [QkvSpec.lane, QkvSpec.scale, val_main_v90, val_main_v88, val_main_cst_5, val_main_cst_6]
  simp only [lt96]
theorem v96_lane (b : Fin 8) (i : Fin 4096) (h : Fin 16) (d : Fin 128) :
    val_main_v96 (F := Ideal) x0 x2 x4 x5 x6 (ix2 ⟨b.val * 4096 + i.val, by omega⟩ ⟨h.val * 128 + d.val, by omega⟩)
      = QkvSpec.lane (fun e => val_main_v67 (F := Ideal) x0 x2 x4 (ix4 b i h e)) (fun e => val_main_v85 (F := Ideal) x0 x5 x6 (ix3 b i e)) d := by
  unfold val_main_v96 val_main_v95 val_main_v94 val_main_v87 val_main_v86
  generalize val_main_v67 x0 x2 x4 = y
  generalize val_main_v85 x0 x5 x6 = z
  pointwise [QkvSpec.lane, val_main_v88, val_main_cst_5]
  simp only [lt96]
theorem v93_at (b : Fin 8) (i : Fin 4096) (h : Fin 16) (d : Fin 128) :
    val_main_v93 (F := Ideal) x0 x1 x3 x5 x6 (ix2 ⟨b.val * 4096 + i.val, by omega⟩ ⟨h.val * 128 + d.val, by omega⟩)
      = QkvSpec.qAt x0 x1 x3 x5 x6 (row b i) h d := by
  rw [v93_lane]
  simp only [v25_at, v45_at, v26_at]
  unfold QkvSpec.qAt
  rw [angle_row, angle_row]
theorem v96_at (b : Fin 8) (i : Fin 4096) (h : Fin 16) (d : Fin 128) :
    val_main_v96 (F := Ideal) x0 x2 x4 x5 x6 (ix2 ⟨b.val * 4096 + i.val, by omega⟩ ⟨h.val * 128 + d.val, by omega⟩)
      = QkvSpec.kAt x0 x2 x4 x5 x6 (row b i) h d := by
  rw [v96_lane]
  simp only [v67_at, v85_at, v51_at]
  unfold QkvSpec.kAt
  rw [angle_row, angle_row]

theorem row_split (r : Fin 32768) : row ⟨r.val / 4096, by omega⟩ ⟨r.val % 4096, by omega⟩ = r := Fin.ext (by show r.val / 4096 * 4096 + r.val % 4096 = r.val; omega)
theorem lane_split (j : Fin 2048) : (⟨(⟨j.val / 128, by omega⟩ : Fin 16).val * 128 + (⟨j.val % 128, by omega⟩ : Fin 128).val, by simp only []; omega⟩ : Fin 2048) = j :=
  Fin.ext (by simp only []; omega)
theorem chan_split (j : Fin 1024) : (⟨(⟨j.val / 64, by omega⟩ : Fin 16).val * 64 + (⟨j.val % 64, by omega⟩ : Fin 64).val, by simp only []; omega⟩ : Fin 1024) = j :=
  Fin.ext (by simp only []; omega)

theorem q_eq : val_main_v93 (F := Ideal) x0 x1 x3 x5 x6 = QkvSpec.q x0 x1 x3 x5 x6 := by
  funext y
  have e : y = ix2 (n0 := 32768) (n1 := 2048) _ _ := (eq_ix2 y).trans (congrArg₂ ix2 (row_split (y 0)).symm (lane_split (y 1)).symm)
  refine (congrArg _ e).trans ((v93_at x0 x1 x3 x5 x6 ⟨(y 0).val / 4096, _⟩ ⟨(y 0).val % 4096, _⟩ ⟨(y 1).val / 128, _⟩ ⟨(y 1).val % 128, _⟩).trans ?_)
  exact congrArg (fun r => QkvSpec.qAt x0 x1 x3 x5 x6 r _ _) (row_split (y 0))

theorem k_eq : val_main_v96 (F := Ideal) x0 x2 x4 x5 x6 = QkvSpec.k x0 x2 x4 x5 x6 := by
  funext y
  have e : y = ix2 (n0 := 32768) (n1 := 2048) _ _ := (eq_ix2 y).trans (congrArg₂ ix2 (row_split (y 0)).symm (lane_split (y 1)).symm)
  refine (congrArg _ e).trans ((v96_at x0 x2 x4 x5 x6 ⟨(y 0).val / 4096, _⟩ ⟨(y 0).val % 4096, _⟩ ⟨(y 1).val / 128, _⟩ ⟨(y 1).val % 128, _⟩).trans ?_)
  exact congrArg (fun r => QkvSpec.kAt x0 x2 x4 x5 x6 r _ _) (row_split (y 0))

theorem v_eq : val_main_v99 (F := Ideal) x0 x2 x4 = QkvSpec.v x0 x2 x4 := by
  funext y
  have e : y = ix2 (n0 := 1024) (n1 := 32768) _ _ := (eq_ix2 y).trans (congrArg₂ ix2 (chan_split (y 0)).symm (row_split (y 1)).symm)
  refine (congrArg _ e).trans ((v99_at x0 x2 x4 ⟨(y 1).val / 4096, _⟩ ⟨(y 1).val % 4096, _⟩ ⟨(y 0).val / 64, _⟩ ⟨(y 0).val % 64, _⟩).trans ?_)
  exact congrArg (fun r => QkvSpec.vAt x0 x2 x4 r _ _) (row_split (y 1))

end Cert.Reference4Ideal.Qkv

end
-- ==== Proof.QkvClaims.lean ====
/-
  The claims of the projection to queries, keys and values: the reference's frame, what the precondition says, and the
  value claim of the three results.
-/
module

public import proofs.«01_k».proof.Defs
public import proofs.«01_k».proof.Proof.QkvArray
public import proofs.«01_k».proof.Proof.QkvReference
public import proofs.«01_k».proof.Proof.Gen.Reference4Ideal.Run
public import proofs.«01_k».proof.Proof.Gen.Pre_padded_key
public import Idealize.ShloMosaic.Lib.ReduceAll
public import Idealize.ShloMosaic.Lib.Pointwise

@[expose] public section

set_option maxRecDepth 16384

noncomputable section

namespace Cert.QkvClaims

open Idealize.ShloMosaic Idealize.SL.Sem

/-- The reference runs, ends with its arguments unchanged and owns no semaphore. -/
theorem frame_reference : Cert.quiescent_Reference4Ideal := fun m ρ _ => (θ_run Cert.Reference4Ideal.defs _ _).mono
  (fun r h => And.intro (fun c => (h c).2.2.2) (Idealize.ShloMosaic.sem_eq_zero_of_no_sems (by decide) r.2))
  (Cert.Reference4Ideal.Value.run (F := Ideal) m ρ)

/-! ## The precondition -/

instance : Subsingleton Cert.Pre_padded_key.S_.Idx := ⟨fun a b => funext fun i => i.elim0⟩

/-- Two extended reals that compare equal are equal. -/
theorem eq_of_cmp {a b : EReal} (h : Ideal.cmp .oeq a b = 1#1) : a = b := by
  by_contra hn
  simp [Ideal.cmp, hn] at h

section

open Cert.Pre_padded_key Cert.Pre_padded_key.Facts

variable (u : FVec Ideal S32768x896 .bf16)

/-- The padded key columns, and what the precondition compares them with. -/
def columns : FVec Ideal S32768x256 .f32 := extf .f32 (extractStridedSlice S32768x256 ![0, 640] u slices_S32768x896_S32768x256_0_640) bitsLt_bf16_f32
def lanes : FVec Ideal S32768x32 .f32 := extractStridedSlice S32768x32 ![0, 64] (columns u) slices_S32768x256_S32768x32_0_64
def laid (x : FVec Ideal S32768x32 .f32) : FVec Ideal S32768x256 .f32 :=
  concatenate S32768x256 1
    [⟨S32768x64, broadcastInDim S32768x64 ![] bcast_S_S32768x64 (constant S_ .f32 0x00000000#32 : FVec Ideal S_ .f32)⟩, ⟨S32768x32, x⟩,
     ⟨S32768x32, broadcastInDim S32768x32 ![] bcast_S_S32768x32 (constant S_ .f32 0x00000000#32 : FVec Ideal S_ .f32)⟩,
     ⟨S32768x64, broadcastInDim S32768x64 ![] bcast_S_S32768x64 (constant S_ .f32 0x00000000#32 : FVec Ideal S_ .f32)⟩,
     ⟨S32768x16, Host.negf (extractStridedSlice S32768x16 ![0, 16] x slices_S32768x32_S32768x16_0_16)⟩,
     ⟨S32768x16, extractStridedSlice S32768x16 ![0, 0] x slices_S32768x32_S32768x16_0_0⟩,
     ⟨S32768x32, broadcastInDim S32768x32 ![] bcast_S_S32768x32 (constant S_ .f32 0x00000000#32 : FVec Ideal S_ .f32)⟩]
    concatenates_S32768x64_S32768x32_S32768x32_S32768x64_S32768x16_S32768x16_S32768x32_S32768x256_d1

theorem columns_at (r : Fin 32768) (d : Fin 256) : columns u (ix2 r d) = u (ix2 r ⟨640 + d.val, by omega⟩) := by
  pointwise [columns]
theorem lanes_at (r : Fin 32768) (e : Fin 32) : lanes u (ix2 r e) = u (ix2 r ⟨704 + e.val, by omega⟩) := by
  pointwise [lanes, columns]
  exact congrArg (fun a => u (ix2 r a)) (Fin.ext (by simp only []; omega))
theorem laid_left (x : FVec Ideal S32768x32 .f32) (r : Fin 32768) (d : Fin 128) :
    laid x (ix2 r ⟨d.val, by omega⟩) = QkvSpec.lane (fun _ => 0) (fun e => x (ix2 r e)) d := by
  pointwise [laid, QkvSpec.lane]
  by_cases h1 : d.val < 64
  · simp only [dif_pos h1]
  · by_cases h2 : d.val < 96
    · simp only [dif_neg h1, dif_pos h2, dif_pos (show d.val - 64 < 32 by omega)]
    · simp only [dif_neg h1, dif_neg h2, dif_neg (show ¬ d.val - 64 < 32 by omega), dif_pos (show d.val - 64 - 32 < 32 by omega)]
theorem laid_right (x : FVec Ideal S32768x32 .f32) (r : Fin 32768) (d : Fin 128) :
    laid x (ix2 r ⟨128 + d.val, by omega⟩) = QkvSpec.partner (fun e => x (ix2 r e)) d := by
  pointwise [laid, QkvSpec.partner]
  simp only [dif_neg (show ¬ 128 + d.val < 64 by omega), dif_neg (show ¬ 128 + d.val - 64 < 32 by omega), dif_neg (show ¬ 128 + d.val - 64 - 32 < 32 by omega)]
  by_cases h1 : d.val < 64
  · simp only [if_pos h1, dif_pos (show 128 + d.val - 64 - 32 - 32 < 64 by omega)]
  · simp only [if_neg h1, dif_neg (show ¬ 128 + d.val - 64 - 32 - 32 < 64 by omega)]
    by_cases h2 : d.val < 80
    · simp only [dif_pos h2, dif_pos (show 128 + d.val - 64 - 32 - 32 - 64 < 16 by omega), show 16 + (128 + d.val - 64 - 32 - 32 - 64) = d.val - 48 by omega]
    · simp only [dif_neg h2, dif_neg (show ¬ 128 + d.val - 64 - 32 - 32 - 64 < 16 by omega)]
      by_cases h3 : d.val < 96
      · simp only [dif_pos h3, dif_pos (show d.val - 80 < 16 by omega), show 128 + d.val - 64 - 32 - 32 - 64 - 16 = d.val - 80 by omega]
      · simp only [dif_neg h3, dif_neg (show ¬ 128 + d.val - 64 - 32 - 32 - 64 - 16 < 16 by omega)]

/-- The precondition says that the stream's padded key columns hold the rotary lanes and their partners. -/
theorem padded (qg : FVec Ideal S2x384 .f32) (kg : FVec Ideal S2x256 .f32) (wq : FVec Ideal S2x384x1536 .f32) (wkv : FVec Ideal S2x256x2048 .f32)
    (cos sin : FVec Ideal S4096x16 .f32) (h : Cert.Pre_padded_key.fn (F := Ideal) u qg kg wq wkv cos sin = fun _ => 1#1) : QkvSpec.Padded u := by
  have h0 := congrFun h (fun a => a.elim0)
  unfold Cert.Pre_padded_key.fn at h0
  have e : ∀ i, columns u i = laid (lanes u) i := fun i => eq_of_cmp (Host.reduce_andi_all _ _ _ _ _ h0 i)
  intro r d
  constructor
  · rw [← columns_at u r ⟨d.val, by omega⟩, e, laid_left]
    simp only [lanes_at]
  · have e' : (⟨768 + d.val, by omega⟩ : Fin 896) = ⟨640 + (⟨128 + d.val, by omega⟩ : Fin 256).val, by simp only []; omega⟩ := Fin.ext (by simp only []; omega)
    rw [e', ← columns_at u r ⟨128 + d.val, by omega⟩, e, laid_right]
    simp only [lanes_at]

end

/-- From memories agreeing on the arguments, the padded key columns as the input projection leaves them, the kernel and the
    reference end with the same three arrays: those of `QkvSpec` of the arguments. -/
theorem algebraic : Cert.algebraic_Kernel4Ideal_Reference4Ideal_pre_padded_key := by
  intro m ρ m' ρ' hpre hag
  refine ⟨fun c => QkvSpec.q (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg3))
        (m ((c.tc : Thread Cert.Kernel4Ideal.nD Cert.Kernel4Ideal.τ).loc Cert.Kernel4Ideal.main_arg5))
        (m ((c.tc : Thread Cert.Kernel4Ideal.nD Cert.Kernel4Ideal.τ).loc Cert.Kernel4Ideal.main_arg6)),
      fun c => QkvSpec.k (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg2))
        (m ((c.tc : Thread Cert.Kernel4Ideal.nD Cert.Kernel4Ideal.τ).loc Cert.Kernel4Ideal.main_arg4))
        (m ((c.tc : Thread Cert.Kernel4Ideal.nD Cert.Kernel4Ideal.τ).loc Cert.Kernel4Ideal.main_arg5))
        (m ((c.tc : Thread Cert.Kernel4Ideal.nD Cert.Kernel4Ideal.τ).loc Cert.Kernel4Ideal.main_arg6)),
      fun c => QkvSpec.v (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg2))
        (m ((c.tc : Thread Cert.Kernel4Ideal.nD Cert.Kernel4Ideal.τ).loc Cert.Kernel4Ideal.main_arg4)), ?_, ?_⟩
  · exact (θ_run Cert.Kernel4Ideal.defs _ _).mono
      (fun _ h c => ⟨(h c).1.trans (Cert.Kernel4Ideal.Qkv.final8 m c), (h c).2.1.trans (Cert.Kernel4Ideal.Qkv.final9 m c (padded _ _ _ _ _ _ _ (hpre c))),
        (h c).2.2.1.trans (Cert.Kernel4Ideal.Qkv.final10 m c), (h c).2.2.2⟩)
      (Cert.Kernel4Ideal.Value.run_blocks m ρ)
  · refine (θ_run Cert.Reference4Ideal.defs _ _).mono
      (fun _ h c => ⟨(h c).1.trans ?_, (h c).2.1.trans ?_, (h c).2.2.1.trans ?_, (h c).2.2.2⟩) (Cert.Reference4Ideal.Value.run m' ρ')
    · obtain ⟨h0, h1, h2, h3, h4, h5, h6⟩ := hag c
      beta_reduce
      rw [← h0, ← h1, ← h3, ← h5, ← h6]
      exact (Cert.Reference4Ideal.Read.val_main_v93_eq _ _).trans (Cert.Reference4Ideal.Qkv.q_eq ..)
    · obtain ⟨h0, h1, h2, h3, h4, h5, h6⟩ := hag c
      beta_reduce
      rw [← h0, ← h2, ← h4, ← h5, ← h6]
      exact (Cert.Reference4Ideal.Read.val_main_v96_eq _ _).trans (Cert.Reference4Ideal.Qkv.k_eq ..)
    · obtain ⟨h0, h1, h2, h3, h4, h5, h6⟩ := hag c
      beta_reduce
      rw [← h0, ← h2, ← h4]
      exact (Cert.Reference4Ideal.Read.val_main_v99_eq _ _ _).trans (Cert.Reference4Ideal.Qkv.v_eq ..)

end Cert.QkvClaims

end
-- ==== Proof.AdaSpec.lean ====
/-
  The modulations: of each of sixteen rows (the batch elements', the context's, and rows of zeros), the row times its logistic
  function, through each layer's weight, plus that layer's bias.
-/
module

public import proofs.«01_k».proof.Proof.MixSpec

@[expose] public section

noncomputable section

namespace Cert.AdaSpec

open Idealize.ShloMosaic

/-- The rows that are modulated from. -/
def row (c : (⟨2, ![8, 1024]⟩ : Shape).Idx → EReal) (x : (⟨1, ![1024]⟩ : Shape).Idx → EReal) (r : Fin 16) (k : Fin 1024) : EReal :=
  if h : r.val < 8 then c (ix2 ⟨r.val, h⟩ k) else if r.val = 8 then x (ix1 k) else 0

/-- A value times its logistic function. -/
def silu (x : EReal) : EReal := x * MixSpec.lgt x

/-- The modulation of layer `l`, row `r`, column `n`. -/
def ada (c : (⟨2, ![8, 1024]⟩ : Shape).Idx → EReal) (x : (⟨1, ![1024]⟩ : Shape).Idx → EReal) (w : (⟨3, ![2, 1024, 6144]⟩ : Shape).Idx → EReal)
    (b : (⟨2, ![2, 6144]⟩ : Shape).Idx → EReal) (l : Fin 2) (r : Fin 16) (n : Fin 6144) : EReal :=
  (∑ k : Fin 1024, silu (row c x r k) * w (ix3 l k n)) + b (ix2 l n)

/-- All of them. -/
def result (c : (⟨2, ![8, 1024]⟩ : Shape).Idx → EReal) (x : (⟨1, ![1024]⟩ : Shape).Idx → EReal) (w : (⟨3, ![2, 1024, 6144]⟩ : Shape).Idx → EReal)
    (b : (⟨2, ![2, 6144]⟩ : Shape).Idx → EReal) : (⟨3, ![2, 16, 6144]⟩ : Shape).Idx → EReal :=
  fun y => ada c x w b (y 0) (y 1) (y 2)

end Cert.AdaSpec

end
-- ==== Proof.Place.lean ====
/-
  An array set into a larger one at a fixed place, read at an element: rows of a matrix, columns of a matrix, and one row.
  The place is one index word. What is not set keeps the larger array's element.
-/
module

public import Idealize.ShloMosaic.Lib.Routing.OpsSet

@[expose] public section

namespace Cert.Place

open Idealize.ShloMosaic Idealize.ShloMosaic.ValueIdx Idealize.ShloMosaic.Routing

variable {α : Type} {R C U : Nat}

/-- The dimension numbers of rows set into a matrix, of columns set into a matrix, and of one row set into a matrix. -/
abbrev rowsDims (wf : ScatterDims.WF (shape2 R C) (shape1 1) (shape2 U C) [0, 1] [] [0] 0) : ScatterDims (shape2 R C) (shape1 1) (shape2 U C) where
  updateWindowDims := [0, 1]
  insertedWindowDims := []
  scatterDimsToOperandDims := [0]
  indexVectorDim := 0
  wf := wf
abbrev colsDims (wf : ScatterDims.WF (shape2 R C) (shape1 1) (shape2 R U) [0, 1] [] [1] 0) : ScatterDims (shape2 R C) (shape1 1) (shape2 R U) where
  updateWindowDims := [0, 1]
  insertedWindowDims := []
  scatterDimsToOperandDims := [1]
  indexVectorDim := 0
  wf := wf
abbrev rowDims (wf : ScatterDims.WF (shape2 R C) (shape1 1) (shape1 C) [0] [0] [0] 0) : ScatterDims (shape2 R C) (shape1 1) (shape1 C) where
  updateWindowDims := [0]
  insertedWindowDims := [0]
  scatterDimsToOperandDims := [0]
  indexVectorDim := 0
  wf := wf

/-- Where each element of what is set lands. -/
theorem rows_lands (wf : ScatterDims.WF (shape2 R C) (shape1 1) (shape2 U C) [0, 1] [] [0] 0) (idx : IVec (shape1 1) 32) (hi : (idx (ix1 0)).toInt = 0)
    (a : Fin U) (b : Fin C) (r : Fin R) (n : Fin C) : (rowsDims wf).resultIdx? (ix2 a b) idx = some (ix2 r n) ↔ a.val = r.val ∧ b = n := by
  have w0 : (rowsDims wf).window (ix2 a b) 0 = a.val := rfl
  have w1 : (rowsDims wf).window (ix2 a b) 1 = b.val := rfl
  have s0 : (rowsDims wf).start (ix2 a b) idx 0 = 0 := by
    refine Eq.trans ?_ hi
    refine congrArg (fun t => (idx t).toInt) (funext fun t => ?_)
    match t with
    | ⟨0, _⟩ => exact Subsingleton.elim (α := Fin 1) _ _
  have s1 : (rowsDims wf).start (ix2 a b) idx 1 = 0 := rfl
  rw [Fin.ext_iff, resultIdx?_ix2, w0, w1, s0, s1]
  omega
theorem cols_lands (wf : ScatterDims.WF (shape2 R C) (shape1 1) (shape2 R U) [0, 1] [] [1] 0) (idx : IVec (shape1 1) 32) (hi : (idx (ix1 0)).toInt = 0)
    (a : Fin R) (b : Fin U) (r : Fin R) (n : Fin C) : (colsDims wf).resultIdx? (ix2 a b) idx = some (ix2 r n) ↔ a = r ∧ b.val = n.val := by
  have w0 : (colsDims wf).window (ix2 a b) 0 = a.val := rfl
  have w1 : (colsDims wf).window (ix2 a b) 1 = b.val := rfl
  have s1 : (colsDims wf).start (ix2 a b) idx 1 = 0 := by
    refine Eq.trans ?_ hi
    refine congrArg (fun t => (idx t).toInt) (funext fun t => ?_)
    match t with
    | ⟨0, _⟩ => exact Subsingleton.elim (α := Fin 1) _ _
  have s0 : (colsDims wf).start (ix2 a b) idx 0 = 0 := rfl
  rw [Fin.ext_iff, resultIdx?_ix2, w0, w1, s0, s1]
  omega
theorem row_lands (wf : ScatterDims.WF (shape2 R C) (shape1 1) (shape1 C) [0] [0] [0] 0) (idx : IVec (shape1 1) 32) (k : Nat) (hi : (idx (ix1 0)).toInt = (k : Int))
    (b : Fin C) (r : Fin R) (n : Fin C) : (rowDims wf).resultIdx? (ix1 b) idx = some (ix2 r n) ↔ r.val = k ∧ b = n := by
  have w0 : (rowDims wf).window (ix1 b) 0 = 0 := rfl
  have w1 : (rowDims wf).window (ix1 b) 1 = b.val := rfl
  have s0 : (rowDims wf).start (ix1 b) idx 0 = (k : Int) := by
    refine Eq.trans ?_ hi
    refine congrArg (fun t => (idx t).toInt) (funext fun t => ?_)
    match t with
    | ⟨0, _⟩ => exact Subsingleton.elim (α := Fin 1) _ _
  have s1 : (rowDims wf).start (ix1 b) idx 1 = 0 := rfl
  rw [Fin.ext_iff, resultIdx?_ix2, w0, w1, s0, s1]
  omega

/-- Rows set from row 0 on. -/
theorem rows_apply (wf : ScatterDims.WF (shape2 R C) (shape1 1) (shape2 U C) [0, 1] [] [0] 0) (x : (shape2 R C).Idx → α) (idx : IVec (shape1 1) 32)
    (hi : (idx (ix1 0)).toInt = 0) (v : (shape2 U C).Idx → α) (r : Fin R) (n : Fin C) :
    Host.scatter (rowsDims wf) (fun _ b => b) x idx v (ix2 r n) = if h : r.val < U then v (ix2 ⟨r.val, h⟩ n) else x (ix2 r n) := by
  have lands : ∀ j : (shape2 U C).Idx, (rowsDims wf).resultIdx? j idx = some (ix2 r n) → (j 0).val = r.val ∧ j 1 = n := fun j hj =>
    (rows_lands wf idx hi (j 0) (j 1) r n).1 ((congrArg (fun t => (rowsDims wf).resultIdx? t idx) (eq_ix2 j).symm).trans hj)
  by_cases h : r.val < U
  · rw [dif_pos h]
    refine scatter_set_hit (rowsDims wf) x idx v _ _ (fun j hj => ?_) (ix2 ⟨r.val, h⟩ n) ((rows_lands wf idx hi _ _ r n).2 ⟨rfl, rfl⟩)
    rw [eq_ix2 j]
    exact congrArg₂ (fun a b => v (ix2 a b)) (Fin.ext (lands j hj).1) (lands j hj).2
  · rw [dif_neg h]
    exact scatter_set_miss (rowsDims wf) x idx v _ fun j hj => h ((lands j hj).1 ▸ (j 0).isLt)

/-- Columns set from column 0 on. -/
theorem cols_apply (wf : ScatterDims.WF (shape2 R C) (shape1 1) (shape2 R U) [0, 1] [] [1] 0) (x : (shape2 R C).Idx → α) (idx : IVec (shape1 1) 32)
    (hi : (idx (ix1 0)).toInt = 0) (v : (shape2 R U).Idx → α) (r : Fin R) (n : Fin C) :
    Host.scatter (colsDims wf) (fun _ b => b) x idx v (ix2 r n) = if h : n.val < U then v (ix2 r ⟨n.val, h⟩) else x (ix2 r n) := by
  have lands : ∀ j : (shape2 R U).Idx, (colsDims wf).resultIdx? j idx = some (ix2 r n) → j 0 = r ∧ (j 1).val = n.val := fun j hj =>
    (cols_lands wf idx hi (j 0) (j 1) r n).1 ((congrArg (fun t => (colsDims wf).resultIdx? t idx) (eq_ix2 j).symm).trans hj)
  by_cases h : n.val < U
  · rw [dif_pos h]
    refine scatter_set_hit (colsDims wf) x idx v _ _ (fun j hj => ?_) (ix2 r ⟨n.val, h⟩) ((cols_lands wf idx hi _ _ r n).2 ⟨rfl, rfl⟩)
    rw [eq_ix2 j]
    exact congrArg₂ (fun a b => v (ix2 a b)) (lands j hj).1 (Fin.ext (lands j hj).2)
  · rw [dif_neg h]
    exact scatter_set_miss (colsDims wf) x idx v _ fun j hj => h ((lands j hj).2 ▸ (j 1).isLt)

/-- Row `k` set. -/
theorem row_apply (wf : ScatterDims.WF (shape2 R C) (shape1 1) (shape1 C) [0] [0] [0] 0) (x : (shape2 R C).Idx → α) (idx : IVec (shape1 1) 32) (k : Nat)
    (hi : (idx (ix1 0)).toInt = (k : Int)) (v : (shape1 C).Idx → α) (r : Fin R) (n : Fin C) :
    Host.scatter (rowDims wf) (fun _ b => b) x idx v (ix2 r n) = if r.val = k then v (ix1 n) else x (ix2 r n) := by
  have lands : ∀ j : (shape1 C).Idx, (rowDims wf).resultIdx? j idx = some (ix2 r n) → r.val = k ∧ j 0 = n := fun j hj =>
    (row_lands wf idx k hi (j 0) r n).1 ((congrArg (fun t => (rowDims wf).resultIdx? t idx) (eq_ix1 j).symm).trans hj)
  by_cases h : r.val = k
  · rw [if_pos h]
    refine scatter_set_hit (rowDims wf) x idx v _ _ (fun j hj => ?_) (ix1 n) ((row_lands wf idx k hi _ r n).2 ⟨h, rfl⟩)
    rw [eq_ix1 j]
    exact congrArg (fun b => v (ix1 b)) (lands j hj).2
  · rw [if_neg h]
    exact scatter_set_miss (rowDims wf) x idx v _ fun j hj => h (lands j hj).1

end Cert.Place
-- ==== Proof.AdaArray.lean ====
/-
  The array the modulation's kernel leaves: that of `AdaSpec`, at every index.
-/
module

public import proofs.«01_k».proof.Proof.AdaSpec
public import proofs.«01_k».proof.Proof.Place
public import proofs.«01_k».proof.Proof.Gen.Kernel5Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Ada

open Cert.Kernel5Ideal Cert.Kernel5Ideal.Gen Idealize.ShloMosaic Idealize.ShloMosaic.TcCoe Idealize.SL.Sem
open Idealize.ShloMosaic.Pipeline (Dat)

/-! ## One block -/

/-- The rows times their logistic function. -/
def silu {F : FTy → Type} [FloatOps F] (x : Vec F S16x1024 .f32) : FVec F S16x1024 .f32 :=
  mulf (shapeCast S16x1024 x shapeCasts_S16x1024_S16x1024) (divf (broadcast S16x1024 (Scalar.ofBits .f32 0x3F800000#32))
    (addf (broadcast S16x1024 (Scalar.ofBits .f32 0x3F800000#32))
      (exp (subf (broadcast S16x1024 (Scalar.ofBits .f32 0x00000000#32)) (shapeCast S16x1024 x shapeCasts_S16x1024_S16x1024)))))

theorem silu_apply (x : Vec Ideal S16x1024 .f32) (r : Fin 16) (k : Fin 1024) : silu (F := Ideal) x (ix2 r k) = AdaSpec.silu (x (ix2 r k)) := by
  unfold AdaSpec.silu MixSpec.lgt
  rw [← MixSpec.zero_sub']
  pointwise [silu]

/-- The body's product and bias, out of the rows it multiplies. -/
def times {F : FTy → Type} [FloatOps F] (s : FVec F S16x1024 .f32) (w : Vec F S1x1024x1024 .f32) (b : Vec F S1x1x1024 .f32) : FVec F S1x16x1024 .f32 :=
  shapeCast S1x16x1024 (addf (matmul dot_S16x1024_S1024x1024_S16x1024_1_0_0_1_n_n (some .fp32) s (shapeCast S1024x1024 w shapeCasts_S1x1024x1024_S1024x1024)
      (constant S16x1024 .f32 0x00000000#32))
    (broadcastTo S16x1024 (shapeCast S1x1024 b shapeCasts_S1x1x1024_S1x1024) broadcasts_S1x1024_S16x1024)) shapeCasts_S16x1024_S1x16x1024

theorem times_apply (s : FVec Ideal S16x1024 .f32) (w : Vec Ideal S1x1024x1024 .f32) (b : Vec Ideal S1x1x1024 .f32) (r : Fin 16) (n : Fin 1024) :
    times (F := Ideal) s w b (ix3 0 r n) = (∑ k : Fin 1024, s (ix2 r k) * w (ix3 0 k n)) + b (ix3 0 0 n) := by
  pointwise [times]

theorem zero2 (a : Fin 2) : (![0, 0] : Fin 2 → Nat) a = 0 := by revert a; decide
theorem zero3 (a : Fin 3) : (![0, 0, 0] : Fin 3 → Nat) a = 0 := by revert a; decide

theorem out_eq (x0 : Vec Ideal S16x1024 .f32) (x1 : Vec Ideal S1x1024x1024 .f32) (x2 : Vec Ideal S1x1x1024 .f32) :
    out0_3 (F := Ideal) x0 x1 x2 = times (F := Ideal) (silu x0) x1 x2 := by
  unfold out0_3
  rw [View.canon_unit_zero (S := S1x16x1024) (funext zero3)]
  simp only [View.ld_unit_zero (S := S16x1024) (funext zero2), View.ld_unit_zero (S := S1x1024x1024) (funext zero3), View.ld_unit_zero (S := S1x1x1024) (funext zero3)]
  rfl

/-! ## What the kernel is handed -/

/-- The rows as the operations before the kernel make them. -/
def rows (x0 : FVec Ideal S8x1024 .f32) (x1 : FVec Ideal S1024 .f32) : FVec Ideal S16x1024 .f32 :=
  Host.scatter scatter_S16x1024_S1_S1024_0_0_0_0 (fun _ b => b)
    (Host.scatter scatter_S16x1024_S1_S8x1024_01_n_0_0 (fun _ b => b)
      (broadcastInDim S16x1024 ![] bcast_S_S16x1024 (constant S_ .f32 0x00000000#32 : FVec Ideal S_ .f32)) (broadcastInDim S1 ![] bcast_S_S1 (constantI S_ 32 0#32)) x0)
    (broadcastInDim S1 ![] bcast_S_S1 (constantI S_ 32 8#32)) x1

theorem zeros_apply (r : Fin 16) (k : Fin 1024) :
    broadcastInDim S16x1024 ![] bcast_S_S16x1024 (constant S_ .f32 0x00000000#32 : FVec Ideal S_ .f32) (ix2 r k) = (0 : EReal) := by
  pointwise []

theorem rows_apply (x0 : FVec Ideal S8x1024 .f32) (x1 : FVec Ideal S1024 .f32) (r : Fin 16) (k : Fin 1024) : rows x0 x1 (ix2 r k) = AdaSpec.row x0 x1 r k := by
  unfold rows AdaSpec.row
  refine (Place.row_apply _ _ _ 8 (by rfl) x1 r k).trans ?_
  by_cases h : r.val < 8
  · rw [if_neg (by omega), dif_pos h]
    refine (Place.rows_apply _ _ _ (by rfl) x0 r k).trans ?_
    rw [dif_pos h]
    rfl
  · rw [dif_neg h]
    by_cases e : r.val = 8
    · rw [if_pos e, if_pos e]
      rfl
    · rw [if_neg e, if_neg e]
      refine (Place.rows_apply _ _ _ (by rfl) x0 r k).trans ?_
      rw [dif_neg h]
      exact zeros_apply r k

variable (m : (ℓ : Loc nD τ sig) → Buf (Elt Ideal) ℓ) (c : Dev nD)

theorem handed_rows : V m c main_v4 = rows (m ((c : Thread nD τ).loc main_arg0)) (m ((c : Thread nD τ).loc main_arg1)) := by
  show StableHlo.after hostOps0 (fun b => m (c, b)) main_v4 = _
  simp only [hostOps0, StableHlo.after_cons, StableHlo.after_nil]
  after_results_simp
  rfl
theorem cast_bias (b : FVec Ideal S2x6144 .f32) (l : Fin 2) (n : Fin 6144) : shapeCast S2x1x6144 b shapeCasts_S2x6144_S2x1x6144 (ix3 l 0 n) = b (ix2 l n) := by
  have h : l = 0 ∨ l = 1 := by revert l; decide
  rcases h with h | h
  · rw [h]
    pointwise []
  · rw [h]
    pointwise []
theorem handed_bias (l : Fin 2) (n : Fin 6144) : V m c main_v5 (ix3 l 0 n) = m ((c : Thread nD τ).loc main_arg3) (ix2 l n) := by
  have e : V m c main_v5 = shapeCast S2x1x6144 (m ((c : Thread nD τ).loc main_arg3)) shapeCasts_S2x6144_S2x1x6144 := by
    show StableHlo.after hostOps0 (fun b => m (c, b)) main_v5 = _
    simp only [hostOps0, StableHlo.after_cons, StableHlo.after_nil]
    after_results_simp
    rfl
  rw [e]
  exact cast_bias _ l n

/-! ## The array -/

/-- Which blocks grid point `t` reads and writes: columns `t % 6` of layer `t / 6`. -/
theorem idx0 : ∀ t : Fin cfg0.N, win0_0.index t = ![0, 0] := (by decide +kernel : ∀ t : Fin grid0.N, win0_0.index t = ![0, 0])
theorem idx1 : ∀ t : Fin cfg0.N, win0_1.index t = ![t.val / 6, 0, t.val % 6] := (by decide +kernel : ∀ t : Fin grid0.N, win0_1.index t = ![t.val / 6, 0, t.val % 6])
theorem idx2 : ∀ t : Fin cfg0.N, win0_2.index t = ![t.val / 6, 0, t.val % 6] := (by decide +kernel : ∀ t : Fin grid0.N, win0_2.index t = ![t.val / 6, 0, t.val % 6])
theorem idx3 : ∀ t : Fin cfg0.N, win0_3.index t = ![t.val / 6, 0, t.val % 6] := (by decide +kernel : ∀ t : Fin grid0.N, win0_3.index t = ![t.val / 6, 0, t.val % 6])

theorem outs_apply (t : Fin cfg0.N) (r : Fin 16) (n : Fin 1024) (l : Fin 2) (hl : l.val = t.val / 6) (j : Fin 6144) (hj : j.val = t.val % 6 * 1024 + n.val) :
    out0_3 (iblk m c 0 t) (iblk m c 1 t) (iblk m c 2 t) (ix3 0 r n)
      = AdaSpec.result (m ((c : Thread nD τ).loc main_arg0)) (m ((c : Thread nD τ).loc main_arg1)) (m ((c : Thread nD τ).loc main_arg2))
          (m ((c : Thread nD τ).loc main_arg3)) (ix3 l r j) := by
  have ht : t.val < 12 := t.isLt
  rw [show l = ⟨t.val / 6, by omega⟩ from Fin.ext hl, show j = ⟨t.val % 6 * 1024 + n.val, by omega⟩ from Fin.ext hj]
  rw [out_eq, times_apply]
  refine congrArg₂ _ (Finset.sum_congr rfl fun k _ => congrArg₂ _ ?_ ?_) ?_
  · rw [silu_apply]
    refine congrArg _ ?_
    refine Eq.trans ?_ (rows_apply _ _ r k)
    rw [← handed_rows m c]
    blk_ext [iblk, idx0 t]
  · show iblk m c 1 t (ix3 0 k n) = m ((c : Thread nD τ).loc main_arg2) (ix3 ⟨t.val / 6, _⟩ k ⟨t.val % 6 * 1024 + n.val, _⟩)
    rw [← V_main_arg2 m c]
    blk_ext [iblk, idx1 t]
  · show iblk m c 2 t (ix3 0 0 n) = m ((c : Thread nD τ).loc main_arg3) (ix2 ⟨t.val / 6, _⟩ ⟨t.val % 6 * 1024 + n.val, _⟩)
    rw [← handed_bias m c]
    blk_ext [iblk, idx2 t]

theorem final : (dats m 0 c).arrAt 3 cfg0.N
    = AdaSpec.result (m ((c : Thread nD τ).loc main_arg0)) (m ((c : Thread nD τ).loc main_arg1)) (m ((c : Thread nD τ).loc main_arg2))
        (m ((c : Thread nD τ).loc main_arg3)) := by
  refine (dats m 0 c).arrAt_eq_of_covers 3 _ (by decide +kernel) fun t hf y => ?_
  have ht : t.val < 12 := t.isLt
  have hn : (y 2).val < 1024 := (y 2).isLt
  blk_simp
  rw [after0_3]
  have ey : y = ix3 0 (y 1) (y 2) := (eq_ix3 y).trans (congrArg (fun a => ix3 a (y 1) (y 2)) (Subsingleton.elim (α := Fin 1) _ _))
  rw [ey]
  refine (outs_apply m c t (y 1) (y 2) ⟨t.val / 6, by omega⟩ rfl ⟨t.val % 6 * 1024 + (y 2).val, by omega⟩ rfl).trans (congrArg _ ?_)
  blk_ext [idx3 t]

end Cert.Kernel5Ideal.Ada

end
-- ==== Proof.AdaReference.lean ====
/-
  The modulations' reference at every index: `AdaSpec` of its arguments.
-/
module

public import proofs.«01_k».proof.Proof.AdaSpec
public import proofs.«01_k».proof.Proof.Gen.Reference5Ideal.Read
public import Idealize.ShloMosaic.Lib.Pointwise

@[expose] public section

set_option maxRecDepth 16384

noncomputable section

namespace Cert.Reference5Ideal.Ada

open Cert.Reference5Ideal Cert.Reference5Ideal.Read Idealize.ShloMosaic Idealize.ShloMosaic.TcCoe Idealize.SL.Sem

variable (x0 : (⟨S8x1024, .f32⟩ : BufTy).Contents (Elt Ideal)) (x1 : (⟨S1024, .f32⟩ : BufTy).Contents (Elt Ideal)) (x2 : (⟨S2x1024x6144, .f32⟩ : BufTy).Contents (Elt Ideal))
  (x3 : (⟨S2x6144, .f32⟩ : BufTy).Contents (Elt Ideal))

theorem v2_at (r : Fin 16) (k : Fin 1024) : val_main_v2 (F := Ideal) x0 x1 (ix2 r k) = AdaSpec.row x0 x1 r k := by
  pointwise [val_main_v2, val_main_v0, val_main_v1, val_main_cst, AdaSpec.row]
  by_cases h : r.val < 8
  · simp only [dif_pos h]
  · by_cases e : r.val = 8
    · simp [e]
    · simp only [dif_neg h, if_neg e]
      rw [dif_neg (by omega)]

theorem v3_at (r : Fin 16) (k : Fin 1024) : val_main_v3 (F := Ideal) x0 x1 (ix2 r k) = AdaSpec.silu (AdaSpec.row x0 x1 r k) := by
  rw [← v2_at]
  unfold val_main_v3 val_main_call0_v5 val_main_call0_v3 val_main_call0_v1 val_main_call0_v0
  generalize val_main_v2 x0 x1 = y
  pointwise [val_main_call0_v4, val_main_call0_v2, val_main_call0_cst, val_main_call0_cst_0]
  rfl
theorem v12_at (r : Fin 16) (k : Fin 1024) : val_main_v12 (F := Ideal) x0 x1 (ix2 r k) = AdaSpec.silu (AdaSpec.row x0 x1 r k) := by
  rw [← v2_at]
  unfold val_main_v12 val_main_call1_v5 val_main_call1_v3 val_main_call1_v1 val_main_call1_v0
  generalize val_main_v2 x0 x1 = y
  pointwise [val_main_call1_v4, val_main_call1_v2, val_main_call1_cst, val_main_call1_cst_0]
  rfl

theorem v5_at (k : Fin 1024) (n : Fin 6144) : val_main_v5 (F := Ideal) x2 (ix2 k n) = x2 (ix3 0 k n) := by
  pointwise [val_main_v5, val_main_v4]
theorem v14_at (k : Fin 1024) (n : Fin 6144) : val_main_v14 (F := Ideal) x2 (ix2 k n) = x2 (ix3 1 k n) := by
  pointwise [val_main_v14, val_main_v13]

theorem v11_at (r : Fin 16) (n : Fin 6144) : val_main_v11 (F := Ideal) x0 x1 x2 x3 (ix2 r n) = AdaSpec.ada x0 x1 x2 x3 0 r n := by
  unfold AdaSpec.ada
  simp only [← v3_at, ← v5_at]
  unfold val_main_v11 val_main_v6
  generalize val_main_v3 x0 x1 = y
  generalize val_main_v5 x2 = z
  pointwise [val_main_v10, val_main_v9, val_main_v8, val_main_v7]
theorem v20_at (r : Fin 16) (n : Fin 6144) : val_main_v20 (F := Ideal) x0 x1 x2 x3 (ix2 r n) = AdaSpec.ada x0 x1 x2 x3 1 r n := by
  unfold AdaSpec.ada
  simp only [← v12_at, ← v14_at]
  unfold val_main_v20 val_main_v15
  generalize val_main_v12 x0 x1 = y
  generalize val_main_v14 x2 = z
  pointwise [val_main_v19, val_main_v18, val_main_v17, val_main_v16]

theorem v23_at (l : Fin 2) (r : Fin 16) (n : Fin 6144) :
    val_main_v23 (F := Ideal) x0 x1 x2 x3 (ix3 l r n)
      = if l.val < 1 then val_main_v11 (F := Ideal) x0 x1 x2 x3 (ix2 r n) else val_main_v20 (F := Ideal) x0 x1 x2 x3 (ix2 r n) := by
  unfold val_main_v23 val_main_v22 val_main_v21
  generalize val_main_v11 x0 x1 x2 x3 = y
  generalize val_main_v20 x0 x1 x2 x3 = z
  pointwise []
  simp only [dite_eq_ite]

theorem ada_at (l : Fin 2) (r : Fin 16) (n : Fin 6144) : val_main_v23 (F := Ideal) x0 x1 x2 x3 (ix3 l r n) = AdaSpec.ada x0 x1 x2 x3 l r n := by
  rw [v23_at, v11_at, v20_at]
  have h : l = 0 ∨ l = 1 := by revert l; decide
  rcases h with h | h
  · rw [h]; rfl
  · rw [h]; rfl

theorem ada_eq : val_main_v23 (F := Ideal) x0 x1 x2 x3 = AdaSpec.result x0 x1 x2 x3 := by
  funext y
  exact (congrArg _ (eq_ix3 y)).trans (ada_at x0 x1 x2 x3 (y 0) (y 1) (y 2))

end Cert.Reference5Ideal.Ada

end
-- ==== Proof.AdaClaims.lean ====
/-
  The claims of the modulations: the reference's frame, and the value claim of the result.
-/
module

public import proofs.«01_k».proof.Defs
public import proofs.«01_k».proof.Proof.AdaArray
public import proofs.«01_k».proof.Proof.AdaReference
public import proofs.«01_k».proof.Proof.Gen.Reference5Ideal.Run

@[expose] public section

noncomputable section

namespace Cert.AdaClaims

open Idealize.ShloMosaic Idealize.SL.Sem

/-- The reference runs, ends with its arguments unchanged and owns no semaphore. -/
theorem frame_reference : Cert.quiescent_Reference5Ideal := fun m ρ _ => (θ_run Cert.Reference5Ideal.defs _ _).mono
  (fun r h => And.intro (fun c => (h c).2) (Idealize.ShloMosaic.sem_eq_zero_of_no_sems (by decide) r.2))
  (Cert.Reference5Ideal.Value.run (F := Ideal) m ρ)

/-- From memories agreeing on the arguments, the kernel and the reference end with the same array: that of `AdaSpec` of the
    arguments. -/
theorem algebraic : Cert.algebraic_Kernel5Ideal_Reference5Ideal := by
  intro m ρ m' ρ' hpre hag
  refine ⟨fun c => AdaSpec.result (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
        (m ((c.tc : Thread Cert.Kernel5Ideal.nD Cert.Kernel5Ideal.τ).loc Cert.Kernel5Ideal.main_arg3)), ?_, ?_⟩
  · exact (θ_run Cert.Kernel5Ideal.defs _ _).mono
      (fun _ h c => ⟨(h c).1.trans (Cert.Kernel5Ideal.Ada.final m c), (h c).2⟩)
      (Cert.Kernel5Ideal.Value.run_blocks m ρ)
  · refine (θ_run Cert.Reference5Ideal.defs _ _).mono (fun _ h c => ⟨(h c).1.trans ?_, (h c).2⟩) (Cert.Reference5Ideal.Value.run m' ρ')
    obtain ⟨h0, h1, h2, h3⟩ := hag c
    beta_reduce
    rw [← h0, ← h1, ← h2, ← h3]
    exact (Cert.Reference5Ideal.Read.val_main_v23_eq _ _ _ _).trans (Cert.Reference5Ideal.Ada.ada_eq ..)

end Cert.AdaClaims

end
-- ==== Proof.FiltSpec.lean ====
/-
  The Hyena filters' hidden layers at every position: two layers of a sine of a frequency times a weighted sum plus a bias,
  of the 33 features of a position, with the last layer's weights.
-/
module

public import Idealize.ShloMosaic.PureOps.Ideal
public import Idealize.ShloMosaic.Lib.Pointwise

@[expose] public section

noncomputable section

namespace Cert.FiltSpec

open Idealize.ShloMosaic

variable (z : (⟨2, ![40, 8192]⟩ : Shape).Idx → EReal) (w1 : (⟨3, ![2, 33, 64]⟩ : Shape).Idx → EReal) (b1 : (⟨2, ![2, 64]⟩ : Shape).Idx → EReal)
  (w2 : (⟨3, ![2, 64, 64]⟩ : Shape).Idx → EReal) (b2 : (⟨2, ![2, 64]⟩ : Shape).Idx → EReal) (f : (⟨3, ![2, 2, 64]⟩ : Shape).Idx → EReal)

/-- The first layer at position `p`. -/
def first (p : Fin 8192) (k : Fin 64) : EReal :=
  Ideal.sin (f (ix3 1 0 k) * ((∑ i : Fin 33, z (ix2 ⟨i.val, by omega⟩ p) * w1 (ix3 1 i k)) + b1 (ix2 1 k)))

/-- The second layer at position `p`. -/
def second (p : Fin 8192) (o : Fin 64) : EReal :=
  Ideal.sin (f (ix3 1 1 o) * ((∑ k : Fin 64, first z w1 b1 f p k * w2 (ix3 1 k o)) + b2 (ix2 1 o)))

/-- All of it, channels first. -/
def result : (⟨2, ![64, 8192]⟩ : Shape).Idx → EReal := fun y => second z w1 b1 w2 b2 f (y 1) (y 0)

end Cert.FiltSpec

end
-- ==== Proof.FiltArray.lean ====
/-
  The array the filters' kernel leaves: that of `FiltSpec`, at every index. The kernel sums over forty features, of which
  the last seven have zero weights.
-/
module

public import proofs.«01_k».proof.Proof.FiltSpec
public import proofs.«01_k».proof.Proof.Place
public import proofs.«01_k».proof.Proof.Gen.Kernel6Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Filt

open Cert.Kernel6Ideal Cert.Kernel6Ideal.Gen Idealize.ShloMosaic Idealize.ShloMosaic.TcCoe Idealize.SL.Sem
open Idealize.ShloMosaic.Pipeline (Dat)

/-! ## The block -/

/-- A layer: the sine of a frequency times the sum plus a bias. -/
def layer {F : FTy → Type} [FloatOps F] (x : FVec F S64x8192 .f32) (b f : Vec F S64x1 .f32) : FVec F S64x8192 .f32 :=
  sin (mulf (broadcastTo S64x8192 (shapeCast S64x1 f shapeCasts_S64x1_S64x1) broadcasts_S64x1_S64x8192)
    (addf x (broadcastTo S64x8192 (shapeCast S64x1 b shapeCasts_S64x1_S64x1) broadcasts_S64x1_S64x8192)))

/-- The two products. -/
def times1 {F : FTy → Type} [FloatOps F] (w : Vec F S64x40 .f32) (z : Vec F S40x8192 .f32) : FVec F S64x8192 .f32 :=
  matmul (φ₁ := .f32) (φ₂ := .f32) dot_S64x40_S40x8192_S64x8192_1_0_0_1_n_n (some .fp32) (shapeCast S64x40 w shapeCasts_S64x40_S64x40) z (constant S64x8192 .f32 0x00000000#32)
def times2 {F : FTy → Type} [FloatOps F] (w : Vec F S64x64 .f32) (h : FVec F S64x8192 .f32) : FVec F S64x8192 .f32 :=
  matmul (φ₁ := .f32) (φ₂ := .f32) dot_S64x64_S64x8192_S64x8192_1_0_0_1_n_n (some .fp32) (shapeCast S64x64 w shapeCasts_S64x64_S64x64) h (constant S64x8192 .f32 0x00000000#32)

theorem layer_apply (x : FVec Ideal S64x8192 .f32) (b f : Vec Ideal S64x1 .f32) (o : Fin 64) (p : Fin 8192) :
    layer (F := Ideal) x b f (ix2 o p) = Ideal.sin (f (ix2 o 0) * (x (ix2 o p) + b (ix2 o 0))) := by
  pointwise [layer]
theorem times1_apply (w : Vec Ideal S64x40 .f32) (z : Vec Ideal S40x8192 .f32) (o : Fin 64) (p : Fin 8192) :
    times1 (F := Ideal) w z (ix2 o p) = ∑ i : Fin 40, w (ix2 o i) * z (ix2 i p) := by
  pointwise [times1]
theorem times2_apply (w : Vec Ideal S64x64 .f32) (h : FVec Ideal S64x8192 .f32) (o : Fin 64) (p : Fin 8192) :
    times2 (F := Ideal) w h (ix2 o p) = ∑ k : Fin 64, w (ix2 o k) * h (ix2 k p) := by
  pointwise [times2]

theorem zero2 (a : Fin 2) : (![0, 0] : Fin 2 → Nat) a = 0 := by revert a; decide

theorem out_eq (x0 : Vec Ideal S40x8192 .f32) (x1 : Vec Ideal S64x40 .f32) (x2 : Vec Ideal S64x1 .f32) (x3 : Vec Ideal S64x64 .f32) (x4 x5 x6 : Vec Ideal S64x1 .f32) :
    out0_7 (F := Ideal) x0 x1 x2 x3 x4 x5 x6 = layer (F := Ideal) (times2 x3 (layer (times1 x1 x0) x2 x5)) x4 x6 := by
  unfold out0_7
  rw [View.canon_unit_zero (S := S64x8192) (funext zero2)]
  simp only [View.ld_unit_zero (S := S40x8192) (funext zero2), View.ld_unit_zero (S := S64x40) (funext zero2), View.ld_unit_zero (S := S64x1) (funext zero2),
    View.ld_unit_zero (S := S64x64) (funext zero2)]
  rfl

/-! ## What the kernel is handed -/

/-- The first weight as the operations before the kernel make it: channels first, over forty features. -/
def padded (w : FVec Ideal S2x33x64 .f32) : FVec Ideal S64x40 .f32 :=
  Host.scatter scatter_S64x40_S1_S64x33_01_n_1_0 (fun _ b => b)
    (broadcastInDim S64x40 ![] bcast_S_S64x40 (constant S_ .f32 0x00000000#32 : FVec Ideal S_ .f32)) (broadcastInDim S1 ![] bcast_S_S1 (constantI S_ 32 0#32))
    (transpose S64x33 [1, 0] (shapeCast S33x64 (extractStridedSlice S1x33x64 ![1, 0, 0] w slices_S2x33x64_S1x33x64_1_0_0) shapeCasts_S1x33x64_S33x64) transposes_S33x64_S64x33_1_0)

theorem zeros_apply (r : Fin 64) (k : Fin 40) :
    broadcastInDim S64x40 ![] bcast_S_S64x40 (constant S_ .f32 0x00000000#32 : FVec Ideal S_ .f32) (ix2 r k) = (0 : EReal) := by
  pointwise []
theorem turned_apply (w : FVec Ideal S2x33x64 .f32) (o : Fin 64) (i : Fin 33) :
    transpose S64x33 [1, 0] (shapeCast S33x64 (extractStridedSlice S1x33x64 ![1, 0, 0] w slices_S2x33x64_S1x33x64_1_0_0) shapeCasts_S1x33x64_S33x64)
      transposes_S33x64_S64x33_1_0 (ix2 o i) = w (ix3 1 i o) := by
  pointwise []

theorem padded_apply (w : FVec Ideal S2x33x64 .f32) (o : Fin 64) (i : Fin 40) : padded w (ix2 o i) = if h : i.val < 33 then w (ix3 1 ⟨i.val, h⟩ o) else 0 := by
  unfold padded
  refine (Place.cols_apply _ _ _ (by rfl) _ o i).trans ?_
  by_cases h : i.val < 33
  · rw [dif_pos h, dif_pos h]
    exact turned_apply w o ⟨i.val, h⟩
  · rw [dif_neg h, dif_neg h]
    exact zeros_apply o i

/-- A sum over forty features of which the last seven have zero weights. -/
theorem sum_padded (a : Fin 33 → EReal) (z : Fin 40 → EReal) :
    (∑ i : Fin 40, (if h : i.val < 33 then a ⟨i.val, h⟩ else 0) * z i) = ∑ i : Fin 33, z ⟨i.val, by omega⟩ * a i := by
  refine (Fin.sum_univ_add (a := 33) (b := 7) (fun i : Fin (33 + 7) => (if h : i.val < 33 then a ⟨i.val, h⟩ else 0) * z i)).trans ?_
  have e : (∑ i : Fin 7, (if h : (Fin.natAdd 33 i).val < 33 then a ⟨(Fin.natAdd 33 i).val, h⟩ else 0) * z (Fin.natAdd 33 i)) = 0 := by
    refine Finset.sum_eq_zero fun i _ => ?_
    rw [dif_neg (by simp), zero_mul]
  refine (congrArg₂ _ rfl e).trans ?_
  rw [add_zero]
  refine Finset.sum_congr rfl fun i _ => ?_
  rw [dif_pos (by simp), mul_comm]
  rfl

variable (m : (ℓ : Loc nD τ sig) → Buf (Elt Ideal) ℓ) (c : Dev nD)

theorem handed_w1 : V m c main_v13 = padded (m ((c : Thread nD τ).loc main_arg1)) := by
  show StableHlo.after hostOps0 (fun b => m (c, b)) main_v13 = _
  simp only [hostOps0, StableHlo.after_cons, StableHlo.after_nil]
  after_results_simp
  rfl

/-- The last layer's row of a bias as a column, and one of the frequencies as a column. -/
def column (b : FVec Ideal S2x64 .f32) : FVec Ideal S64x1 .f32 :=
  shapeCast S64x1 (shapeCast S64 (extractStridedSlice S1x64 ![1, 0] b slices_S2x64_S1x64_1_0) shapeCasts_S1x64_S64) shapeCasts_S64_S64x1
def freq (f : FVec Ideal S2x2x64 .f32) : FVec Ideal S2x64 .f32 :=
  shapeCast S2x64 (extractStridedSlice S1x2x64 ![1, 0, 0] f slices_S2x2x64_S1x2x64_1_0_0) shapeCasts_S1x2x64_S2x64
def freq0 (f : FVec Ideal S2x64 .f32) : FVec Ideal S64x1 .f32 :=
  shapeCast S64x1 (shapeCast S64 (extractStridedSlice S1x64 ![0, 0] f slices_S2x64_S1x64_0_0) shapeCasts_S1x64_S64) shapeCasts_S64_S64x1
/-- The second weight, channels first. -/
def turned (w : FVec Ideal S2x64x64 .f32) : FVec Ideal S64x64 .f32 :=
  transpose S64x64 [1, 0] (shapeCast S64x64 (extractStridedSlice S1x64x64 ![1, 0, 0] w slices_S2x64x64_S1x64x64_1_0_0) shapeCasts_S1x64x64_S64x64) transposes_S64x64_S64x64_1_0

theorem column_apply (b : FVec Ideal S2x64 .f32) (o : Fin 64) : column b (ix2 o 0) = b (ix2 1 o) := by
  pointwise [column]
theorem freq_apply0 (f : FVec Ideal S2x2x64 .f32) (o : Fin 64) : freq f (ix2 0 o) = f (ix3 1 0 o) := by
  pointwise [freq]
theorem freq_apply1 (f : FVec Ideal S2x2x64 .f32) (o : Fin 64) : freq f (ix2 1 o) = f (ix3 1 1 o) := by
  pointwise [freq]
theorem freq0_apply (f : FVec Ideal S2x64 .f32) (o : Fin 64) : freq0 f (ix2 o 0) = f (ix2 0 o) := by
  pointwise [freq0]
theorem turned2_apply (w : FVec Ideal S2x64x64 .f32) (o k : Fin 64) : turned w (ix2 o k) = w (ix3 1 k o) := by
  pointwise [turned]

theorem handed_b1 : V m c main_v14 = column (m ((c : Thread nD τ).loc main_arg2)) := by
  show StableHlo.after hostOps0 (fun b => m (c, b)) main_v14 = _
  simp only [hostOps0, StableHlo.after_cons, StableHlo.after_nil]
  after_results_simp
  rfl
theorem handed_w2 : V m c main_v15 = turned (m ((c : Thread nD τ).loc main_arg3)) := by
  show StableHlo.after hostOps0 (fun b => m (c, b)) main_v15 = _
  simp only [hostOps0, StableHlo.after_cons, StableHlo.after_nil]
  after_results_simp
  rfl
theorem handed_b2 : V m c main_v16 = column (m ((c : Thread nD τ).loc main_arg4)) := by
  show StableHlo.after hostOps0 (fun b => m (c, b)) main_v16 = _
  simp only [hostOps0, StableHlo.after_cons, StableHlo.after_nil]
  after_results_simp
  rfl
theorem handed_f0 : V m c main_v19 = freq0 (freq (m ((c : Thread nD τ).loc main_arg5))) := by
  show StableHlo.after hostOps0 (fun b => m (c, b)) main_v19 = _
  simp only [hostOps0, StableHlo.after_cons, StableHlo.after_nil]
  after_results_simp
  rfl
theorem handed_f1 : V m c main_v22 = column (freq (m ((c : Thread nD τ).loc main_arg5))) := by
  show StableHlo.after hostOps0 (fun b => m (c, b)) main_v22 = _
  simp only [hostOps0, StableHlo.after_cons, StableHlo.after_nil]
  after_results_simp
  rfl

/-! ## The array -/

/-- The one grid point reads and writes whole arrays. -/
theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])

theorem blk0 (t : Fin cfg0.N) (i : Fin 40) (p : Fin 8192) : iblk m c 0 t (ix2 i p) = m ((c : Thread nD τ).loc main_arg0) (ix2 i p) := by
  rw [← V_main_arg0 m c]
  blk_ext [iblk, idx0 t]
theorem blk1 (t : Fin cfg0.N) (o : Fin 64) (i : Fin 40) : iblk m c 1 t (ix2 o i) = padded (m ((c : Thread nD τ).loc main_arg1)) (ix2 o i) := by
  rw [← handed_w1 m c]
  blk_ext [iblk, idx1 t]
theorem blk2 (t : Fin cfg0.N) (o : Fin 64) : iblk m c 2 t (ix2 o 0) = m ((c : Thread nD τ).loc main_arg2) (ix2 1 o) := by
  refine Eq.trans ?_ (column_apply _ o)
  rw [← handed_b1 m c]
  blk_ext [iblk, idx2 t]
theorem blk3 (t : Fin cfg0.N) (o k : Fin 64) : iblk m c 3 t (ix2 o k) = m ((c : Thread nD τ).loc main_arg3) (ix3 1 k o) := by
  refine Eq.trans ?_ (turned2_apply _ o k)
  rw [← handed_w2 m c]
  blk_ext [iblk, idx3 t]
theorem blk4 (t : Fin cfg0.N) (o : Fin 64) : iblk m c 4 t (ix2 o 0) = m ((c : Thread nD τ).loc main_arg4) (ix2 1 o) := by
  refine Eq.trans ?_ (column_apply _ o)
  rw [← handed_b2 m c]
  blk_ext [iblk, idx4 t]
theorem blk5 (t : Fin cfg0.N) (o : Fin 64) : iblk m c 5 t (ix2 o 0) = m ((c : Thread nD τ).loc main_arg5) (ix3 1 0 o) := by
  refine Eq.trans ?_ ((freq0_apply _ o).trans (freq_apply0 _ o))
  rw [← handed_f0 m c]
  blk_ext [iblk, idx5 t]
theorem blk6 (t : Fin cfg0.N) (o : Fin 64) : iblk m c 6 t (ix2 o 0) = m ((c : Thread nD τ).loc main_arg5) (ix3 1 1 o) := by
  refine Eq.trans ?_ ((column_apply _ o).trans (freq_apply1 _ o))
  rw [← handed_f1 m c]
  blk_ext [iblk, idx6 t]

theorem outs_apply (t : Fin cfg0.N) (o : Fin 64) (p : Fin 8192) :
    out0_7 (iblk m c 0 t) (iblk m c 1 t) (iblk m c 2 t) (iblk m c 3 t) (iblk m c 4 t) (iblk m c 5 t) (iblk m c 6 t) (ix2 o p)
      = FiltSpec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 o p) := by
  rw [out_eq, layer_apply, times2_apply]
  show _ = FiltSpec.second _ _ _ _ _ _ p o
  unfold FiltSpec.second
  refine congrArg Ideal.sin (congrArg₂ _ (blk6 m c t o) (congrArg₂ _ (Finset.sum_congr rfl fun k _ => ?_) (blk4 m c t o)))
  rw [mul_comm]
  refine congrArg₂ _ ?_ (blk3 m c t o k)
  rw [layer_apply, times1_apply]
  unfold FiltSpec.first
  refine congrArg Ideal.sin (congrArg₂ _ (blk5 m c t k) (congrArg₂ _ ?_ (blk2 m c t k)))
  refine (Finset.sum_congr rfl fun i _ => congrArg₂ _ ((blk1 m c t k i).trans (padded_apply _ k i)) (blk0 m c t i p)).trans ?_
  exact sum_padded (fun i => m ((c : Thread nD τ).loc main_arg1) (ix3 1 i k)) (fun i => m ((c : Thread nD τ).loc main_arg0) (ix2 i p))

theorem final : (dats m 0 c).arrAt 7 cfg0.N
    = FiltSpec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  rw [eq_ix2 y]
  refine (outs_apply m c t (y 0) (y 1)).trans (congrArg _ ?_)
  blk_ext [idx7 t]

end Cert.Kernel6Ideal.Filt

end
-- ==== Proof.FiltReference.lean ====
/-
  The filters' reference at every index: `FiltSpec` of its arguments.
-/
module

public import proofs.«01_k».proof.Proof.FiltSpec
public import proofs.«01_k».proof.Proof.Gen.Reference6Ideal.Read
public import Idealize.ShloMosaic.Lib.Pointwise

@[expose] public section

set_option maxRecDepth 16384

noncomputable section

namespace Cert.Reference6Ideal.Filt

open Cert.Reference6Ideal Cert.Reference6Ideal.Read Idealize.ShloMosaic Idealize.ShloMosaic.TcCoe Idealize.SL.Sem

variable (x0 : (⟨S40x8192, .f32⟩ : BufTy).Contents (Elt Ideal)) (x1 : (⟨S2x33x64, .f32⟩ : BufTy).Contents (Elt Ideal)) (x2 : (⟨S2x64, .f32⟩ : BufTy).Contents (Elt Ideal))
  (x3 : (⟨S2x64x64, .f32⟩ : BufTy).Contents (Elt Ideal)) (x4 : (⟨S2x64, .f32⟩ : BufTy).Contents (Elt Ideal)) (x5 : (⟨S2x2x64, .f32⟩ : BufTy).Contents (Elt Ideal))

theorem v1_at (p : Fin 8192) (i : Fin 33) : val_main_v1 (F := Ideal) x0 (ix2 p i) = x0 (ix2 ⟨i.val, by omega⟩ p) := by
  pointwise [val_main_v1, val_main_v0]
theorem v5_at (i : Fin 33) (k : Fin 64) : val_main_v5 (F := Ideal) x1 (ix2 i k) = x1 (ix3 1 i k) := by
  pointwise [val_main_v5, val_main_v4]
theorem v10_at (p : Fin 8192) (k : Fin 64) : val_main_v10 (F := Ideal) x2 (ix2 p k) = x2 (ix2 1 k) := by
  pointwise [val_main_v10, val_main_v9, val_main_v8, val_main_v7]
theorem v13_at (p : Fin 8192) (k : Fin 64) : val_main_v13 (F := Ideal) x5 (ix2 p k) = x5 (ix3 1 0 k) := by
  pointwise [val_main_v13, val_main_v12, val_main_v3, val_main_v2]
theorem v19_at (k o : Fin 64) : val_main_v19 (F := Ideal) x3 (ix2 k o) = x3 (ix3 1 k o) := by
  pointwise [val_main_v19, val_main_v18]
theorem v24_at (p : Fin 8192) (o : Fin 64) : val_main_v24 (F := Ideal) x4 (ix2 p o) = x4 (ix2 1 o) := by
  pointwise [val_main_v24, val_main_v23, val_main_v22, val_main_v21]
theorem v27_at (p : Fin 8192) (o : Fin 64) : val_main_v27 (F := Ideal) x5 (ix2 p o) = x5 (ix3 1 1 o) := by
  pointwise [val_main_v27, val_main_v26, val_main_v17, val_main_v16]

theorem v15_at (p : Fin 8192) (k : Fin 64) : val_main_v15 (F := Ideal) x0 x1 x2 x5 (ix2 p k) = FiltSpec.first x0 x1 x2 x5 p k := by
  unfold FiltSpec.first
  rw [← v10_at x2 p k, ← v13_at x5 p k]
  simp only [← v1_at, ← v5_at]
  unfold val_main_v15 val_main_v14 val_main_v11 val_main_v6
  generalize val_main_v1 x0 = a
  generalize val_main_v5 x1 = b
  generalize val_main_v10 x2 = d
  generalize val_main_v13 x5 = e
  pointwise []
theorem v29_at (p : Fin 8192) (o : Fin 64) : val_main_v29 (F := Ideal) x0 x1 x2 x3 x4 x5 (ix2 p o) = FiltSpec.second x0 x1 x2 x3 x4 x5 p o := by
  unfold FiltSpec.second
  rw [← v24_at x4 p o, ← v27_at x5 p o]
  simp only [← v15_at, ← v19_at]
  unfold val_main_v29 val_main_v28 val_main_v25 val_main_v20
  generalize val_main_v15 x0 x1 x2 x5 = a
  generalize val_main_v19 x3 = b
  generalize val_main_v24 x4 = d
  generalize val_main_v27 x5 = e
  pointwise []
theorem v30_at (o : Fin 64) (p : Fin 8192) : val_main_v30 (F := Ideal) x0 x1 x2 x3 x4 x5 (ix2 o p) = FiltSpec.second x0 x1 x2 x3 x4 x5 p o := by
  rw [← v29_at]
  unfold val_main_v30
  generalize val_main_v29 x0 x1 x2 x3 x4 x5 = y
  pointwise []

theorem filt_eq : val_main_v30 (F := Ideal) x0 x1 x2 x3 x4 x5 = FiltSpec.result x0 x1 x2 x3 x4 x5 := by
  funext y
  exact (congrArg _ (eq_ix2 y)).trans (v30_at x0 x1 x2 x3 x4 x5 (y 0) (y 1))

end Cert.Reference6Ideal.Filt

end
-- ==== Proof.FiltClaims.lean ====
/-
  The claims of the filters' hidden layers: the reference's frame, and the value claim of the result.
-/
module

public import proofs.«01_k».proof.Defs
public import proofs.«01_k».proof.Proof.FiltArray
public import proofs.«01_k».proof.Proof.FiltReference
public import proofs.«01_k».proof.Proof.Gen.Reference6Ideal.Run

@[expose] public section

noncomputable section

namespace Cert.FiltClaims

open Idealize.ShloMosaic Idealize.SL.Sem

/-- The reference runs, ends with its arguments unchanged and owns no semaphore. -/
theorem frame_reference : Cert.quiescent_Reference6Ideal := fun m ρ _ => (θ_run Cert.Reference6Ideal.defs _ _).mono
  (fun r h => And.intro (fun c => (h c).2) (Idealize.ShloMosaic.sem_eq_zero_of_no_sems (by decide) r.2))
  (Cert.Reference6Ideal.Value.run (F := Ideal) m ρ)

/-- From memories agreeing on the arguments, the kernel and the reference end with the same array: that of `FiltSpec` of the
    arguments. -/
theorem algebraic : Cert.algebraic_Kernel6Ideal_Reference6Ideal := by
  intro m ρ m' ρ' hpre hag
  refine ⟨fun c => FiltSpec.result (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))
        (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)), ?_, ?_⟩
  · exact (θ_run Cert.Kernel6Ideal.defs _ _).mono
      (fun _ h c => ⟨(h c).1.trans (Cert.Kernel6Ideal.Filt.final m c), (h c).2⟩)
      (Cert.Kernel6Ideal.Value.run_blocks m ρ)
  · refine (θ_run Cert.Reference6Ideal.defs _ _).mono (fun _ h c => ⟨(h c).1.trans ?_, (h c).2⟩) (Cert.Reference6Ideal.Value.run m' ρ')
    obtain ⟨h0, h1, h2, h3, h4, h5⟩ := hag c
    beta_reduce
    rw [← h0, ← h1, ← h2, ← h3, ← h4, ← h5]
    exact (Cert.Reference6Ideal.Read.val_main_v30_eq _ _ _ _ _ _).trans (Cert.Reference6Ideal.Filt.filt_eq ..)

end Cert.FiltClaims

end
-- ==== Proof.MidUnit.lean ====
/-
  One block of 512 tokens of the gated mix and feed-forward kernel, as a function of the loaded blocks. The body merges
  the two mixers' outputs under their gates, adds them to the stream, normalises, runs the feed-forward block in eleven
  chunks of 256 hidden columns, and adds that too: the call of the first layer, which has no final norm. `out_eq` says that this is what the body stores.
-/
module

public import proofs.«01_k».proof.Proof.Gen.Kernel7Ideal.Frame
public import Idealize.ShloMosaic.Lib.Pipeline.Value

@[expose] public section

set_option maxRecDepth 16384

noncomputable section

namespace Cert.Kernel7Ideal.Mid

open Cert.Kernel7Ideal Cert.Kernel7Ideal.Gen Idealize.ShloMosaic Idealize.ShloMosaic.TcCoe Idealize.SL.Sem

variable {F : FTy → Type} [FloatOps F]

/-- The gates of both mixers: the logistic function of the token's gate plus the bias. -/
def gates (u : Vec F S512x2048 .bf16) (b : Vec F S1x1x2048 .f32) : FVec F S512x2048 .f32 :=
  divf (broadcast S512x2048 (Scalar.ofBits .f32 0x3F800000#32)) (addf (broadcast S512x2048 (Scalar.ofBits .f32 0x3F800000#32))
    (exp (subf (broadcast S512x2048 (Scalar.ofBits .f32 0x00000000#32))
      (addf (extf .f32 u bitsLt_bf16_f32) (broadcastTo S512x2048 (shapeCast S1x2048 b shapeCasts_S1x1x2048_S1x2048) broadcasts_S1x2048_S512x2048)))))

/-- The Hyena mixer's output projected. -/
def projY (y : Vec F S512x512 .bf16) (w : Vec F S1x512x1024 .bf16) : FVec F S512x1024 .f32 :=
  matmul dot_S512x512_S512x1024_S512x1024_0_0_1_1_n_n none y (shapeCast S512x1024 w shapeCasts_S1x512x1024_S512x1024) (constant S512x1024 .f32 0x00000000#32)

/-- The attention's output projected. -/
def projA (a : Vec F S1024x512 .bf16) (w : Vec F S1x1024x1024 .bf16) : FVec F S512x1024 .f32 :=
  matmul dot_S1024x512_S1024x1024_S512x1024_0_0_1_1_n_n none a (shapeCast S1024x1024 w shapeCasts_S1x1024x1024_S1024x1024) (constant S512x1024 .f32 0x00000000#32)

/-- The two projections under their gates, added. -/
def gated (g : FVec F S512x2048 .f32) (y a : FVec F S512x1024 .f32) : FVec F S512x1024 .bf16 :=
  truncf .bf16 (addf (mulf (extractStridedSlice S512x1024 ![0, 0] g slices_S512x2048_o0_0_S512x1024) y)
    (mulf (extractStridedSlice S512x1024 ![0, 1024] g slices_S512x2048_o0_1024_S512x1024) a)) bitsLt_bf16_f32

/-- The stream after the mixers: `h` plus the scaled output projection. -/
def mixed (h : Vec F S512x1024 .f32) (s : Vec F S1x1024 .f32) (x : FVec F S512x1024 .bf16) (w : Vec F S1x1024x1024 .bf16) : FVec F S512x1024 .f32 :=
  addf h (mulf (broadcastTo S512x1024 s broadcasts_S1x1024_S512x1024)
    (matmul dot_S512x1024_S1024x1024_S512x1024_1_0_0_1_n_n none x (shapeCast S1024x1024 w shapeCasts_S1x1024x1024_S1024x1024) (constant S512x1024 .f32 0x00000000#32)))

/-- Each row over its root mean square. -/
def normed (x : FVec F S512x1024 .f32) : FVec F S512x1024 .f32 :=
  mulf x (broadcastTo S512x1024 (rsqrt (addf (divf (shapeCast S512x1
      (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The feed-forward block's input: the normalised stream times its gain, scaled and shifted. -/
def modulated (x : FVec F S512x1024 .f32) (g : Vec F S1x1x1024 .f32) (sc sh : Vec F S1x1024 .f32) : FVec F S512x1024 .bf16 :=
  truncf .bf16 (addf (mulf (mulf (normed x) (broadcastTo S512x1024 (shapeCast S1x1024 g shapeCasts_S1x1x1024_S1x1024) broadcasts_S1x1024_S512x1024))
      (broadcastTo S512x1024 (addf (broadcast S1x1024 (Scalar.ofBits .f32 0x3F800000#32)) sc) broadcasts_S1x1024_S512x1024))
    (broadcastTo S512x1024 sh broadcasts_S1x1024_S512x1024)) bitsLt_bf16_f32

/-- The product of the input with 256 of the first weight's columns. -/
def wide (f : FVec F S512x1024 .bf16) (w : Vec F S1x1024x256 .bf16) : FVec F S512x256 .f32 :=
  matmul dot_S512x1024_S1024x256_S512x256_1_0_0_1_n_n none f (shapeCast S1024x256 w shapeCasts_S1x1024x256_S1024x256) (constant S512x256 .f32 0x00000000#32)

/-- The hidden values of one chunk: the gate times its logistic, times the other half. -/
def act (g u : FVec F S512x256 .f32) : FVec F S512x256 .bf16 :=
  truncf .bf16 (mulf (mulf g (divf (broadcast S512x256 (Scalar.ofBits .f32 0x3F800000#32)) (addf (broadcast S512x256 (Scalar.ofBits .f32 0x3F800000#32))
    (exp (subf (broadcast S512x256 (Scalar.ofBits .f32 0x00000000#32)) g))))) u) bitsLt_bf16_f32

/-- One chunk's share of the feed-forward block's output. -/
def chunk (f : FVec F S512x1024 .bf16) (wg wu : Vec F S1x1024x256 .bf16) (wd : Vec F S1x256x1024 .bf16) : FVec F S512x1024 .f32 :=
  matmul dot_S512x256_S256x1024_S512x1024_1_0_0_1_n_n none (act (wide f wg) (wide f wu)) (shapeCast S256x1024 wd shapeCasts_S1x256x1024_S256x1024) (constant S512x1024 .f32 0x00000000#32)

/-- The stream after the feed-forward block. -/
def finish (h y : FVec F S512x1024 .f32) (s : Vec F S1x1024 .f32) : FVec F S512x1024 .f32 :=
  addf h (mulf (broadcastTo S512x1024 s broadcasts_S1x1024_S512x1024) y)

theorem inbG (k : Fin 11) : ∀ a, (![0, 0, k.val * 256] : Fin 3 → Nat) a + S1x1024x256.size a ≤ S1x1024x5632.size a := by
  revert k; decide +kernel
theorem inbU (k : Fin 11) : ∀ a, (![0, 0, 2816 + k.val * 256] : Fin 3 → Nat) a + S1x1024x256.size a ≤ S1x1024x5632.size a := by
  revert k; decide +kernel
theorem inbD (k : Fin 11) : ∀ a, (![0, k.val * 256, 0] : Fin 3 → Nat) a + S1x256x1024.size a ≤ S1x2816x1024.size a := by
  revert k; decide +kernel

/-- Chunk `k`'s columns of the first weight: its gate half. -/
def ldG (x : Vec F S1x1024x5632 .bf16) (k : Fin 11) : Vec F S1x1024x256 .bf16 := View.ld x (Rect.unit (s := S1x1024x5632) ![0, 0, k.val * 256] S1x1024x256.size (inbG k))
/-- Chunk `k`'s columns of the first weight: its other half. -/
def ldU (x : Vec F S1x1024x5632 .bf16) (k : Fin 11) : Vec F S1x1024x256 .bf16 := View.ld x (Rect.unit (s := S1x1024x5632) ![0, 0, 2816 + k.val * 256] S1x1024x256.size (inbU k))
/-- Chunk `k`'s rows of the second weight. -/
def ldD (x : Vec F S1x2816x1024 .bf16) (k : Fin 11) : Vec F S1x256x1024 .bf16 := View.ld x (Rect.unit (s := S1x2816x1024) ![0, k.val * 256, 0] S1x256x1024.size (inbD k))

/-- Chunk `k` of the feed-forward block. -/
def part (f : FVec F S512x1024 .bf16) (wi : Vec F S1x1024x5632 .bf16) (wd : Vec F S1x2816x1024 .bf16) (k : Fin 11) : FVec F S512x1024 .f32 :=
  chunk f (ldG wi k) (ldU wi k) (ldD wd k)

/-- The feed-forward block: its eleven chunks, added from the first to the last. -/
def ffn (f : FVec F S512x1024 .bf16) (wi : Vec F S1x1024x5632 .bf16) (wd : Vec F S1x2816x1024 .bf16) : FVec F S512x1024 .f32 :=
  addf (addf (addf (addf (addf (addf (addf (addf (addf (addf (part f wi wd 0) (part f wi wd 1)) (part f wi wd 2)) (part f wi wd 3)) (part f wi wd 4))
    (part f wi wd 5)) (part f wi wd 6)) (part f wi wd 7)) (part f wi wd 8)) (part f wi wd 9)) (part f wi wd 10)

variable (x0 : Vec F S512x1024 .f32) (x1 : Vec F S512x2048 .bf16) (x2 : Vec F S1x1x2048 .f32) (x3 : Vec F S512x512 .bf16) (x4 : Vec F S1024x512 .bf16)
  (x5 : Vec F S1x512x1024 .bf16) (x6 : Vec F S1x1024x1024 .bf16) (x7 : Vec F S1x1024x1024 .bf16) (x8 : Vec F S1x1x1024 .f32) (x9 : Vec F S16x6144 .f32)
  (x10 : Vec F S1x1024x5632 .bf16) (x11 : Vec F S1x2816x1024 .bf16) (x12 : Vec F S1x1024 .f32)

/-- The row of modulations at an offset. -/
def ldM (o : Fin 2 → Nat) (h : ∀ a, o a + S1x1024.size a ≤ S16x6144.size a) : Vec F S1x1024 .f32 :=
  View.ld x9 (Rect.unit (s := S16x6144) o S1x1024.size h)

/-- The stream after the mixers, at grid point `i`. -/
def stream (i : grid0.Coords) : FVec F S512x1024 .f32 :=
  mixed x0 (ldM x9 (k0_off1 i) (k0_off1_inb i)) (gated (gates x1 x2) (projY x3 x5) (projA x4 x6)) x7

/-- The whole block of grid point `i`. -/
def block (i : grid0.Coords) : FVec F S512x1024 .f32 :=
  finish (stream x0 x1 x2 x3 x4 x5 x6 x7 x9 i)
    (ffn (modulated (stream x0 x1 x2 x3 x4 x5 x6 x7 x9 i) x8 (ldM x9 (k0_off2 i) (k0_off2_inb i)) (ldM x9 (k0_off3 i) (k0_off3_inb i))) x10 x11)
    (ldM x9 (k0_off4 i) (k0_off4_inb i))

theorem zero2 (a : Fin 2) : (![0, 0] : Fin 2 → Nat) a = 0 := by revert a; decide
theorem zero3 (a : Fin 3) : (![0, 0, 0] : Fin 3 → Nat) a = 0 := by revert a; decide

variable (c : Dev nD) (i : grid0.Coords) (arg1 : Memref sig .tc .vmem S512x1024 .f32) (harg1 : arg1.IsWhole) (arg2 : Memref sig .tc .vmem S512x2048 .bf16) (harg2 : arg2.IsWhole)
  (arg3 : Memref sig .tc .vmem S1x1x2048 .f32) (harg3 : arg3.IsWhole) (arg4 : Memref sig .tc .vmem S512x512 .bf16) (harg4 : arg4.IsWhole)
  (arg5 : Memref sig .tc .vmem S1024x512 .bf16) (harg5 : arg5.IsWhole) (arg6 : Memref sig .tc .vmem S1x512x1024 .bf16) (harg6 : arg6.IsWhole)
  (arg7 : Memref sig .tc .vmem S1x1024x1024 .bf16) (harg7 : arg7.IsWhole) (arg8 : Memref sig .tc .vmem S1x1024x1024 .bf16) (harg8 : arg8.IsWhole)
  (arg9 : Memref sig .tc .vmem S1x1x1024 .f32) (harg9 : arg9.IsWhole) (arg10 : Memref sig .tc .vmem S16x6144 .f32) (harg10 : arg10.IsWhole)
  (arg11 : Memref sig .tc .vmem S1x1024x5632 .bf16) (harg11 : arg11.IsWhole) (arg12 : Memref sig .tc .vmem S1x2816x1024 .bf16) (harg12 : arg12.IsWhole)
  (arg13 : Memref sig .tc .vmem S1x1024 .f32) (harg13 : arg13.IsWhole) (arg14 : Memref sig .tc .vmem S512x1024 .f32) (harg14 : arg14.IsWhole)

/-- What the body stores is the block. -/
theorem out_eq : out0_A_13 c i arg1 harg1 arg2 harg2 arg3 harg3 arg4 harg4 arg5 harg5 arg6 harg6 arg7 harg7 arg8 harg8 arg9 harg9 arg10 harg10 arg11 harg11 arg12 harg12
    arg13 harg13 arg14 harg14 x0 x1 x2 x3 x4 x5 x6 x7 x8 x9 x10 x11 x12 = block x0 x1 x2 x3 x4 x5 x6 x7 x8 x9 x10 x11 i := by
  unfold out0_A_13
  rw [View.read_writes_junk_eq_canon]
  unfold kernelRun0_A
  dsimp only
  sl_unfold_words
  rw [View.canon_unit_zero (S := S512x1024) (funext zero2)]
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg13.read_unread]
  simp only [View.ld_unit_zero (S := S512x1024) (funext zero2), View.ld_unit_zero (S := S512x2048) (funext zero2), View.ld_unit_zero (S := S512x512) (funext zero2),
    View.ld_unit_zero (S := S1024x512) (funext zero2), View.ld_unit_zero (S := S1x1024) (funext zero2), View.ld_unit_zero (S := S1x1x2048) (funext zero3),
    View.ld_unit_zero (S := S1x512x1024) (funext zero3), View.ld_unit_zero (S := S1x1024x1024) (funext zero3), View.ld_unit_zero (S := S1x1x1024) (funext zero3)]
  rfl

end Cert.Kernel7Ideal.Mid

end
-- ==== Proof.MidRead.lean ====
/-
  What one block of the first layer's gated mix and feed-forward kernel holds over the extended reals: at token `p` and column `n`, the
  formula `MixSpec.after` of the row that the loaded blocks give for that token.
-/
module

public import proofs.«01_k».proof.Proof.MidUnit
public import proofs.«01_k».proof.Proof.MixSpec
public import Idealize.ShloMosaic.Lib.Pointwise

@[expose] public section

set_option maxRecDepth 16384

noncomputable section

namespace Cert.Kernel7Ideal.Mid

open Cert.Kernel7Ideal Cert.Kernel7Ideal.Gen Idealize.ShloMosaic Idealize.ShloMosaic.TcCoe Idealize.SL.Sem

theorem gates_apply (u : Vec Ideal S512x2048 .bf16) (b : Vec Ideal S1x1x2048 .f32) (p : Fin 512) (j : Fin 2048) :
    gates (F := Ideal) u b (ix2 p j) = MixSpec.lgt (u (ix2 p j) + b (ix3 0 0 j)) := by
  pointwise [gates]
  rw [MixSpec.zero_sub']
  rfl
theorem projY_apply (y : Vec Ideal S512x512 .bf16) (w : Vec Ideal S1x512x1024 .bf16) (p : Fin 512) (n : Fin 1024) :
    projY (F := Ideal) y w (ix2 p n) = ∑ k : Fin 512, y (ix2 k p) * w (ix3 0 k n) := by
  pointwise [projY]
theorem projA_apply (a : Vec Ideal S1024x512 .bf16) (w : Vec Ideal S1x1024x1024 .bf16) (p : Fin 512) (n : Fin 1024) :
    projA (F := Ideal) a w (ix2 p n) = ∑ k : Fin 1024, a (ix2 k p) * w (ix3 0 k n) := by
  pointwise [projA]
theorem gated_apply (g : FVec Ideal S512x2048 .f32) (y a : FVec Ideal S512x1024 .f32) (p : Fin 512) (n : Fin 1024) :
    gated (F := Ideal) g y a (ix2 p n) = g (ix2 p ⟨n.val, by omega⟩) * y (ix2 p n) + g (ix2 p ⟨1024 + n.val, by omega⟩) * a (ix2 p n) := by
  pointwise [gated]
theorem mixed_apply (h : Vec Ideal S512x1024 .f32) (s : Vec Ideal S1x1024 .f32) (x : FVec Ideal S512x1024 .bf16) (w : Vec Ideal S1x1024x1024 .bf16)
    (p : Fin 512) (n : Fin 1024) :
    mixed (F := Ideal) h s x w (ix2 p n) = h (ix2 p n) + s (ix2 0 n) * ∑ k : Fin 1024, x (ix2 p k) * w (ix3 0 k n) := by
  pointwise [mixed]
theorem normed_apply (x : FVec Ideal S512x1024 .f32) (p : Fin 512) (n : Fin 1024) :
    normed (F := Ideal) x (ix2 p n) = MixSpec.rms (fun k => x (ix2 p k)) n := by
  pointwise [normed]
  rfl
theorem modulated_apply (x : FVec Ideal S512x1024 .f32) (g : Vec Ideal S1x1x1024 .f32) (sc sh : Vec Ideal S1x1024 .f32) (p : Fin 512) (n : Fin 1024) :
    modulated (F := Ideal) x g sc sh (ix2 p n) = normed (F := Ideal) x (ix2 p n) * g (ix3 0 0 n) * (1 + sc (ix2 0 n)) + sh (ix2 0 n) := by
  unfold modulated
  generalize normed x = y
  pointwise []
theorem wide_apply (f : FVec Ideal S512x1024 .bf16) (w : Vec Ideal S1x1024x256 .bf16) (p : Fin 512) (r : Fin 256) :
    wide (F := Ideal) f w (ix2 p r) = ∑ k : Fin 1024, f (ix2 p k) * w (ix3 0 k r) := by
  pointwise [wide]
theorem act_apply (g u : FVec Ideal S512x256 .f32) (p : Fin 512) (r : Fin 256) :
    act (F := Ideal) g u (ix2 p r) = g (ix2 p r) * MixSpec.lgt (g (ix2 p r)) * u (ix2 p r) := by
  pointwise [act]
  rw [MixSpec.zero_sub']
  rfl
theorem chunk_apply (f : FVec Ideal S512x1024 .bf16) (wg wu : Vec Ideal S1x1024x256 .bf16) (wd : Vec Ideal S1x256x1024 .bf16) (p : Fin 512) (n : Fin 1024) :
    chunk (F := Ideal) f wg wu wd (ix2 p n) = ∑ r : Fin 256, act (F := Ideal) (wide f wg) (wide f wu) (ix2 p r) * wd (ix3 0 r n) := by
  unfold chunk
  generalize act (wide f wg) (wide f wu) = y
  pointwise []
theorem finish_apply (h y : FVec Ideal S512x1024 .f32) (s : Vec Ideal S1x1024 .f32) (p : Fin 512) (n : Fin 1024) :
    finish (F := Ideal) h y s (ix2 p n) = h (ix2 p n) + s (ix2 0 n) * y (ix2 p n) := by
  pointwise [finish]

theorem ldG_apply (x : Vec Ideal S1x1024x5632 .bf16) (c : Fin 11) (k : Fin 1024) (r : Fin 256) :
    ldG x c (ix3 0 k r) = x (ix3 0 k ⟨c.val * 256 + r.val, by omega⟩) := by
  pointwise [ldG]
theorem ldU_apply (x : Vec Ideal S1x1024x5632 .bf16) (c : Fin 11) (k : Fin 1024) (r : Fin 256) :
    ldU x c (ix3 0 k r) = x (ix3 0 k ⟨2816 + (c.val * 256 + r.val), by omega⟩) := by
  pointwise [ldU]
  simp only [Nat.add_assoc]
theorem ldD_apply (x : Vec Ideal S1x2816x1024 .bf16) (c : Fin 11) (r : Fin 256) (n : Fin 1024) :
    ldD x c (ix3 0 r n) = x (ix3 0 ⟨c.val * 256 + r.val, by omega⟩ n) := by
  pointwise [ldD]

variable (x0 : Vec Ideal S512x1024 .f32) (x1 : Vec Ideal S512x2048 .bf16) (x2 : Vec Ideal S1x1x2048 .f32) (x3 : Vec Ideal S512x512 .bf16) (x4 : Vec Ideal S1024x512 .bf16)
  (x5 : Vec Ideal S1x512x1024 .bf16) (x6 : Vec Ideal S1x1024x1024 .bf16) (x7 : Vec Ideal S1x1024x1024 .bf16) (x8 : Vec Ideal S1x1x1024 .f32) (x9 : Vec Ideal S16x6144 .f32)
  (x10 : Vec Ideal S1x1024x5632 .bf16) (x11 : Vec Ideal S1x2816x1024 .bf16)

/-- The row of token `p` of a block. -/
def row (i : grid0.Coords) (p : Fin 512) : MixSpec.Row where
  h n := x0 (ix2 p n)
  u j := x1 (ix2 p j)
  b j := x2 (ix3 0 0 j)
  y k := x3 (ix2 k p)
  a k := x4 (ix2 k p)
  hp k n := x5 (ix3 0 k n)
  mp k n := x6 (ix3 0 k n)
  wo k n := x7 (ix3 0 k n)
  g n := x8 (ix3 0 0 n)
  sm n := ldM x9 (k0_off1 i) (k0_off1_inb i) (ix2 0 n)
  sc n := ldM x9 (k0_off2 i) (k0_off2_inb i) (ix2 0 n)
  sh n := ldM x9 (k0_off3 i) (k0_off3_inb i) (ix2 0 n)
  sf n := ldM x9 (k0_off4 i) (k0_off4_inb i) (ix2 0 n)
  wi k j := x10 (ix3 0 k j)
  wd j n := x11 (ix3 0 j n)
  fg _ := 0

theorem stream_apply (i : grid0.Coords) (p : Fin 512) (n : Fin 1024) :
    stream (F := Ideal) x0 x1 x2 x3 x4 x5 x6 x7 x9 i (ix2 p n) = MixSpec.stream (row x0 x1 x2 x3 x4 x5 x6 x7 x8 x9 x10 x11 i p) n := by
  unfold stream
  rw [mixed_apply]
  simp only [gated_apply, gates_apply, projY_apply, projA_apply]
  rfl

/-- A chunk of the feed-forward block is that chunk's share of the sum over the hidden columns. -/
theorem part_apply (R : MixSpec.Row) (f : FVec Ideal S512x1024 .bf16) (p : Fin 512) (c : Fin 11) (n : Fin 1024)
    (hf : ∀ k, f (ix2 p k) = MixSpec.input R k) (hi : ∀ k j, x10 (ix3 0 k j) = R.wi k j) (hd : ∀ j n, x11 (ix3 0 j n) = R.wd j n) :
    part (F := Ideal) f x10 x11 c (ix2 p n) = ∑ r : Fin 256, MixSpec.hidden R ⟨c.val * 256 + r.val, by omega⟩ * R.wd ⟨c.val * 256 + r.val, by omega⟩ n := by
  unfold part
  rw [chunk_apply]
  simp only [act_apply, wide_apply, ldG_apply, ldU_apply, ldD_apply, hf, hi, hd]
  rfl

theorem ffn_apply (R : MixSpec.Row) (f : FVec Ideal S512x1024 .bf16) (p : Fin 512) (n : Fin 1024)
    (hf : ∀ k, f (ix2 p k) = MixSpec.input R k) (hi : ∀ k j, x10 (ix3 0 k j) = R.wi k j) (hd : ∀ j n, x11 (ix3 0 j n) = R.wd j n) :
    ffn (F := Ideal) f x10 x11 (ix2 p n) = ∑ j, MixSpec.hidden R j * R.wd j n :=
  MixSpec.sum_chunks (fun j => MixSpec.hidden R j * R.wd j n) (fun c => part (F := Ideal) f x10 x11 c (ix2 p n))
    fun c => part_apply x10 x11 R f p c n hf hi hd

/-- The block at token `p` and column `n`. -/
theorem block_apply (i : grid0.Coords) (p : Fin 512) (n : Fin 1024) :
    block (F := Ideal) x0 x1 x2 x3 x4 x5 x6 x7 x8 x9 x10 x11 i (ix2 p n)
      = MixSpec.after (row x0 x1 x2 x3 x4 x5 x6 x7 x8 x9 x10 x11 i p) n := by
  unfold block
  rw [finish_apply]
  simp only [stream_apply x0 x1 x2 x3 x4 x5 x6 x7 x8 x9 x10 x11]
  have hf : ∀ k, modulated (F := Ideal) (stream x0 x1 x2 x3 x4 x5 x6 x7 x9 i) x8 (ldM x9 (k0_off2 i) (k0_off2_inb i)) (ldM x9 (k0_off3 i) (k0_off3_inb i)) (ix2 p k)
      = MixSpec.input (row x0 x1 x2 x3 x4 x5 x6 x7 x8 x9 x10 x11 i p) k := fun k => by
    rw [modulated_apply, normed_apply]
    simp only [stream_apply x0 x1 x2 x3 x4 x5 x6 x7 x8 x9 x10 x11]
    rfl
  simp only [ffn_apply x10 x11 (row x0 x1 x2 x3 x4 x5 x6 x7 x8 x9 x10 x11 i p) _ p _ hf (fun _ _ => rfl) (fun _ _ => rfl)]
  rfl

end Cert.Kernel7Ideal.Mid

end
-- ==== Proof.MidSpec.lean ====
/-
  The first layer's mix and feed-forward block of an array of tokens: `MixSpec.after`, with the weights of the first layer
  and without the final norm.
-/
module

public import proofs.«01_k».proof.Proof.MixSpec

@[expose] public section

noncomputable section

namespace Cert.MidSpec

open Idealize.ShloMosaic

variable (h : (⟨2, ![32768, 1024]⟩ : Shape).Idx → EReal) (ug : (⟨2, ![32768, 2048]⟩ : Shape).Idx → EReal) (gb : (⟨3, ![2, 1, 2048]⟩ : Shape).Idx → EReal)
  (yt : (⟨2, ![512, 32768]⟩ : Shape).Idx → EReal) (at' : (⟨2, ![1024, 32768]⟩ : Shape).Idx → EReal) (hp : (⟨3, ![2, 512, 1024]⟩ : Shape).Idx → EReal)
  (mp wo : (⟨3, ![2, 1024, 1024]⟩ : Shape).Idx → EReal) (g2 : (⟨3, ![2, 1, 1024]⟩ : Shape).Idx → EReal) (mods : (⟨2, ![16, 6144]⟩ : Shape).Idx → EReal)
  (wi : (⟨3, ![2, 1024, 5632]⟩ : Shape).Idx → EReal) (wd : (⟨3, ![2, 2816, 1024]⟩ : Shape).Idx → EReal)

/-- The row of token `i` of batch element `b`, with the weights of the first of the two layers. The final gain plays no part. -/
def rowAt (b : Fin 8) (i : Fin 4096) : MixSpec.Row where
  h n := h (ix2 ⟨b.val * 4096 + i.val, by omega⟩ n)
  u j := ug (ix2 ⟨b.val * 4096 + i.val, by omega⟩ j)
  b j := gb (ix3 0 0 j)
  y k := yt (ix2 k ⟨b.val * 4096 + i.val, by omega⟩)
  a k := at' (ix2 k ⟨b.val * 4096 + i.val, by omega⟩)
  hp k n := hp (ix3 0 k n)
  mp k n := mp (ix3 0 k n)
  wo k n := wo (ix3 0 k n)
  g n := g2 (ix3 0 0 n)
  sm n := mods (ix2 ⟨b.val, by omega⟩ ⟨2048 + n.val, by omega⟩)
  sh n := mods (ix2 ⟨b.val, by omega⟩ ⟨3072 + n.val, by omega⟩)
  sc n := mods (ix2 ⟨b.val, by omega⟩ ⟨4096 + n.val, by omega⟩)
  sf n := mods (ix2 ⟨b.val, by omega⟩ ⟨5120 + n.val, by omega⟩)
  wi k j := wi (ix3 0 k j)
  wd j n := wd (ix3 0 j n)
  fg _ := 0

/-- The result array: at row `y 0` the token `y 0 % 4096` of batch element `y 0 / 4096`. -/
def array (y : (⟨2, ![32768, 1024]⟩ : Shape).Idx) : EReal :=
  MixSpec.after (rowAt h ug gb yt at' hp mp wo g2 mods wi wd ⟨(y 0).val / 4096, by have : (y 0).val < 32768 := (y 0).isLt; omega⟩ ⟨(y 0).val % 4096, by omega⟩) (y 1)

theorem array_at (b : Fin 8) (i : Fin 4096) (n : Fin 1024) :
    array h ug gb yt at' hp mp wo g2 mods wi wd (ix2 ⟨b.val * 4096 + i.val, by omega⟩ n)
      = MixSpec.after (rowAt h ug gb yt at' hp mp wo g2 mods wi wd b i) n := by
  show MixSpec.after (rowAt h ug gb yt at' hp mp wo g2 mods wi wd ⟨(b.val * 4096 + i.val) / 4096, _⟩ ⟨(b.val * 4096 + i.val) % 4096, _⟩) n = _
  congr 2 <;> apply Fin.ext <;> simp only [] <;> omega

end Cert.MidSpec

end
-- ==== Proof.MidArray.lean ====
/-
  The array the first layer's gated mix and feed-forward kernel leaves: `MidSpec.array` of its arguments, at every index.
-/
module

public import proofs.«01_k».proof.Proof.MidRead
public import proofs.«01_k».proof.Proof.MidSpec
public import proofs.«01_k».proof.Proof.Gen.Kernel7Ideal.Value
public import Idealize.ShloMosaic.Lib.Pipeline.ValueKit

@[expose] public section

set_option maxRecDepth 16384

noncomputable section

namespace Cert.Kernel7Ideal.Mid

open Cert.Kernel7Ideal Cert.Kernel7Ideal.Gen Idealize.ShloMosaic Idealize.ShloMosaic.TcCoe Idealize.SL.Sem
open Idealize.ShloMosaic.Pipeline (Dat)

/-- Which blocks grid point `t` reads and writes: the tokens `t` of the streams, the first layer of the weights. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, t.val] := (by decide +kernel : ∀ t : Fin grid0.N, win0_3.index t = ![0, t.val])
theorem idx4 : ∀ t : Fin cfg0.N, win0_4.index t = ![0, t.val] := (by decide +kernel : ∀ t : Fin grid0.N, win0_4.index t = ![0, t.val])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0, 0] := (by decide +kernel : ∀ t : Fin grid0.N, win0_8.index t = ![0, 0, 0])
theorem idx9 : ∀ t : Fin cfg0.N, win0_9.index t = ![0, 0] := (by decide +kernel : ∀ t : Fin grid0.N, win0_9.index t = ![0, 0])
theorem idx10 : ∀ t : Fin cfg0.N, win0_10.index t = ![0, 0, 0] := (by decide +kernel : ∀ t : Fin grid0.N, win0_10.index t = ![0, 0, 0])
theorem idx11 : ∀ t : Fin cfg0.N, win0_11.index t = ![0, 0, 0] := (by decide +kernel : ∀ t : Fin grid0.N, win0_11.index t = ![0, 0, 0])
theorem idx12 : ∀ t : Fin cfg0.N, win0_12.index t = ![0, 0] := (by decide +kernel : ∀ t : Fin grid0.N, win0_12.index t = ![0, 0])
theorem idx13 : ∀ t : Fin cfg0.N, win0_13.index t = ![t.val, 0] := (by decide +kernel : ∀ t : Fin grid0.N, win0_13.index t = ![t.val, 0])

/-- Where the modulations of grid point `t` lie: in the row of its batch element `t / 8`. -/
theorem off1 : ∀ t : Fin cfg0.N, k0_off1 (grid0.coords t) = ![t.val / 8, 2048] := (by decide +kernel : ∀ t : Fin grid0.N, k0_off1 (grid0.coords t) = ![t.val / 8, 2048])
theorem off2 : ∀ t : Fin cfg0.N, k0_off2 (grid0.coords t) = ![t.val / 8, 4096] := (by decide +kernel : ∀ t : Fin grid0.N, k0_off2 (grid0.coords t) = ![t.val / 8, 4096])
theorem off3 : ∀ t : Fin cfg0.N, k0_off3 (grid0.coords t) = ![t.val / 8, 3072] := (by decide +kernel : ∀ t : Fin grid0.N, k0_off3 (grid0.coords t) = ![t.val / 8, 3072])
theorem off4 : ∀ t : Fin cfg0.N, k0_off4 (grid0.coords t) = ![t.val / 8, 5120] := (by decide +kernel : ∀ t : Fin grid0.N, k0_off4 (grid0.coords t) = ![t.val / 8, 5120])

theorem ldM_apply (x9 : Vec Ideal S16x6144 .f32) (o : Fin 2 → Nat) (h : ∀ a, o a + S1x1024.size a ≤ S16x6144.size a) (a b : Nat) (ho : o = ![a, b])
    (ha : a < 16) (n : Fin 1024) (hb : b + n.val < 6144) : ldM x9 o h (ix2 0 n) = x9 (ix2 ⟨a, ha⟩ ⟨b + n.val, hb⟩) := by
  subst ho
  pointwise [ldM]

variable (m : (ℓ : Loc nD τ sig) → Buf (Elt Ideal) ℓ) (c : Dev nD)

set_option maxHeartbeats 2000000 in
/-- The row of token `p` of grid point `t`, out of the argument arrays. -/
theorem row_eq (t : Fin cfg0.N) (p : Fin 512) (b : Fin 8) (i : Fin 4096) (hb : b.val = t.val / 8) (hi : b.val * 4096 + i.val = t.val * 512 + p.val) :
    row (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (grid0.coords t) p
      = MidSpec.rowAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) b i := by
  have ht : t.val < 64 := t.isLt
  ext k j
  · show iblk m c 0 t (ix2 p k) = m ((c : Thread nD τ).loc main_arg0) (ix2 ⟨b.val * 4096 + i.val, by omega⟩ k)
    rw [← V_main_arg0 m c]
    blk_ext [iblk, idx0 t]
  · show iblk m c 1 t (ix2 p k) = m ((c : Thread nD τ).loc main_arg1) (ix2 ⟨b.val * 4096 + i.val, by omega⟩ k)
    rw [← V_main_arg1 m c]
    blk_ext [iblk, idx1 t]
  · show iblk m c 2 t (ix3 0 0 k) = m ((c : Thread nD τ).loc main_arg2) (ix3 0 0 k)
    rw [← V_main_arg2 m c]
    blk_ext [iblk, idx2 t]
  · show iblk m c 3 t (ix2 k p) = m ((c : Thread nD τ).loc main_arg3) (ix2 k ⟨b.val * 4096 + i.val, by omega⟩)
    rw [← V_main_arg3 m c]
    blk_ext [iblk, idx3 t]
  · show iblk m c 4 t (ix2 k p) = m ((c : Thread nD τ).loc main_arg4) (ix2 k ⟨b.val * 4096 + i.val, by omega⟩)
    rw [← V_main_arg4 m c]
    blk_ext [iblk, idx4 t]
  · show iblk m c 5 t (ix3 0 k j) = m ((c : Thread nD τ).loc main_arg5) (ix3 0 k j)
    rw [← V_main_arg5 m c]
    blk_ext [iblk, idx5 t]
  · show iblk m c 6 t (ix3 0 k j) = m ((c : Thread nD τ).loc main_arg6) (ix3 0 k j)
    rw [← V_main_arg6 m c]
    blk_ext [iblk, idx6 t]
  · show iblk m c 7 t (ix3 0 k j) = m ((c : Thread nD τ).loc main_arg7) (ix3 0 k j)
    rw [← V_main_arg7 m c]
    blk_ext [iblk, idx7 t]
  · show iblk m c 8 t (ix3 0 0 k) = m ((c : Thread nD τ).loc main_arg8) (ix3 0 0 k)
    rw [← V_main_arg8 m c]
    blk_ext [iblk, idx8 t]
  · show ldM (iblk m c 9 t) (k0_off1 (grid0.coords t)) (k0_off1_inb (grid0.coords t)) (ix2 0 k) = m ((c : Thread nD τ).loc main_arg9) (ix2 ⟨b.val, by omega⟩ ⟨2048 + k.val, by omega⟩)
    rw [ldM_apply _ _ _ _ _ (off1 t) (by omega) k (by omega)]
    rw [← V_main_arg9 m c]
    blk_ext [iblk, idx9 t]
  · show ldM (iblk m c 9 t) (k0_off3 (grid0.coords t)) (k0_off3_inb (grid0.coords t)) (ix2 0 k) = m ((c : Thread nD τ).loc main_arg9) (ix2 ⟨b.val, by omega⟩ ⟨3072 + k.val, by omega⟩)
    rw [ldM_apply _ _ _ _ _ (off3 t) (by omega) k (by omega)]
    rw [← V_main_arg9 m c]
    blk_ext [iblk, idx9 t]
  · show ldM (iblk m c 9 t) (k0_off2 (grid0.coords t)) (k0_off2_inb (grid0.coords t)) (ix2 0 k) = m ((c : Thread nD τ).loc main_arg9) (ix2 ⟨b.val, by omega⟩ ⟨4096 + k.val, by omega⟩)
    rw [ldM_apply _ _ _ _ _ (off2 t) (by omega) k (by omega)]
    rw [← V_main_arg9 m c]
    blk_ext [iblk, idx9 t]
  · show ldM (iblk m c 9 t) (k0_off4 (grid0.coords t)) (k0_off4_inb (grid0.coords t)) (ix2 0 k) = m ((c : Thread nD τ).loc main_arg9) (ix2 ⟨b.val, by omega⟩ ⟨5120 + k.val, by omega⟩)
    rw [ldM_apply _ _ _ _ _ (off4 t) (by omega) k (by omega)]
    rw [← V_main_arg9 m c]
    blk_ext [iblk, idx9 t]
  · show iblk m c 10 t (ix3 0 k j) = m ((c : Thread nD τ).loc main_arg10) (ix3 0 k j)
    rw [← V_main_arg10 m c]
    blk_ext [iblk, idx10 t]
  · show iblk m c 11 t (ix3 0 k j) = m ((c : Thread nD τ).loc main_arg11) (ix3 0 k j)
    rw [← V_main_arg11 m c]
    blk_ext [iblk, idx11 t]
  · rfl

/-- The block grid point `t` leaves, at token `p` and column `n`. -/
theorem outs_apply (t : Fin cfg0.N) (p : Fin 512) (n : Fin 1024) :
    outsAt0 m c t (ix2 p n) = MixSpec.after (row (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (grid0.coords t) p) n := by
  unfold outsAt0
  rw [out_eq]
  exact block_apply ..

/-- The final array of the kernel's output window. -/
theorem final :
    (dats m 0 c).arrAt 13 cfg0.N = MidSpec.array (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) := by
  refine (dats m 0 c).arrAt_eq_of_covers 13 _ (by decide +kernel) fun t hf y => ?_
  have ht : t.val < 64 := t.isLt
  have hp : (y 0).val < 512 := (y 0).isLt
  blk_simp
  rw [after0_13]
  rw [eq_ix2 y]
  refine (outs_apply m c t (y 0) (y 1)).trans ?_
  rw [row_eq m c t (y 0) ⟨t.val / 8, by omega⟩ ⟨t.val % 8 * 512 + (y 0).val, by omega⟩ rfl (by show t.val / 8 * 4096 + (t.val % 8 * 512 + (y 0).val) = t.val * 512 + (y 0).val; omega)]
  refine (MidSpec.array_at _ _ _ _ _ _ _ _ _ _ _ _ _ _ _).symm.trans (congrArg _ ?_)
  blk_ext [idx13 t]

end Cert.Kernel7Ideal.Mid

end
-- ==== Proof.MidReference.lean ====
/-
  The result of the first layer's reference program at an index: the formula `MixSpec.after` of the token's row.
-/
module

public import proofs.«01_k».proof.Proof.MidSpec
public import proofs.«01_k».proof.Proof.Gen.Reference7Ideal.Read
public import Idealize.ShloMosaic.Lib.Pointwise

@[expose] public section

set_option maxRecDepth 16384

noncomputable section

namespace Cert.Reference7Ideal.Mid

open Cert.Reference7Ideal Cert.Reference7Ideal.Gen Cert.Reference7Ideal.Read Idealize.ShloMosaic Idealize.ShloMosaic.TcCoe Idealize.SL.Sem Idealize.ShloMosaic.StableHlo

variable (x0 : (⟨S32768x1024, .f32⟩ : BufTy).Contents (Elt Ideal)) (x1 : (⟨S32768x2048, .bf16⟩ : BufTy).Contents (Elt Ideal))
  (x2 : (⟨S2x1x2048, .f32⟩ : BufTy).Contents (Elt Ideal)) (x3 : (⟨S512x32768, .bf16⟩ : BufTy).Contents (Elt Ideal))
  (x4 : (⟨S1024x32768, .bf16⟩ : BufTy).Contents (Elt Ideal)) (x5 : (⟨S2x512x1024, .bf16⟩ : BufTy).Contents (Elt Ideal))
  (x6 x7 : (⟨S2x1024x1024, .bf16⟩ : BufTy).Contents (Elt Ideal)) (x8 : (⟨S2x1x1024, .f32⟩ : BufTy).Contents (Elt Ideal))
  (x9 : (⟨S16x6144, .f32⟩ : BufTy).Contents (Elt Ideal)) (x10 : (⟨S2x1024x5632, .bf16⟩ : BufTy).Contents (Elt Ideal))
  (x11 : (⟨S2x2816x1024, .bf16⟩ : BufTy).Contents (Elt Ideal))

/-! ## The arguments, as the reference reshapes them -/

theorem v9_at (b : Fin 8) (n : Fin 1024) : val_main_v9 (F := Ideal) x9 (ix3 b 0 n) = x9 (ix2 ⟨b.val, by omega⟩ ⟨2048 + n.val, by omega⟩) := by
  pointwise [val_main_v9, val_main_v3, val_main_v0]
theorem v10_at (b : Fin 8) (n : Fin 1024) : val_main_v10 (F := Ideal) x9 (ix3 b 0 n) = x9 (ix2 ⟨b.val, by omega⟩ ⟨3072 + n.val, by omega⟩) := by
  pointwise [val_main_v10, val_main_v4, val_main_v0]
theorem v11_at (b : Fin 8) (n : Fin 1024) : val_main_v11 (F := Ideal) x9 (ix3 b 0 n) = x9 (ix2 ⟨b.val, by omega⟩ ⟨4096 + n.val, by omega⟩) := by
  pointwise [val_main_v11, val_main_v5, val_main_v0]
theorem v12_at (b : Fin 8) (n : Fin 1024) : val_main_v12 (F := Ideal) x9 (ix3 b 0 n) = x9 (ix2 ⟨b.val, by omega⟩ ⟨5120 + n.val, by omega⟩) := by
  pointwise [val_main_v12, val_main_v6, val_main_v0]
theorem v13_at (b : Fin 8) (i : Fin 4096) (n : Fin 1024) : val_main_v13 (F := Ideal) x0 (ix3 b i n) = x0 (ix2 ⟨b.val * 4096 + i.val, by omega⟩ n) := by
  pointwise [val_main_v13]
theorem v35_at (b : Fin 8) (i : Fin 4096) (j : Fin 2048) :
    val_main_v35 (F := Ideal) x1 x2 (ix3 b i j) = x1 (ix2 ⟨b.val * 4096 + i.val, by omega⟩ j) + x2 (ix3 0 0 j) := by
  pointwise [val_main_v35, val_main_v15, val_main_v14, val_main_v34, val_main_v33, val_main_v17, val_main_v16]
theorem v20_at (b : Fin 8) (i : Fin 4096) (k : Fin 512) : val_main_v20 (F := Ideal) x3 (ix3 b i k) = x3 (ix2 k ⟨b.val * 4096 + i.val, by omega⟩) := by
  pointwise [val_main_v20, val_main_v19, val_main_v18]
theorem v23_at (b : Fin 8) (i : Fin 4096) (k : Fin 1024) : val_main_v23 (F := Ideal) x4 (ix3 b i k) = x4 (ix2 k ⟨b.val * 4096 + i.val, by omega⟩) := by
  pointwise [val_main_v23, val_main_v22, val_main_v21]
theorem v26_at (k : Fin 512) (n : Fin 1024) : val_main_v26 (F := Ideal) x5 (ix2 k n) = x5 (ix3 0 k n) := by
  pointwise [val_main_v26, val_main_v25, val_main_v24]
theorem v29_at (k n : Fin 1024) : val_main_v29 (F := Ideal) x6 (ix2 k n) = x6 (ix3 0 k n) := by
  pointwise [val_main_v29, val_main_v28, val_main_v27]
theorem v32_at (k n : Fin 1024) : val_main_v32 (F := Ideal) x7 (ix2 k n) = x7 (ix3 0 k n) := by
  pointwise [val_main_v32, val_main_v31, val_main_v30]
theorem v66_at (b : Fin 8) (i : Fin 4096) (n : Fin 1024) : val_main_v66 (F := Ideal) x8 (ix3 b i n) = x8 (ix3 0 0 n) := by
  pointwise [val_main_v66, val_main_v65, val_main_v54, val_main_v53]
theorem v76_at (k : Fin 1024) (j : Fin 5632) : val_main_v76 (F := Ideal) x10 (ix2 k j) = x10 (ix3 0 k j) := by
  pointwise [val_main_v76, val_main_v75, val_main_v74]
theorem v79_at (j : Fin 2816) (n : Fin 1024) : val_main_v79 (F := Ideal) x11 (ix2 j n) = x11 (ix3 0 j n) := by
  pointwise [val_main_v79, val_main_v78, val_main_v77]

/-! ## The stages -/

theorem v41_at (b : Fin 8) (i : Fin 4096) (j : Fin 2048) :
    val_main_v41 (F := Ideal) x1 x2 (ix3 b i j) = MixSpec.lgt (x1 (ix2 ⟨b.val * 4096 + i.val, by omega⟩ j) + x2 (ix3 0 0 j)) := by
  rw [← v35_at]
  unfold val_main_v41 val_main_v39 val_main_v37 val_main_v36
  generalize val_main_v35 x1 x2 = y
  pointwise [val_main_v40, val_main_cst_0, val_main_v38, val_main_cst]
  rfl
theorem v44_at (b : Fin 8) (i : Fin 4096) (n : Fin 1024) :
    val_main_v44 (F := Ideal) x3 x5 (ix3 b i n) = ∑ k : Fin 512, val_main_v20 (F := Ideal) x3 (ix3 b i k) * val_main_v26 (F := Ideal) x5 (ix2 k n) := by
  unfold val_main_v44
  generalize val_main_v20 x3 = y
  generalize val_main_v26 x5 = z
  pointwise []
theorem v46_at (b : Fin 8) (i : Fin 4096) (n : Fin 1024) :
    val_main_v46 (F := Ideal) x4 x6 (ix3 b i n) = ∑ k : Fin 1024, val_main_v23 (F := Ideal) x4 (ix3 b i k) * val_main_v29 (F := Ideal) x6 (ix2 k n) := by
  unfold val_main_v46
  generalize val_main_v23 x4 = y
  generalize val_main_v29 x6 = z
  pointwise []
theorem v48_at (b : Fin 8) (i : Fin 4096) (n : Fin 1024) :
    val_main_v48 (F := Ideal) x1 x2 x3 x4 x5 x6 (ix3 b i n)
      = val_main_v41 (F := Ideal) x1 x2 (ix3 b i ⟨n.val, by omega⟩) * val_main_v44 (F := Ideal) x3 x5 (ix3 b i n)
        + val_main_v41 (F := Ideal) x1 x2 (ix3 b i ⟨1024 + n.val, by omega⟩) * val_main_v46 (F := Ideal) x4 x6 (ix3 b i n) := by
  unfold val_main_v48 val_main_v45 val_main_v47 val_main_v42 val_main_v43
  generalize val_main_v41 x1 x2 = y
  generalize val_main_v44 x3 x5 = z
  generalize val_main_v46 x4 x6 = w
  pointwise []
theorem v52_dot (b : Fin 8) (i : Fin 4096) (n : Fin 1024) :
    val_main_v52 (F := Ideal) x0 x1 x2 x3 x4 x5 x6 x7 x9 (ix3 b i n)
      = val_main_v13 (F := Ideal) x0 (ix3 b i n) + val_main_v9 (F := Ideal) x9 (ix3 b 0 n)
        * ∑ k : Fin 1024, val_main_v48 (F := Ideal) x1 x2 x3 x4 x5 x6 (ix3 b i k) * val_main_v32 (F := Ideal) x7 (ix2 k n) := by
  unfold val_main_v52 val_main_v51 val_main_v50 val_main_v49
  generalize val_main_v13 x0 = y
  generalize val_main_v9 x9 = z
  generalize val_main_v48 x1 x2 x3 x4 x5 x6 = w
  generalize val_main_v32 x7 = v
  pointwise []
theorem v52_at (b : Fin 8) (i : Fin 4096) (n : Fin 1024) :
    val_main_v52 (F := Ideal) x0 x1 x2 x3 x4 x5 x6 x7 x9 (ix3 b i n) = MixSpec.stream (MidSpec.rowAt x0 x1 x2 x3 x4 x5 x6 x7 x8 x9 x10 x11 b i) n := by
  rw [v52_dot]
  simp only [v13_at, v9_at, v48_at, v41_at, v44_at, v46_at, v20_at, v23_at, v26_at, v29_at, v32_at]
  rfl
theorem v64_at (b : Fin 8) (i : Fin 4096) (n : Fin 1024) :
    val_main_v64 (F := Ideal) x0 x1 x2 x3 x4 x5 x6 x7 x9 (ix3 b i n)
      = MixSpec.rms (fun k => val_main_v52 (F := Ideal) x0 x1 x2 x3 x4 x5 x6 x7 x9 (ix3 b i k)) n := by
  unfold val_main_v64 val_main_v63 val_main_v62 val_main_v61 val_main_v59 val_main_v57 val_main_v56 val_main_v55
  generalize val_main_v52 x0 x1 x2 x3 x4 x5 x6 x7 x9 = y
  pointwise [val_main_v58, val_main_v60, val_main_cst_1, val_main_cst_2, val_main_cst_3]
  rfl
theorem v73_mod (b : Fin 8) (i : Fin 4096) (n : Fin 1024) :
    val_main_v73 (F := Ideal) x0 x1 x2 x3 x4 x5 x6 x7 x8 x9 (ix3 b i n)
      = val_main_v64 (F := Ideal) x0 x1 x2 x3 x4 x5 x6 x7 x9 (ix3 b i n) * val_main_v66 (F := Ideal) x8 (ix3 b i n)
        * (1 + val_main_v11 (F := Ideal) x9 (ix3 b 0 n)) + val_main_v10 (F := Ideal) x9 (ix3 b 0 n) := by
  unfold val_main_v73 val_main_v72 val_main_v71 val_main_v70 val_main_v69 val_main_v67
  generalize val_main_v64 x0 x1 x2 x3 x4 x5 x6 x7 x9 = y
  generalize val_main_v66 x8 = z
  generalize val_main_v11 x9 = w
  generalize val_main_v10 x9 = v
  pointwise [val_main_v68, val_main_cst_4]
theorem v73_at (b : Fin 8) (i : Fin 4096) (n : Fin 1024) :
    val_main_v73 (F := Ideal) x0 x1 x2 x3 x4 x5 x6 x7 x8 x9 (ix3 b i n) = MixSpec.input (MidSpec.rowAt x0 x1 x2 x3 x4 x5 x6 x7 x8 x9 x10 x11 b i) n := by
  rw [v73_mod, v64_at]
  simp only [v52_at x0 x1 x2 x3 x4 x5 x6 x7 x8 x9 x10 x11, v66_at, v11_at, v10_at]
  rfl
theorem v80_dot (b : Fin 8) (i : Fin 4096) (j : Fin 5632) :
    val_main_v80 (F := Ideal) x0 x1 x2 x3 x4 x5 x6 x7 x8 x9 x10 (ix3 b i j)
      = ∑ k : Fin 1024, val_main_v73 (F := Ideal) x0 x1 x2 x3 x4 x5 x6 x7 x8 x9 (ix3 b i k) * val_main_v76 (F := Ideal) x10 (ix2 k j) := by
  unfold val_main_v80
  generalize val_main_v73 x0 x1 x2 x3 x4 x5 x6 x7 x8 x9 = y
  generalize val_main_v76 x10 = z
  pointwise []
theorem v80_at (b : Fin 8) (i : Fin 4096) (j : Fin 5632) :
    val_main_v80 (F := Ideal) x0 x1 x2 x3 x4 x5 x6 x7 x8 x9 x10 (ix3 b i j) = MixSpec.wide (MidSpec.rowAt x0 x1 x2 x3 x4 x5 x6 x7 x8 x9 x10 x11 b i) j := by
  rw [v80_dot]
  simp only [v73_at x0 x1 x2 x3 x4 x5 x6 x7 x8 x9 x10 x11, v76_at]
  rfl
theorem v84_at (b : Fin 8) (i : Fin 4096) (j : Fin 2816) :
    val_main_v84 (F := Ideal) x0 x1 x2 x3 x4 x5 x6 x7 x8 x9 x10 (ix3 b i j) = MixSpec.hidden (MidSpec.rowAt x0 x1 x2 x3 x4 x5 x6 x7 x8 x9 x10 x11 b i) j := by
  unfold MixSpec.hidden
  rw [← v80_at, ← v80_at]
  unfold val_main_v84 val_main_v83 val_main_call0_v5 val_main_call0_v3 val_main_call0_v1 val_main_call0_v0 val_main_v81 val_main_v82
  generalize val_main_v80 x0 x1 x2 x3 x4 x5 x6 x7 x8 x9 x10 = y
  pointwise [val_main_call0_v4, val_main_call0_cst_0, val_main_call0_v2, val_main_call0_cst]
  rfl
theorem v88_dot (b : Fin 8) (i : Fin 4096) (n : Fin 1024) :
    val_main_v88 (F := Ideal) x0 x1 x2 x3 x4 x5 x6 x7 x8 x9 x10 x11 (ix3 b i n)
      = val_main_v52 (F := Ideal) x0 x1 x2 x3 x4 x5 x6 x7 x9 (ix3 b i n) + val_main_v12 (F := Ideal) x9 (ix3 b 0 n)
        * ∑ j : Fin 2816, val_main_v84 (F := Ideal) x0 x1 x2 x3 x4 x5 x6 x7 x8 x9 x10 (ix3 b i j) * val_main_v79 (F := Ideal) x11 (ix2 j n) := by
  unfold val_main_v88 val_main_v87 val_main_v86 val_main_v85
  generalize val_main_v52 x0 x1 x2 x3 x4 x5 x6 x7 x9 = y
  generalize val_main_v12 x9 = z
  generalize val_main_v84 x0 x1 x2 x3 x4 x5 x6 x7 x8 x9 x10 = w
  generalize val_main_v79 x11 = v
  pointwise []
theorem v88_at (b : Fin 8) (i : Fin 4096) (n : Fin 1024) :
    val_main_v88 (F := Ideal) x0 x1 x2 x3 x4 x5 x6 x7 x8 x9 x10 x11 (ix3 b i n) = MixSpec.after (MidSpec.rowAt x0 x1 x2 x3 x4 x5 x6 x7 x8 x9 x10 x11 b i) n := by
  rw [v88_dot]
  simp only [v52_at x0 x1 x2 x3 x4 x5 x6 x7 x8 x9 x10 x11, v84_at x0 x1 x2 x3 x4 x5 x6 x7 x8 x9 x10 x11, v12_at, v79_at]
  rfl
theorem v89_at (b : Fin 8) (i : Fin 4096) (n : Fin 1024) :
    val_main_v89 (F := Ideal) x0 x1 x2 x3 x4 x5 x6 x7 x8 x9 x10 x11 (ix2 ⟨b.val * 4096 + i.val, by omega⟩ n) = MixSpec.after (MidSpec.rowAt x0 x1 x2 x3 x4 x5 x6 x7 x8 x9 x10 x11 b i) n := by
  rw [← v88_at]
  unfold val_main_v89
  generalize val_main_v88 x0 x1 x2 x3 x4 x5 x6 x7 x8 x9 x10 x11 = y
  pointwise []

/-- The reference's result is the formula's array. -/
theorem result_eq : val_main_v89 (F := Ideal) x0 x1 x2 x3 x4 x5 x6 x7 x8 x9 x10 x11 = MidSpec.array x0 x1 x2 x3 x4 x5 x6 x7 x8 x9 x10 x11 := by
  funext y
  have h0 : (y 0).val < 32768 := (y 0).isLt
  have e : y = ix2 (n0 := 32768) (n1 := 1024) ⟨(y 0).val / 4096 * 4096 + (y 0).val % 4096, by omega⟩ (y 1) := by
    refine (eq_ix2 y).trans (congrArg (fun a => ix2 a (y 1)) (Fin.ext ?_))
    show (y 0).val = (y 0).val / 4096 * 4096 + (y 0).val % 4096
    omega
  rw [e]
  exact (v89_at x0 x1 x2 x3 x4 x5 x6 x7 x8 x9 x10 x11 ⟨(y 0).val / 4096, by omega⟩ ⟨(y 0).val % 4096, by omega⟩ (y 1)).trans
    (MidSpec.array_at x0 x1 x2 x3 x4 x5 x6 x7 x8 x9 x10 x11 ⟨(y 0).val / 4096, by omega⟩ ⟨(y 0).val % 4096, by omega⟩ (y 1)).symm

end Cert.Reference7Ideal.Mid

end
-- ==== Proof.MidClaims.lean ====
/-
  The claims of the first layer's gated mix and feed-forward call: the reference's frame, and the value claim.
-/
module

public import proofs.«01_k».proof.Defs
public import proofs.«01_k».proof.Proof.MidArray
public import proofs.«01_k».proof.Proof.MidReference
public import proofs.«01_k».proof.Proof.Gen.Reference7Ideal.Run

@[expose] public section

noncomputable section

namespace Cert.MidClaims

open Idealize.ShloMosaic Idealize.SL.Sem

/-- The reference runs, ends with its arguments unchanged and owns no semaphore. -/
theorem frame_reference : Cert.quiescent_Reference7Ideal := fun m ρ _ => (θ_run Cert.Reference7Ideal.defs _ _).mono
  (fun r h => And.intro (fun c => (h c).2) (Idealize.ShloMosaic.sem_eq_zero_of_no_sems (by decide) r.2))
  (Cert.Reference7Ideal.Value.run (F := Ideal) m ρ)

/-- From memories agreeing on the arguments, the kernel and the reference end with the same array: the formula of the
    arguments. -/
theorem algebraic : Cert.algebraic_Kernel7Ideal_Reference7Ideal := by
  intro m ρ m' ρ' hpre hag
  refine ⟨fun c => MidSpec.array (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4))
      (m ((c.tc : Thread Cert.Kernel7Ideal.nD Cert.Kernel7Ideal.τ).loc Cert.Kernel7Ideal.main_arg5))
      (m ((c.tc : Thread Cert.Kernel7Ideal.nD Cert.Kernel7Ideal.τ).loc Cert.Kernel7Ideal.main_arg6))
      (m ((c.tc : Thread Cert.Kernel7Ideal.nD Cert.Kernel7Ideal.τ).loc Cert.Kernel7Ideal.main_arg7))
      (m ((c.tc : Thread Cert.Kernel7Ideal.nD Cert.Kernel7Ideal.τ).loc Cert.Kernel7Ideal.main_arg8))
      (m ((c.tc : Thread Cert.Kernel7Ideal.nD Cert.Kernel7Ideal.τ).loc Cert.Kernel7Ideal.main_arg9))
      (m ((c.tc : Thread Cert.Kernel7Ideal.nD Cert.Kernel7Ideal.τ).loc Cert.Kernel7Ideal.main_arg10))
      (m ((c.tc : Thread Cert.Kernel7Ideal.nD Cert.Kernel7Ideal.τ).loc Cert.Kernel7Ideal.main_arg11)), ?_, ?_⟩
  · exact (θ_run Cert.Kernel7Ideal.defs _ _).mono (fun _ h c => ⟨(h c).1.trans (Cert.Kernel7Ideal.Mid.final m c), (h c).2⟩)
      (Cert.Kernel7Ideal.Value.run_blocks m ρ)
  · refine (θ_run Cert.Reference7Ideal.defs _ _).mono (fun _ h c => ⟨(h c).1.trans ?_, (h c).2⟩) (Cert.Reference7Ideal.Value.run m' ρ')
    obtain ⟨h0, h1, h2, h3, h4, h5, h6, h7, h8, h9, h10, h11, _⟩ := hag c
    beta_reduce
    rw [← h0, ← h1, ← h2, ← h3, ← h4, ← h5, ← h6, ← h7, ← h8, ← h9, ← h10, ← h11]
    exact (Cert.Reference7Ideal.Read.val_main_v89_eq _ _).trans (Cert.Reference7Ideal.Mid.result_eq ..)

end Cert.MidClaims

end
-- ==== Proof.CtxMixUnit.lean ====
/-
  One block of 512 tokens of the gated mix and feed-forward kernel, as a function of the loaded blocks. The body merges
  the two mixers' outputs under their gates, adds them to the stream, normalises, runs the feed-forward block in eleven
  chunks of 256 hidden columns, and adds that too: the call of the context's tokens, which has no final norm. `out_eq` says that this is what the body stores.
-/
module

public import proofs.«01_k».proof.Proof.Gen.Kernel8Ideal.Frame
public import Idealize.ShloMosaic.Lib.Pipeline.Value

@[expose] public section

set_option maxRecDepth 16384

noncomputable section

namespace Cert.Kernel8Ideal.CtxMix

open Cert.Kernel8Ideal Cert.Kernel8Ideal.Gen Idealize.ShloMosaic Idealize.ShloMosaic.TcCoe Idealize.SL.Sem

variable {F : FTy → Type} [FloatOps F]

/-- The gates of both mixers: the logistic function of the token's gate plus the bias. -/
def gates (u : Vec F S512x2048 .bf16) (b : Vec F S1x1x2048 .f32) : FVec F S512x2048 .f32 :=
  divf (broadcast S512x2048 (Scalar.ofBits .f32 0x3F800000#32)) (addf (broadcast S512x2048 (Scalar.ofBits .f32 0x3F800000#32))
    (exp (subf (broadcast S512x2048 (Scalar.ofBits .f32 0x00000000#32))
      (addf (extf .f32 u bitsLt_bf16_f32) (broadcastTo S512x2048 (shapeCast S1x2048 b shapeCasts_S1x1x2048_S1x2048) broadcasts_S1x2048_S512x2048)))))

/-- The Hyena mixer's output projected. -/
def projY (y : Vec F S512x512 .bf16) (w : Vec F S1x512x1024 .bf16) : FVec F S512x1024 .f32 :=
  matmul dot_S512x512_S512x1024_S512x1024_0_0_1_1_n_n none y (shapeCast S512x1024 w shapeCasts_S1x512x1024_S512x1024) (constant S512x1024 .f32 0x00000000#32)

/-- The attention's output projected. -/
def projA (a : Vec F S1024x512 .bf16) (w : Vec F S1x1024x1024 .bf16) : FVec F S512x1024 .f32 :=
  matmul dot_S1024x512_S1024x1024_S512x1024_0_0_1_1_n_n none a (shapeCast S1024x1024 w shapeCasts_S1x1024x1024_S1024x1024) (constant S512x1024 .f32 0x00000000#32)

/-- The two projections under their gates, added. -/
def gated (g : FVec F S512x2048 .f32) (y a : FVec F S512x1024 .f32) : FVec F S512x1024 .bf16 :=
  truncf .bf16 (addf (mulf (extractStridedSlice S512x1024 ![0, 0] g slices_S512x2048_o0_0_S512x1024) y)
    (mulf (extractStridedSlice S512x1024 ![0, 1024] g slices_S512x2048_o0_1024_S512x1024) a)) bitsLt_bf16_f32

/-- The stream after the mixers: `h` plus the scaled output projection. -/
def mixed (h : Vec F S512x1024 .f32) (s : Vec F S1x1024 .f32) (x : FVec F S512x1024 .bf16) (w : Vec F S1x1024x1024 .bf16) : FVec F S512x1024 .f32 :=
  addf h (mulf (broadcastTo S512x1024 s broadcasts_S1x1024_S512x1024)
    (matmul dot_S512x1024_S1024x1024_S512x1024_1_0_0_1_n_n none x (shapeCast S1024x1024 w shapeCasts_S1x1024x1024_S1024x1024) (constant S512x1024 .f32 0x00000000#32)))

/-- Each row over its root mean square. -/
def normed (x : FVec F S512x1024 .f32) : FVec F S512x1024 .f32 :=
  mulf x (broadcastTo S512x1024 (rsqrt (addf (divf (shapeCast S512x1
      (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The feed-forward block's input: the normalised stream times its gain, scaled and shifted. -/
def modulated (x : FVec F S512x1024 .f32) (g : Vec F S1x1x1024 .f32) (sc sh : Vec F S1x1024 .f32) : FVec F S512x1024 .bf16 :=
  truncf .bf16 (addf (mulf (mulf (normed x) (broadcastTo S512x1024 (shapeCast S1x1024 g shapeCasts_S1x1x1024_S1x1024) broadcasts_S1x1024_S512x1024))
      (broadcastTo S512x1024 (addf (broadcast S1x1024 (Scalar.ofBits .f32 0x3F800000#32)) sc) broadcasts_S1x1024_S512x1024))
    (broadcastTo S512x1024 sh broadcasts_S1x1024_S512x1024)) bitsLt_bf16_f32

/-- The product of the input with 256 of the first weight's columns. -/
def wide (f : FVec F S512x1024 .bf16) (w : Vec F S1x1024x256 .bf16) : FVec F S512x256 .f32 :=
  matmul dot_S512x1024_S1024x256_S512x256_1_0_0_1_n_n none f (shapeCast S1024x256 w shapeCasts_S1x1024x256_S1024x256) (constant S512x256 .f32 0x00000000#32)

/-- The hidden values of one chunk: the gate times its logistic, times the other half. -/
def act (g u : FVec F S512x256 .f32) : FVec F S512x256 .bf16 :=
  truncf .bf16 (mulf (mulf g (divf (broadcast S512x256 (Scalar.ofBits .f32 0x3F800000#32)) (addf (broadcast S512x256 (Scalar.ofBits .f32 0x3F800000#32))
    (exp (subf (broadcast S512x256 (Scalar.ofBits .f32 0x00000000#32)) g))))) u) bitsLt_bf16_f32

/-- One chunk's share of the feed-forward block's output. -/
def chunk (f : FVec F S512x1024 .bf16) (wg wu : Vec F S1x1024x256 .bf16) (wd : Vec F S1x256x1024 .bf16) : FVec F S512x1024 .f32 :=
  matmul dot_S512x256_S256x1024_S512x1024_1_0_0_1_n_n none (act (wide f wg) (wide f wu)) (shapeCast S256x1024 wd shapeCasts_S1x256x1024_S256x1024) (constant S512x1024 .f32 0x00000000#32)

/-- The stream after the feed-forward block. -/
def finish (h y : FVec F S512x1024 .f32) (s : Vec F S1x1024 .f32) : FVec F S512x1024 .f32 :=
  addf h (mulf (broadcastTo S512x1024 s broadcasts_S1x1024_S512x1024) y)

theorem inbG (k : Fin 11) : ∀ a, (![0, 0, k.val * 256] : Fin 3 → Nat) a + S1x1024x256.size a ≤ S1x1024x5632.size a := by
  revert k; decide +kernel
theorem inbU (k : Fin 11) : ∀ a, (![0, 0, 2816 + k.val * 256] : Fin 3 → Nat) a + S1x1024x256.size a ≤ S1x1024x5632.size a := by
  revert k; decide +kernel
theorem inbD (k : Fin 11) : ∀ a, (![0, k.val * 256, 0] : Fin 3 → Nat) a + S1x256x1024.size a ≤ S1x2816x1024.size a := by
  revert k; decide +kernel

/-- Chunk `k`'s columns of the first weight: its gate half. -/
def ldG (x : Vec F S1x1024x5632 .bf16) (k : Fin 11) : Vec F S1x1024x256 .bf16 := View.ld x (Rect.unit (s := S1x1024x5632) ![0, 0, k.val * 256] S1x1024x256.size (inbG k))
/-- Chunk `k`'s columns of the first weight: its other half. -/
def ldU (x : Vec F S1x1024x5632 .bf16) (k : Fin 11) : Vec F S1x1024x256 .bf16 := View.ld x (Rect.unit (s := S1x1024x5632) ![0, 0, 2816 + k.val * 256] S1x1024x256.size (inbU k))
/-- Chunk `k`'s rows of the second weight. -/
def ldD (x : Vec F S1x2816x1024 .bf16) (k : Fin 11) : Vec F S1x256x1024 .bf16 := View.ld x (Rect.unit (s := S1x2816x1024) ![0, k.val * 256, 0] S1x256x1024.size (inbD k))

/-- Chunk `k` of the feed-forward block. -/
def part (f : FVec F S512x1024 .bf16) (wi : Vec F S1x1024x5632 .bf16) (wd : Vec F S1x2816x1024 .bf16) (k : Fin 11) : FVec F S512x1024 .f32 :=
  chunk f (ldG wi k) (ldU wi k) (ldD wd k)

/-- The feed-forward block: its eleven chunks, added from the first to the last. -/
def ffn (f : FVec F S512x1024 .bf16) (wi : Vec F S1x1024x5632 .bf16) (wd : Vec F S1x2816x1024 .bf16) : FVec F S512x1024 .f32 :=
  addf (addf (addf (addf (addf (addf (addf (addf (addf (addf (part f wi wd 0) (part f wi wd 1)) (part f wi wd 2)) (part f wi wd 3)) (part f wi wd 4))
    (part f wi wd 5)) (part f wi wd 6)) (part f wi wd 7)) (part f wi wd 8)) (part f wi wd 9)) (part f wi wd 10)

variable (x0 : Vec F S512x1024 .f32) (x1 : Vec F S512x2048 .bf16) (x2 : Vec F S1x1x2048 .f32) (x3 : Vec F S512x512 .bf16) (x4 : Vec F S1024x512 .bf16)
  (x5 : Vec F S1x512x1024 .bf16) (x6 : Vec F S1x1024x1024 .bf16) (x7 : Vec F S1x1024x1024 .bf16) (x8 : Vec F S1x1x1024 .f32) (x9 : Vec F S16x6144 .f32)
  (x10 : Vec F S1x1024x5632 .bf16) (x11 : Vec F S1x2816x1024 .bf16) (x12 : Vec F S1x1024 .f32)

/-- The row of modulations at an offset. -/
def ldM (o : Fin 2 → Nat) (h : ∀ a, o a + S1x1024.size a ≤ S16x6144.size a) : Vec F S1x1024 .f32 :=
  View.ld x9 (Rect.unit (s := S16x6144) o S1x1024.size h)

/-- The stream after the mixers, at grid point `i`. -/
def stream (i : grid0.Coords) : FVec F S512x1024 .f32 :=
  mixed x0 (ldM x9 (k0_off1 i) (k0_off1_inb i)) (gated (gates x1 x2) (projY x3 x5) (projA x4 x6)) x7

/-- The whole block of grid point `i`. -/
def block (i : grid0.Coords) : FVec F S512x1024 .f32 :=
  finish (stream x0 x1 x2 x3 x4 x5 x6 x7 x9 i)
    (ffn (modulated (stream x0 x1 x2 x3 x4 x5 x6 x7 x9 i) x8 (ldM x9 (k0_off2 i) (k0_off2_inb i)) (ldM x9 (k0_off3 i) (k0_off3_inb i))) x10 x11)
    (ldM x9 (k0_off4 i) (k0_off4_inb i))

theorem zero2 (a : Fin 2) : (![0, 0] : Fin 2 → Nat) a = 0 := by revert a; decide
theorem zero3 (a : Fin 3) : (![0, 0, 0] : Fin 3 → Nat) a = 0 := by revert a; decide

variable (c : Dev nD) (i : grid0.Coords) (arg1 : Memref sig .tc .vmem S512x1024 .f32) (harg1 : arg1.IsWhole) (arg2 : Memref sig .tc .vmem S512x2048 .bf16) (harg2 : arg2.IsWhole)
  (arg3 : Memref sig .tc .vmem S1x1x2048 .f32) (harg3 : arg3.IsWhole) (arg4 : Memref sig .tc .vmem S512x512 .bf16) (harg4 : arg4.IsWhole)
  (arg5 : Memref sig .tc .vmem S1024x512 .bf16) (harg5 : arg5.IsWhole) (arg6 : Memref sig .tc .vmem S1x512x1024 .bf16) (harg6 : arg6.IsWhole)
  (arg7 : Memref sig .tc .vmem S1x1024x1024 .bf16) (harg7 : arg7.IsWhole) (arg8 : Memref sig .tc .vmem S1x1024x1024 .bf16) (harg8 : arg8.IsWhole)
  (arg9 : Memref sig .tc .vmem S1x1x1024 .f32) (harg9 : arg9.IsWhole) (arg10 : Memref sig .tc .vmem S16x6144 .f32) (harg10 : arg10.IsWhole)
  (arg11 : Memref sig .tc .vmem S1x1024x5632 .bf16) (harg11 : arg11.IsWhole) (arg12 : Memref sig .tc .vmem S1x2816x1024 .bf16) (harg12 : arg12.IsWhole)
  (arg13 : Memref sig .tc .vmem S1x1024 .f32) (harg13 : arg13.IsWhole) (arg14 : Memref sig .tc .vmem S512x1024 .f32) (harg14 : arg14.IsWhole)

/-- What the body stores is the block. -/
theorem out_eq : out0_A_13 c i arg1 harg1 arg2 harg2 arg3 harg3 arg4 harg4 arg5 harg5 arg6 harg6 arg7 harg7 arg8 harg8 arg9 harg9 arg10 harg10 arg11 harg11 arg12 harg12
    arg13 harg13 arg14 harg14 x0 x1 x2 x3 x4 x5 x6 x7 x8 x9 x10 x11 x12 = block x0 x1 x2 x3 x4 x5 x6 x7 x8 x9 x10 x11 i := by
  unfold out0_A_13
  rw [View.read_writes_junk_eq_canon]
  unfold kernelRun0_A
  dsimp only
  sl_unfold_words
  rw [View.canon_unit_zero (S := S512x1024) (funext zero2)]
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg13.read_unread]
  simp only [View.ld_unit_zero (S := S512x1024) (funext zero2), View.ld_unit_zero (S := S512x2048) (funext zero2), View.ld_unit_zero (S := S512x512) (funext zero2),
    View.ld_unit_zero (S := S1024x512) (funext zero2), View.ld_unit_zero (S := S1x1024) (funext zero2), View.ld_unit_zero (S := S1x1x2048) (funext zero3),
    View.ld_unit_zero (S := S1x512x1024) (funext zero3), View.ld_unit_zero (S := S1x1024x1024) (funext zero3), View.ld_unit_zero (S := S1x1x1024) (funext zero3)]
  rfl

end Cert.Kernel8Ideal.CtxMix

end
-- ==== Proof.CtxMixRead.lean ====
/-
  What one block of the context's gated mix and feed-forward kernel holds over the extended reals: at token `p` and column `n`, the
  formula `MixSpec.after` of the row that the loaded blocks give for that token.
-/
module

public import proofs.«01_k».proof.Proof.CtxMixUnit
public import proofs.«01_k».proof.Proof.MixSpec
public import Idealize.ShloMosaic.Lib.Pointwise

@[expose] public section

set_option maxRecDepth 16384

noncomputable section

namespace Cert.Kernel8Ideal.CtxMix

open Cert.Kernel8Ideal Cert.Kernel8Ideal.Gen Idealize.ShloMosaic Idealize.ShloMosaic.TcCoe Idealize.SL.Sem

theorem gates_apply (u : Vec Ideal S512x2048 .bf16) (b : Vec Ideal S1x1x2048 .f32) (p : Fin 512) (j : Fin 2048) :
    gates (F := Ideal) u b (ix2 p j) = MixSpec.lgt (u (ix2 p j) + b (ix3 0 0 j)) := by
  pointwise [gates]
  rw [MixSpec.zero_sub']
  rfl
theorem projY_apply (y : Vec Ideal S512x512 .bf16) (w : Vec Ideal S1x512x1024 .bf16) (p : Fin 512) (n : Fin 1024) :
    projY (F := Ideal) y w (ix2 p n) = ∑ k : Fin 512, y (ix2 k p) * w (ix3 0 k n) := by
  pointwise [projY]
theorem projA_apply (a : Vec Ideal S1024x512 .bf16) (w : Vec Ideal S1x1024x1024 .bf16) (p : Fin 512) (n : Fin 1024) :
    projA (F := Ideal) a w (ix2 p n) = ∑ k : Fin 1024, a (ix2 k p) * w (ix3 0 k n) := by
  pointwise [projA]
theorem gated_apply (g : FVec Ideal S512x2048 .f32) (y a : FVec Ideal S512x1024 .f32) (p : Fin 512) (n : Fin 1024) :
    gated (F := Ideal) g y a (ix2 p n) = g (ix2 p ⟨n.val, by omega⟩) * y (ix2 p n) + g (ix2 p ⟨1024 + n.val, by omega⟩) * a (ix2 p n) := by
  pointwise [gated]
theorem mixed_apply (h : Vec Ideal S512x1024 .f32) (s : Vec Ideal S1x1024 .f32) (x : FVec Ideal S512x1024 .bf16) (w : Vec Ideal S1x1024x1024 .bf16)
    (p : Fin 512) (n : Fin 1024) :
    mixed (F := Ideal) h s x w (ix2 p n) = h (ix2 p n) + s (ix2 0 n) * ∑ k : Fin 1024, x (ix2 p k) * w (ix3 0 k n) := by
  pointwise [mixed]
theorem normed_apply (x : FVec Ideal S512x1024 .f32) (p : Fin 512) (n : Fin 1024) :
    normed (F := Ideal) x (ix2 p n) = MixSpec.rms (fun k => x (ix2 p k)) n := by
  pointwise [normed]
  rfl
theorem modulated_apply (x : FVec Ideal S512x1024 .f32) (g : Vec Ideal S1x1x1024 .f32) (sc sh : Vec Ideal S1x1024 .f32) (p : Fin 512) (n : Fin 1024) :
    modulated (F := Ideal) x g sc sh (ix2 p n) = normed (F := Ideal) x (ix2 p n) * g (ix3 0 0 n) * (1 + sc (ix2 0 n)) + sh (ix2 0 n) := by
  unfold modulated
  generalize normed x = y
  pointwise []
theorem wide_apply (f : FVec Ideal S512x1024 .bf16) (w : Vec Ideal S1x1024x256 .bf16) (p : Fin 512) (r : Fin 256) :
    wide (F := Ideal) f w (ix2 p r) = ∑ k : Fin 1024, f (ix2 p k) * w (ix3 0 k r) := by
  pointwise [wide]
theorem act_apply (g u : FVec Ideal S512x256 .f32) (p : Fin 512) (r : Fin 256) :
    act (F := Ideal) g u (ix2 p r) = g (ix2 p r) * MixSpec.lgt (g (ix2 p r)) * u (ix2 p r) := by
  pointwise [act]
  rw [MixSpec.zero_sub']
  rfl
theorem chunk_apply (f : FVec Ideal S512x1024 .bf16) (wg wu : Vec Ideal S1x1024x256 .bf16) (wd : Vec Ideal S1x256x1024 .bf16) (p : Fin 512) (n : Fin 1024) :
    chunk (F := Ideal) f wg wu wd (ix2 p n) = ∑ r : Fin 256, act (F := Ideal) (wide f wg) (wide f wu) (ix2 p r) * wd (ix3 0 r n) := by
  unfold chunk
  generalize act (wide f wg) (wide f wu) = y
  pointwise []
theorem finish_apply (h y : FVec Ideal S512x1024 .f32) (s : Vec Ideal S1x1024 .f32) (p : Fin 512) (n : Fin 1024) :
    finish (F := Ideal) h y s (ix2 p n) = h (ix2 p n) + s (ix2 0 n) * y (ix2 p n) := by
  pointwise [finish]

theorem ldG_apply (x : Vec Ideal S1x1024x5632 .bf16) (c : Fin 11) (k : Fin 1024) (r : Fin 256) :
    ldG x c (ix3 0 k r) = x (ix3 0 k ⟨c.val * 256 + r.val, by omega⟩) := by
  pointwise [ldG]
theorem ldU_apply (x : Vec Ideal S1x1024x5632 .bf16) (c : Fin 11) (k : Fin 1024) (r : Fin 256) :
    ldU x c (ix3 0 k r) = x (ix3 0 k ⟨2816 + (c.val * 256 + r.val), by omega⟩) := by
  pointwise [ldU]
  simp only [Nat.add_assoc]
theorem ldD_apply (x : Vec Ideal S1x2816x1024 .bf16) (c : Fin 11) (r : Fin 256) (n : Fin 1024) :
    ldD x c (ix3 0 r n) = x (ix3 0 ⟨c.val * 256 + r.val, by omega⟩ n) := by
  pointwise [ldD]

variable (x0 : Vec Ideal S512x1024 .f32) (x1 : Vec Ideal S512x2048 .bf16) (x2 : Vec Ideal S1x1x2048 .f32) (x3 : Vec Ideal S512x512 .bf16) (x4 : Vec Ideal S1024x512 .bf16)
  (x5 : Vec Ideal S1x512x1024 .bf16) (x6 : Vec Ideal S1x1024x1024 .bf16) (x7 : Vec Ideal S1x1024x1024 .bf16) (x8 : Vec Ideal S1x1x1024 .f32) (x9 : Vec Ideal S16x6144 .f32)
  (x10 : Vec Ideal S1x1024x5632 .bf16) (x11 : Vec Ideal S1x2816x1024 .bf16)

/-- The row of token `p` of a block. -/
def row (i : grid0.Coords) (p : Fin 512) : MixSpec.Row where
  h n := x0 (ix2 p n)
  u j := x1 (ix2 p j)
  b j := x2 (ix3 0 0 j)
  y k := x3 (ix2 k p)
  a k := x4 (ix2 k p)
  hp k n := x5 (ix3 0 k n)
  mp k n := x6 (ix3 0 k n)
  wo k n := x7 (ix3 0 k n)
  g n := x8 (ix3 0 0 n)
  sm n := ldM x9 (k0_off1 i) (k0_off1_inb i) (ix2 0 n)
  sc n := ldM x9 (k0_off2 i) (k0_off2_inb i) (ix2 0 n)
  sh n := ldM x9 (k0_off3 i) (k0_off3_inb i) (ix2 0 n)
  sf n := ldM x9 (k0_off4 i) (k0_off4_inb i) (ix2 0 n)
  wi k j := x10 (ix3 0 k j)
  wd j n := x11 (ix3 0 j n)
  fg _ := 0

theorem stream_apply (i : grid0.Coords) (p : Fin 512) (n : Fin 1024) :
    stream (F := Ideal) x0 x1 x2 x3 x4 x5 x6 x7 x9 i (ix2 p n) = MixSpec.stream (row x0 x1 x2 x3 x4 x5 x6 x7 x8 x9 x10 x11 i p) n := by
  unfold stream
  rw [mixed_apply]
  simp only [gated_apply, gates_apply, projY_apply, projA_apply]
  rfl

/-- A chunk of the feed-forward block is that chunk's share of the sum over the hidden columns. -/
theorem part_apply (R : MixSpec.Row) (f : FVec Ideal S512x1024 .bf16) (p : Fin 512) (c : Fin 11) (n : Fin 1024)
    (hf : ∀ k, f (ix2 p k) = MixSpec.input R k) (hi : ∀ k j, x10 (ix3 0 k j) = R.wi k j) (hd : ∀ j n, x11 (ix3 0 j n) = R.wd j n) :
    part (F := Ideal) f x10 x11 c (ix2 p n) = ∑ r : Fin 256, MixSpec.hidden R ⟨c.val * 256 + r.val, by omega⟩ * R.wd ⟨c.val * 256 + r.val, by omega⟩ n := by
  unfold part
  rw [chunk_apply]
  simp only [act_apply, wide_apply, ldG_apply, ldU_apply, ldD_apply, hf, hi, hd]
  rfl

theorem ffn_apply (R : MixSpec.Row) (f : FVec Ideal S512x1024 .bf16) (p : Fin 512) (n : Fin 1024)
    (hf : ∀ k, f (ix2 p k) = MixSpec.input R k) (hi : ∀ k j, x10 (ix3 0 k j) = R.wi k j) (hd : ∀ j n, x11 (ix3 0 j n) = R.wd j n) :
    ffn (F := Ideal) f x10 x11 (ix2 p n) = ∑ j, MixSpec.hidden R j * R.wd j n :=
  MixSpec.sum_chunks (fun j => MixSpec.hidden R j * R.wd j n) (fun c => part (F := Ideal) f x10 x11 c (ix2 p n))
    fun c => part_apply x10 x11 R f p c n hf hi hd

/-- The block at token `p` and column `n`. -/
theorem block_apply (i : grid0.Coords) (p : Fin 512) (n : Fin 1024) :
    block (F := Ideal) x0 x1 x2 x3 x4 x5 x6 x7 x8 x9 x10 x11 i (ix2 p n)
      = MixSpec.after (row x0 x1 x2 x3 x4 x5 x6 x7 x8 x9 x10 x11 i p) n := by
  unfold block
  rw [finish_apply]
  simp only [stream_apply x0 x1 x2 x3 x4 x5 x6 x7 x8 x9 x10 x11]
  have hf : ∀ k, modulated (F := Ideal) (stream x0 x1 x2 x3 x4 x5 x6 x7 x9 i) x8 (ldM x9 (k0_off2 i) (k0_off2_inb i)) (ldM x9 (k0_off3 i) (k0_off3_inb i)) (ix2 p k)
      = MixSpec.input (row x0 x1 x2 x3 x4 x5 x6 x7 x8 x9 x10 x11 i p) k := fun k => by
    rw [modulated_apply, normed_apply]
    simp only [stream_apply x0 x1 x2 x3 x4 x5 x6 x7 x8 x9 x10 x11]
    rfl
  simp only [ffn_apply x10 x11 (row x0 x1 x2 x3 x4 x5 x6 x7 x8 x9 x10 x11 i p) _ p _ hf (fun _ _ => rfl) (fun _ _ => rfl)]
  rfl

end Cert.Kernel8Ideal.CtxMix

end
-- ==== Proof.CtxMixSpec.lean ====
/-
  The mix and feed-forward block of the context's tokens: `MixSpec.after`, with the weights of the first layer
  and without the final norm.
-/
module

public import proofs.«01_k».proof.Proof.MixSpec

@[expose] public section

noncomputable section

namespace Cert.CtxMixSpec

open Idealize.ShloMosaic

variable (h : (⟨2, ![2048, 1024]⟩ : Shape).Idx → EReal) (ug : (⟨2, ![2048, 2048]⟩ : Shape).Idx → EReal) (gb : (⟨3, ![2, 1, 2048]⟩ : Shape).Idx → EReal)
  (yt : (⟨2, ![512, 2048]⟩ : Shape).Idx → EReal) (at' : (⟨2, ![1024, 2048]⟩ : Shape).Idx → EReal) (hp : (⟨3, ![2, 512, 1024]⟩ : Shape).Idx → EReal)
  (mp wo : (⟨3, ![2, 1024, 1024]⟩ : Shape).Idx → EReal) (g2 : (⟨3, ![2, 1, 1024]⟩ : Shape).Idx → EReal) (mods : (⟨2, ![16, 6144]⟩ : Shape).Idx → EReal)
  (wi : (⟨3, ![2, 1024, 5632]⟩ : Shape).Idx → EReal) (wd : (⟨3, ![2, 2816, 1024]⟩ : Shape).Idx → EReal)

/-- The row of the context's token `r`, with the weights of the first of the two layers. The final gain plays no part. -/
def rowAt (r : Fin 2048) : MixSpec.Row where
  h n := h (ix2 r n)
  u j := ug (ix2 r j)
  b j := gb (ix3 0 0 j)
  y k := yt (ix2 k r)
  a k := at' (ix2 k r)
  hp k n := hp (ix3 0 k n)
  mp k n := mp (ix3 0 k n)
  wo k n := wo (ix3 0 k n)
  g n := g2 (ix3 0 0 n)
  sm n := mods (ix2 8 ⟨2048 + n.val, by omega⟩)
  sh n := mods (ix2 8 ⟨3072 + n.val, by omega⟩)
  sc n := mods (ix2 8 ⟨4096 + n.val, by omega⟩)
  sf n := mods (ix2 8 ⟨5120 + n.val, by omega⟩)
  wi k j := wi (ix3 0 k j)
  wd j n := wd (ix3 0 j n)
  fg _ := 0

/-- The result array. -/
def array (y : (⟨2, ![2048, 1024]⟩ : Shape).Idx) : EReal :=
  MixSpec.after (rowAt h ug gb yt at' hp mp wo g2 mods wi wd (y 0)) (y 1)

end Cert.CtxMixSpec

end
-- ==== Proof.CtxMixArray.lean ====
/-
  The array the context's gated mix and feed-forward kernel leaves: `CtxMixSpec.array` of its arguments, at every index.
-/
module

public import proofs.«01_k».proof.Proof.CtxMixRead
public import proofs.«01_k».proof.Proof.CtxMixSpec
public import proofs.«01_k».proof.Proof.Gen.Kernel8Ideal.Value
public import Idealize.ShloMosaic.Lib.Pipeline.ValueKit

@[expose] public section

set_option maxRecDepth 16384

noncomputable section

namespace Cert.Kernel8Ideal.CtxMix

open Cert.Kernel8Ideal Cert.Kernel8Ideal.Gen Idealize.ShloMosaic Idealize.ShloMosaic.TcCoe Idealize.SL.Sem
open Idealize.ShloMosaic.Pipeline (Dat)

/-- Which blocks grid point `t` reads and writes: the tokens `t` of the streams, the first layer of the weights. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, t.val] := (by decide +kernel : ∀ t : Fin grid0.N, win0_3.index t = ![0, t.val])
theorem idx4 : ∀ t : Fin cfg0.N, win0_4.index t = ![0, t.val] := (by decide +kernel : ∀ t : Fin grid0.N, win0_4.index t = ![0, t.val])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0, 0] := (by decide +kernel : ∀ t : Fin grid0.N, win0_8.index t = ![0, 0, 0])
theorem idx9 : ∀ t : Fin cfg0.N, win0_9.index t = ![0, 0] := (by decide +kernel : ∀ t : Fin grid0.N, win0_9.index t = ![0, 0])
theorem idx10 : ∀ t : Fin cfg0.N, win0_10.index t = ![0, 0, 0] := (by decide +kernel : ∀ t : Fin grid0.N, win0_10.index t = ![0, 0, 0])
theorem idx11 : ∀ t : Fin cfg0.N, win0_11.index t = ![0, 0, 0] := (by decide +kernel : ∀ t : Fin grid0.N, win0_11.index t = ![0, 0, 0])
theorem idx12 : ∀ t : Fin cfg0.N, win0_12.index t = ![0, 0] := (by decide +kernel : ∀ t : Fin grid0.N, win0_12.index t = ![0, 0])
theorem idx13 : ∀ t : Fin cfg0.N, win0_13.index t = ![t.val, 0] := (by decide +kernel : ∀ t : Fin grid0.N, win0_13.index t = ![t.val, 0])

/-- Where the modulations of grid point `t` lie: in the context's row, the ninth. -/
theorem off1 : ∀ t : Fin cfg0.N, k0_off1 (grid0.coords t) = ![8, 2048] := (by decide +kernel : ∀ t : Fin grid0.N, k0_off1 (grid0.coords t) = ![8, 2048])
theorem off2 : ∀ t : Fin cfg0.N, k0_off2 (grid0.coords t) = ![8, 4096] := (by decide +kernel : ∀ t : Fin grid0.N, k0_off2 (grid0.coords t) = ![8, 4096])
theorem off3 : ∀ t : Fin cfg0.N, k0_off3 (grid0.coords t) = ![8, 3072] := (by decide +kernel : ∀ t : Fin grid0.N, k0_off3 (grid0.coords t) = ![8, 3072])
theorem off4 : ∀ t : Fin cfg0.N, k0_off4 (grid0.coords t) = ![8, 5120] := (by decide +kernel : ∀ t : Fin grid0.N, k0_off4 (grid0.coords t) = ![8, 5120])

theorem ldM_apply (x9 : Vec Ideal S16x6144 .f32) (o : Fin 2 → Nat) (h : ∀ a, o a + S1x1024.size a ≤ S16x6144.size a) (a b : Nat) (ho : o = ![a, b])
    (ha : a < 16) (n : Fin 1024) (hb : b + n.val < 6144) : ldM x9 o h (ix2 0 n) = x9 (ix2 ⟨a, ha⟩ ⟨b + n.val, hb⟩) := by
  subst ho
  pointwise [ldM]

variable (m : (ℓ : Loc nD τ sig) → Buf (Elt Ideal) ℓ) (c : Dev nD)

set_option maxHeartbeats 2000000 in
/-- The row of token `p` of grid point `t`, out of the argument arrays. -/
theorem row_eq (t : Fin cfg0.N) (p : Fin 512) (r : Fin 2048) (hr : r.val = t.val * 512 + p.val) :
    row (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (grid0.coords t) p
      = CtxMixSpec.rowAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) r := by
  have ht : t.val < 4 := t.isLt
  ext k j
  · show iblk m c 0 t (ix2 p k) = m ((c : Thread nD τ).loc main_arg0) (ix2 r k)
    rw [← V_main_arg0 m c]
    blk_ext [iblk, idx0 t]
  · show iblk m c 1 t (ix2 p k) = m ((c : Thread nD τ).loc main_arg1) (ix2 r k)
    rw [← V_main_arg1 m c]
    blk_ext [iblk, idx1 t]
  · show iblk m c 2 t (ix3 0 0 k) = m ((c : Thread nD τ).loc main_arg2) (ix3 0 0 k)
    rw [← V_main_arg2 m c]
    blk_ext [iblk, idx2 t]
  · show iblk m c 3 t (ix2 k p) = m ((c : Thread nD τ).loc main_arg3) (ix2 k r)
    rw [← V_main_arg3 m c]
    blk_ext [iblk, idx3 t]
  · show iblk m c 4 t (ix2 k p) = m ((c : Thread nD τ).loc main_arg4) (ix2 k r)
    rw [← V_main_arg4 m c]
    blk_ext [iblk, idx4 t]
  · show iblk m c 5 t (ix3 0 k j) = m ((c : Thread nD τ).loc main_arg5) (ix3 0 k j)
    rw [← V_main_arg5 m c]
    blk_ext [iblk, idx5 t]
  · show iblk m c 6 t (ix3 0 k j) = m ((c : Thread nD τ).loc main_arg6) (ix3 0 k j)
    rw [← V_main_arg6 m c]
    blk_ext [iblk, idx6 t]
  · show iblk m c 7 t (ix3 0 k j) = m ((c : Thread nD τ).loc main_arg7) (ix3 0 k j)
    rw [← V_main_arg7 m c]
    blk_ext [iblk, idx7 t]
  · show iblk m c 8 t (ix3 0 0 k) = m ((c : Thread nD τ).loc main_arg8) (ix3 0 0 k)
    rw [← V_main_arg8 m c]
    blk_ext [iblk, idx8 t]
  · show ldM (iblk m c 9 t) (k0_off1 (grid0.coords t)) (k0_off1_inb (grid0.coords t)) (ix2 0 k) = m ((c : Thread nD τ).loc main_arg9) (ix2 8 ⟨2048 + k.val, by omega⟩)
    rw [ldM_apply _ _ _ _ _ (off1 t) (by omega) k (by omega)]
    rw [← V_main_arg9 m c]
    blk_ext [iblk, idx9 t]
  · show ldM (iblk m c 9 t) (k0_off3 (grid0.coords t)) (k0_off3_inb (grid0.coords t)) (ix2 0 k) = m ((c : Thread nD τ).loc main_arg9) (ix2 8 ⟨3072 + k.val, by omega⟩)
    rw [ldM_apply _ _ _ _ _ (off3 t) (by omega) k (by omega)]
    rw [← V_main_arg9 m c]
    blk_ext [iblk, idx9 t]
  · show ldM (iblk m c 9 t) (k0_off2 (grid0.coords t)) (k0_off2_inb (grid0.coords t)) (ix2 0 k) = m ((c : Thread nD τ).loc main_arg9) (ix2 8 ⟨4096 + k.val, by omega⟩)
    rw [ldM_apply _ _ _ _ _ (off2 t) (by omega) k (by omega)]
    rw [← V_main_arg9 m c]
    blk_ext [iblk, idx9 t]
  · show ldM (iblk m c 9 t) (k0_off4 (grid0.coords t)) (k0_off4_inb (grid0.coords t)) (ix2 0 k) = m ((c : Thread nD τ).loc main_arg9) (ix2 8 ⟨5120 + k.val, by omega⟩)
    rw [ldM_apply _ _ _ _ _ (off4 t) (by omega) k (by omega)]
    rw [← V_main_arg9 m c]
    blk_ext [iblk, idx9 t]
  · show iblk m c 10 t (ix3 0 k j) = m ((c : Thread nD τ).loc main_arg10) (ix3 0 k j)
    rw [← V_main_arg10 m c]
    blk_ext [iblk, idx10 t]
  · show iblk m c 11 t (ix3 0 k j) = m ((c : Thread nD τ).loc main_arg11) (ix3 0 k j)
    rw [← V_main_arg11 m c]
    blk_ext [iblk, idx11 t]
  · rfl

/-- The block grid point `t` leaves, at token `p` and column `n`. -/
theorem outs_apply (t : Fin cfg0.N) (p : Fin 512) (n : Fin 1024) :
    outsAt0 m c t (ix2 p n) = MixSpec.after (row (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (grid0.coords t) p) n := by
  unfold outsAt0
  rw [out_eq]
  exact block_apply ..

/-- The final array of the kernel's output window. -/
theorem final :
    (dats m 0 c).arrAt 13 cfg0.N = CtxMixSpec.array (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) := by
  refine (dats m 0 c).arrAt_eq_of_covers 13 _ (by decide +kernel) fun t hf y => ?_
  have ht : t.val < 4 := t.isLt
  have hp : (y 0).val < 512 := (y 0).isLt
  blk_simp
  rw [after0_13]
  rw [eq_ix2 y]
  refine (outs_apply m c t (y 0) (y 1)).trans ?_
  rw [row_eq m c t (y 0) ⟨t.val * 512 + (y 0).val, by omega⟩ rfl]
  refine Eq.trans (b := CtxMixSpec.array _ _ _ _ _ _ _ _ _ _ _ _ (ix2 ⟨t.val * 512 + (y 0).val, by omega⟩ (y 1))) rfl (congrArg _ ?_)
  blk_ext [idx13 t]

end Cert.Kernel8Ideal.CtxMix

end
-- ==== Proof.CtxMixReference.lean ====
/-
  The result of the context's reference program at an index: the formula `MixSpec.after` of the token's row.
-/
module

public import proofs.«01_k».proof.Proof.CtxMixSpec
public import proofs.«01_k».proof.Proof.Gen.Reference8Ideal.Read
public import Idealize.ShloMosaic.Lib.Pointwise

@[expose] public section

set_option maxRecDepth 16384

noncomputable section

namespace Cert.Reference8Ideal.CtxMix

open Cert.Reference8Ideal Cert.Reference8Ideal.Gen Cert.Reference8Ideal.Read Idealize.ShloMosaic Idealize.ShloMosaic.TcCoe Idealize.SL.Sem Idealize.ShloMosaic.StableHlo

variable (x0 : (⟨S2048x1024, .f32⟩ : BufTy).Contents (Elt Ideal)) (x1 : (⟨S2048x2048, .bf16⟩ : BufTy).Contents (Elt Ideal))
  (x2 : (⟨S2x1x2048, .f32⟩ : BufTy).Contents (Elt Ideal)) (x3 : (⟨S512x2048, .bf16⟩ : BufTy).Contents (Elt Ideal))
  (x4 : (⟨S1024x2048, .bf16⟩ : BufTy).Contents (Elt Ideal)) (x5 : (⟨S2x512x1024, .bf16⟩ : BufTy).Contents (Elt Ideal))
  (x6 x7 : (⟨S2x1024x1024, .bf16⟩ : BufTy).Contents (Elt Ideal)) (x8 : (⟨S2x1x1024, .f32⟩ : BufTy).Contents (Elt Ideal))
  (x9 : (⟨S16x6144, .f32⟩ : BufTy).Contents (Elt Ideal)) (x10 : (⟨S2x1024x5632, .bf16⟩ : BufTy).Contents (Elt Ideal))
  (x11 : (⟨S2x2816x1024, .bf16⟩ : BufTy).Contents (Elt Ideal))

/-! ## The arguments, as the reference slices them -/

theorem v4_at (n : Fin 1024) : val_main_v4 (F := Ideal) x9 (ix1 n) = x9 (ix2 8 ⟨2048 + n.val, by omega⟩) := by
  pointwise [val_main_v4, val_main_v1, val_main_v0]
theorem v5_at (n : Fin 1024) : val_main_v5 (F := Ideal) x9 (ix1 n) = x9 (ix2 8 ⟨3072 + n.val, by omega⟩) := by
  pointwise [val_main_v5, val_main_v1, val_main_v0]
theorem v6_at (n : Fin 1024) : val_main_v6 (F := Ideal) x9 (ix1 n) = x9 (ix2 8 ⟨4096 + n.val, by omega⟩) := by
  pointwise [val_main_v6, val_main_v1, val_main_v0]
theorem v7_at (n : Fin 1024) : val_main_v7 (F := Ideal) x9 (ix1 n) = x9 (ix2 8 ⟨5120 + n.val, by omega⟩) := by
  pointwise [val_main_v7, val_main_v1, val_main_v0]
theorem v25_at (r : Fin 2048) (j : Fin 2048) : val_main_v25 (F := Ideal) x1 x2 (ix2 r j) = x1 (ix2 r j) + x2 (ix3 0 0 j) := by
  pointwise [val_main_v25, val_main_v8, val_main_v24, val_main_v10, val_main_v9]
theorem v12_at (r : Fin 2048) (k : Fin 512) : val_main_v12 (F := Ideal) x3 (ix2 r k) = x3 (ix2 k r) := by
  pointwise [val_main_v12, val_main_v11]
theorem v14_at (r : Fin 2048) (k : Fin 1024) : val_main_v14 (F := Ideal) x4 (ix2 r k) = x4 (ix2 k r) := by
  pointwise [val_main_v14, val_main_v13]
theorem v17_at (k : Fin 512) (n : Fin 1024) : val_main_v17 (F := Ideal) x5 (ix2 k n) = x5 (ix3 0 k n) := by
  pointwise [val_main_v17, val_main_v16, val_main_v15]
theorem v20_at (k n : Fin 1024) : val_main_v20 (F := Ideal) x6 (ix2 k n) = x6 (ix3 0 k n) := by
  pointwise [val_main_v20, val_main_v19, val_main_v18]
theorem v23_at (k n : Fin 1024) : val_main_v23 (F := Ideal) x7 (ix2 k n) = x7 (ix3 0 k n) := by
  pointwise [val_main_v23, val_main_v22, val_main_v21]
theorem v56_at (r : Fin 2048) (n : Fin 1024) : val_main_v56 (F := Ideal) x8 (ix2 r n) = x8 (ix3 0 0 n) := by
  pointwise [val_main_v56, val_main_v45, val_main_v44]
theorem v68_at (k : Fin 1024) (j : Fin 5632) : val_main_v68 (F := Ideal) x10 (ix2 k j) = x10 (ix3 0 k j) := by
  pointwise [val_main_v68, val_main_v67, val_main_v66]
theorem v71_at (j : Fin 2816) (n : Fin 1024) : val_main_v71 (F := Ideal) x11 (ix2 j n) = x11 (ix3 0 j n) := by
  pointwise [val_main_v71, val_main_v70, val_main_v69]

/-! ## The stages -/

theorem v31_at (r : Fin 2048) (j : Fin 2048) :
    val_main_v31 (F := Ideal) x1 x2 (ix2 r j) = MixSpec.lgt (x1 (ix2 r j) + x2 (ix3 0 0 j)) := by
  rw [← v25_at]
  unfold val_main_v31 val_main_v29 val_main_v27 val_main_v26
  generalize val_main_v25 x1 x2 = y
  pointwise [val_main_v30, val_main_cst_0, val_main_v28, val_main_cst]
  rfl
theorem v34_at (r : Fin 2048) (n : Fin 1024) :
    val_main_v34 (F := Ideal) x3 x5 (ix2 r n) = ∑ k : Fin 512, val_main_v12 (F := Ideal) x3 (ix2 r k) * val_main_v17 (F := Ideal) x5 (ix2 k n) := by
  unfold val_main_v34
  generalize val_main_v12 x3 = y
  generalize val_main_v17 x5 = z
  pointwise []
theorem v36_at (r : Fin 2048) (n : Fin 1024) :
    val_main_v36 (F := Ideal) x4 x6 (ix2 r n) = ∑ k : Fin 1024, val_main_v14 (F := Ideal) x4 (ix2 r k) * val_main_v20 (F := Ideal) x6 (ix2 k n) := by
  unfold val_main_v36
  generalize val_main_v14 x4 = y
  generalize val_main_v20 x6 = z
  pointwise []
theorem v38_at (r : Fin 2048) (n : Fin 1024) :
    val_main_v38 (F := Ideal) x1 x2 x3 x4 x5 x6 (ix2 r n)
      = val_main_v31 (F := Ideal) x1 x2 (ix2 r ⟨n.val, by omega⟩) * val_main_v34 (F := Ideal) x3 x5 (ix2 r n)
        + val_main_v31 (F := Ideal) x1 x2 (ix2 r ⟨1024 + n.val, by omega⟩) * val_main_v36 (F := Ideal) x4 x6 (ix2 r n) := by
  unfold val_main_v38 val_main_v35 val_main_v37 val_main_v32 val_main_v33
  generalize val_main_v31 x1 x2 = y
  generalize val_main_v34 x3 x5 = z
  generalize val_main_v36 x4 x6 = w
  pointwise []
theorem v43_dot (r : Fin 2048) (n : Fin 1024) :
    val_main_v43 (F := Ideal) x0 x1 x2 x3 x4 x5 x6 x7 x9 (ix2 r n)
      = x0 (ix2 r n) + val_main_v4 (F := Ideal) x9 (ix1 n)
        * ∑ k : Fin 1024, val_main_v38 (F := Ideal) x1 x2 x3 x4 x5 x6 (ix2 r k) * val_main_v23 (F := Ideal) x7 (ix2 k n) := by
  unfold val_main_v43 val_main_v42 val_main_v41 val_main_v40 val_main_v39
  generalize val_main_v4 x9 = z
  generalize val_main_v38 x1 x2 x3 x4 x5 x6 = w
  generalize val_main_v23 x7 = v
  pointwise []
theorem v43_at (r : Fin 2048) (n : Fin 1024) :
    val_main_v43 (F := Ideal) x0 x1 x2 x3 x4 x5 x6 x7 x9 (ix2 r n) = MixSpec.stream (CtxMixSpec.rowAt x0 x1 x2 x3 x4 x5 x6 x7 x8 x9 x10 x11 r) n := by
  rw [v43_dot]
  simp only [v4_at, v38_at, v31_at, v34_at, v36_at, v12_at, v14_at, v17_at, v20_at, v23_at]
  rfl
theorem v55_at (r : Fin 2048) (n : Fin 1024) :
    val_main_v55 (F := Ideal) x0 x1 x2 x3 x4 x5 x6 x7 x9 (ix2 r n) = MixSpec.rms (fun k => val_main_v43 (F := Ideal) x0 x1 x2 x3 x4 x5 x6 x7 x9 (ix2 r k)) n := by
  unfold val_main_v55 val_main_v54 val_main_v53 val_main_v52 val_main_v50 val_main_v48 val_main_v47 val_main_v46
  generalize val_main_v43 x0 x1 x2 x3 x4 x5 x6 x7 x9 = y
  pointwise [val_main_v49, val_main_v51, val_main_cst_1, val_main_cst_2, val_main_cst_3]
  rfl
theorem v65_mod (r : Fin 2048) (n : Fin 1024) :
    val_main_v65 (F := Ideal) x0 x1 x2 x3 x4 x5 x6 x7 x8 x9 (ix2 r n)
      = val_main_v55 (F := Ideal) x0 x1 x2 x3 x4 x5 x6 x7 x9 (ix2 r n) * val_main_v56 (F := Ideal) x8 (ix2 r n)
        * (1 + val_main_v6 (F := Ideal) x9 (ix1 n)) + val_main_v5 (F := Ideal) x9 (ix1 n) := by
  unfold val_main_v65 val_main_v64 val_main_v63 val_main_v62 val_main_v61 val_main_v60 val_main_v59 val_main_v57
  generalize val_main_v55 x0 x1 x2 x3 x4 x5 x6 x7 x9 = y
  generalize val_main_v56 x8 = z
  generalize val_main_v6 x9 = w
  generalize val_main_v5 x9 = v
  pointwise [val_main_v58, val_main_cst_4]
theorem v65_at (r : Fin 2048) (n : Fin 1024) :
    val_main_v65 (F := Ideal) x0 x1 x2 x3 x4 x5 x6 x7 x8 x9 (ix2 r n) = MixSpec.input (CtxMixSpec.rowAt x0 x1 x2 x3 x4 x5 x6 x7 x8 x9 x10 x11 r) n := by
  rw [v65_mod, v55_at]
  simp only [v43_at x0 x1 x2 x3 x4 x5 x6 x7 x8 x9 x10 x11, v56_at, v6_at, v5_at]
  rfl
theorem v72_dot (r : Fin 2048) (j : Fin 5632) :
    val_main_v72 (F := Ideal) x0 x1 x2 x3 x4 x5 x6 x7 x8 x9 x10 (ix2 r j)
      = ∑ k : Fin 1024, val_main_v65 (F := Ideal) x0 x1 x2 x3 x4 x5 x6 x7 x8 x9 (ix2 r k) * val_main_v68 (F := Ideal) x10 (ix2 k j) := by
  unfold val_main_v72
  generalize val_main_v65 x0 x1 x2 x3 x4 x5 x6 x7 x8 x9 = y
  generalize val_main_v68 x10 = z
  pointwise []
theorem v72_at (r : Fin 2048) (j : Fin 5632) :
    val_main_v72 (F := Ideal) x0 x1 x2 x3 x4 x5 x6 x7 x8 x9 x10 (ix2 r j) = MixSpec.wide (CtxMixSpec.rowAt x0 x1 x2 x3 x4 x5 x6 x7 x8 x9 x10 x11 r) j := by
  rw [v72_dot]
  simp only [v65_at x0 x1 x2 x3 x4 x5 x6 x7 x8 x9 x10 x11, v68_at]
  rfl
theorem v76_at (r : Fin 2048) (j : Fin 2816) :
    val_main_v76 (F := Ideal) x0 x1 x2 x3 x4 x5 x6 x7 x8 x9 x10 (ix2 r j) = MixSpec.hidden (CtxMixSpec.rowAt x0 x1 x2 x3 x4 x5 x6 x7 x8 x9 x10 x11 r) j := by
  unfold MixSpec.hidden
  rw [← v72_at, ← v72_at]
  unfold val_main_v76 val_main_v75 val_main_call0_v5 val_main_call0_v3 val_main_call0_v1 val_main_call0_v0 val_main_v73 val_main_v74
  generalize val_main_v72 x0 x1 x2 x3 x4 x5 x6 x7 x8 x9 x10 = y
  pointwise [val_main_call0_v4, val_main_call0_cst_0, val_main_call0_v2, val_main_call0_cst]
  rfl
theorem v81_dot (r : Fin 2048) (n : Fin 1024) :
    val_main_v81 (F := Ideal) x0 x1 x2 x3 x4 x5 x6 x7 x8 x9 x10 x11 (ix2 r n)
      = val_main_v43 (F := Ideal) x0 x1 x2 x3 x4 x5 x6 x7 x9 (ix2 r n) + val_main_v7 (F := Ideal) x9 (ix1 n)
        * ∑ j : Fin 2816, val_main_v76 (F := Ideal) x0 x1 x2 x3 x4 x5 x6 x7 x8 x9 x10 (ix2 r j) * val_main_v71 (F := Ideal) x11 (ix2 j n) := by
  unfold val_main_v81 val_main_v80 val_main_v79 val_main_v78 val_main_v77
  generalize val_main_v43 x0 x1 x2 x3 x4 x5 x6 x7 x9 = y
  generalize val_main_v7 x9 = z
  generalize val_main_v76 x0 x1 x2 x3 x4 x5 x6 x7 x8 x9 x10 = w
  generalize val_main_v71 x11 = v
  pointwise []
theorem v81_at (r : Fin 2048) (n : Fin 1024) :
    val_main_v81 (F := Ideal) x0 x1 x2 x3 x4 x5 x6 x7 x8 x9 x10 x11 (ix2 r n) = MixSpec.after (CtxMixSpec.rowAt x0 x1 x2 x3 x4 x5 x6 x7 x8 x9 x10 x11 r) n := by
  rw [v81_dot]
  simp only [v43_at x0 x1 x2 x3 x4 x5 x6 x7 x8 x9 x10 x11, v76_at x0 x1 x2 x3 x4 x5 x6 x7 x8 x9 x10 x11, v7_at, v71_at]
  rfl

/-- The reference's result is the formula's array. -/
theorem result_eq : val_main_v81 (F := Ideal) x0 x1 x2 x3 x4 x5 x6 x7 x8 x9 x10 x11 = CtxMixSpec.array x0 x1 x2 x3 x4 x5 x6 x7 x8 x9 x10 x11 := by
  funext y
  exact (congrArg _ (eq_ix2 y)).trans (v81_at x0 x1 x2 x3 x4 x5 x6 x7 x8 x9 x10 x11 (y 0) (y 1))

end Cert.Reference8Ideal.CtxMix

end
-- ==== Proof.CtxMixClaims.lean ====
/-
  The claims of the context's gated mix and feed-forward call: the reference's frame, and the value claim.
-/
module

public import proofs.«01_k».proof.Defs
public import proofs.«01_k».proof.Proof.CtxMixArray
public import proofs.«01_k».proof.Proof.CtxMixReference
public import proofs.«01_k».proof.Proof.Gen.Reference8Ideal.Run

@[expose] public section

noncomputable section

namespace Cert.CtxMixClaims

open Idealize.ShloMosaic Idealize.SL.Sem

/-- The reference runs, ends with its arguments unchanged and owns no semaphore. -/
theorem frame_reference : Cert.quiescent_Reference8Ideal := fun m ρ _ => (θ_run Cert.Reference8Ideal.defs _ _).mono
  (fun r h => And.intro (fun c => (h c).2) (Idealize.ShloMosaic.sem_eq_zero_of_no_sems (by decide) r.2))
  (Cert.Reference8Ideal.Value.run (F := Ideal) m ρ)

/-- From memories agreeing on the arguments, the kernel and the reference end with the same array: the formula of the
    arguments. -/
theorem algebraic : Cert.algebraic_Kernel8Ideal_Reference8Ideal := by
  intro m ρ m' ρ' hpre hag
  refine ⟨fun c => CtxMixSpec.array (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4))
      (m ((c.tc : Thread Cert.Kernel8Ideal.nD Cert.Kernel8Ideal.τ).loc Cert.Kernel8Ideal.main_arg5))
      (m ((c.tc : Thread Cert.Kernel8Ideal.nD Cert.Kernel8Ideal.τ).loc Cert.Kernel8Ideal.main_arg6))
      (m ((c.tc : Thread Cert.Kernel8Ideal.nD Cert.Kernel8Ideal.τ).loc Cert.Kernel8Ideal.main_arg7))
      (m ((c.tc : Thread Cert.Kernel8Ideal.nD Cert.Kernel8Ideal.τ).loc Cert.Kernel8Ideal.main_arg8))
      (m ((c.tc : Thread Cert.Kernel8Ideal.nD Cert.Kernel8Ideal.τ).loc Cert.Kernel8Ideal.main_arg9))
      (m ((c.tc : Thread Cert.Kernel8Ideal.nD Cert.Kernel8Ideal.τ).loc Cert.Kernel8Ideal.main_arg10))
      (m ((c.tc : Thread Cert.Kernel8Ideal.nD Cert.Kernel8Ideal.τ).loc Cert.Kernel8Ideal.main_arg11)), ?_, ?_⟩
  · exact (θ_run Cert.Kernel8Ideal.defs _ _).mono (fun _ h c => ⟨(h c).1.trans (Cert.Kernel8Ideal.CtxMix.final m c), (h c).2⟩)
      (Cert.Kernel8Ideal.Value.run_blocks m ρ)
  · refine (θ_run Cert.Reference8Ideal.defs _ _).mono (fun _ h c => ⟨(h c).1.trans ?_, (h c).2⟩) (Cert.Reference8Ideal.Value.run m' ρ')
    obtain ⟨h0, h1, h2, h3, h4, h5, h6, h7, h8, h9, h10, h11, _⟩ := hag c
    beta_reduce
    rw [← h0, ← h1, ← h2, ← h3, ← h4, ← h5, ← h6, ← h7, ← h8, ← h9, ← h10, ← h11]
    exact (Cert.Reference8Ideal.Read.val_main_v81_eq _ _).trans (Cert.Reference8Ideal.CtxMix.result_eq ..)

end Cert.CtxMixClaims

end
-- ==== Proof.CtxProjUnit.lean ====
/-
  One block of 512 tokens of the context's input projection, as functions of the loaded blocks. The body normalises the stream,
  scales and shifts it, and multiplies it with three weights; the third product is stored transposed. `out6_eq`, `out7_eq`
  and `out8_eq` say that these are what the body stores.
-/
module

public import proofs.«01_k».proof.Proof.Gen.Kernel9Ideal.Frame
public import Idealize.ShloMosaic.Lib.Pipeline.Value

@[expose] public section

set_option maxRecDepth 16384

noncomputable section

namespace Cert.Kernel9Ideal.CtxProj

open Cert.Kernel9Ideal Cert.Kernel9Ideal.Gen Idealize.ShloMosaic Idealize.ShloMosaic.TcCoe Idealize.SL.Sem

variable {F : FTy → Type} [FloatOps F]

/-- Each row over its root mean square. -/
def normed (x : FVec F S512x1024 .f32) : FVec F S512x1024 .f32 :=
  mulf x (broadcastTo S512x1024 (rsqrt (addf (divf (shapeCast S512x1
      (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The normalised stream times its gain, scaled and shifted. -/
def modulated (x : FVec F S512x1024 .f32) (g sc sh : Vec F S1x1024 .f32) : FVec F S512x1024 .bf16 :=
  truncf .bf16 (addf (mulf (mulf (normed x) (broadcastTo S512x1024 (shapeCast S1x1024 g shapeCasts_S1x1024_S1x1024) broadcasts_S1x1024_S512x1024))
      (broadcastTo S512x1024 (addf (broadcast S1x1024 (Scalar.ofBits .f32 0x3F800000#32)) sc) broadcasts_S1x1024_S512x1024))
    (broadcastTo S512x1024 sh broadcasts_S1x1024_S512x1024)) bitsLt_bf16_f32

/-- The attention's low-rank queries, keys and values. -/
def toQkv (a : FVec F S512x1024 .bf16) (w : Vec F S1x1024x896 .bf16) : FVec F S512x896 .bf16 :=
  truncf .bf16 (matmul dot_S512x1024_S1024x896_S512x896_1_0_0_1_n_n none a (shapeCast S1024x896 w shapeCasts_S1x1024x896_S1024x896)
    (constant S512x896 .f32 0x00000000#32)) bitsLt_bf16_f32

/-- The gates. -/
def toGate (a : FVec F S512x1024 .bf16) (w : Vec F S1x1024x2048 .bf16) : FVec F S512x2048 .bf16 :=
  truncf .bf16 (matmul dot_S512x1024_S1024x2048_S512x2048_1_0_0_1_n_n none a (shapeCast S1024x2048 w shapeCasts_S1x1024x2048_S1024x2048)
    (constant S512x2048 .f32 0x00000000#32)) bitsLt_bf16_f32

/-- The Hyena mixer's input, channels first. -/
def toHyena (a : FVec F S512x1024 .bf16) (w : Vec F S1x1536x1024 .bf16) : FVec F S1536x512 .f32 :=
  matmul dot_S1536x1024_S512x1024_S1536x512_1_1_0_0_n_n none (shapeCast S1536x1024 w shapeCasts_S1x1536x1024_S1536x1024) a
    (constant S1536x512 .f32 0x00000000#32)

variable (x0 : Vec F S512x1024 .f32) (x1 : Vec F S1x1024 .f32) (x2 : Vec F S16x6144 .f32) (x3 : Vec F S1x1024x896 .bf16) (x4 : Vec F S1x1024x2048 .bf16)
  (x5 : Vec F S1x1536x1024 .bf16)

/-- The row of modulations at an offset. -/
def ldM (o : Fin 2 → Nat) (h : ∀ a, o a + S1x1024.size a ≤ S16x6144.size a) : Vec F S1x1024 .f32 :=
  View.ld x2 (Rect.unit (s := S16x6144) o S1x1024.size h)

/-- What the three weights are multiplied with at grid point `i`. -/
def input (i : grid0.Coords) : FVec F S512x1024 .bf16 :=
  modulated x0 x1 (ldM x2 (k0_off1 i) (k0_off1_inb i)) (ldM x2 (k0_off2 i) (k0_off2_inb i))

theorem zero2 (a : Fin 2) : (![0, 0] : Fin 2 → Nat) a = 0 := by revert a; decide
theorem zero3 (a : Fin 3) : (![0, 0, 0] : Fin 3 → Nat) a = 0 := by revert a; decide

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S16x6144 .f32) (harg3 : arg3.IsWhole) (arg4 : Memref sig .tc .vmem S1x1024x896 .bf16) (harg4 : arg4.IsWhole)
  (arg5 : Memref sig .tc .vmem S1x1024x2048 .bf16) (harg5 : arg5.IsWhole) (arg6 : Memref sig .tc .vmem S1x1536x1024 .bf16) (harg6 : arg6.IsWhole)
  (arg7 : Memref sig .tc .vmem S512x896 .bf16) (harg7 : arg7.IsWhole) (arg8 : Memref sig .tc .vmem S512x2048 .bf16) (harg8 : arg8.IsWhole)
  (arg9 : Memref sig .tc .vmem S1536x512 .f32) (harg9 : arg9.IsWhole)

/-- What the body stores first is the low-rank queries, keys and values. -/
theorem out6_eq : out0_A_6 c i arg1 harg1 arg2 harg2 arg3 harg3 arg4 harg4 arg5 harg5 arg6 harg6 arg7 harg7 arg8 harg8 arg9 harg9 x0 x1 x2 x3 x4 x5
    = toQkv (input x0 x1 x2 i) x3 := by
  unfold out0_A_6
  rw [View.read_writes_junk_eq_canon]
  unfold kernelRun0_A
  dsimp only
  sl_unfold_words
  rw [View.canon_unit_zero (S := S512x896) (funext zero2)]
  simp only [View.readAt_eq_ld, harg1.read_unread, harg2.read_unread, harg3.read_unread, harg4.read_unread]
  simp only [View.ld_unit_zero (S := S512x1024) (funext zero2), View.ld_unit_zero (S := S1x1024) (funext zero2), View.ld_unit_zero (S := S1x1024x896) (funext zero3)]
  rfl

/-- What it stores second is the gates. -/
theorem out7_eq : out0_A_7 c i arg1 harg1 arg2 harg2 arg3 harg3 arg4 harg4 arg5 harg5 arg6 harg6 arg7 harg7 arg8 harg8 arg9 harg9 x0 x1 x2 x3 x4 x5
    = toGate (input x0 x1 x2 i) x4 := by
  unfold out0_A_7
  rw [View.read_writes_junk_eq_canon]
  unfold kernelRun0_A
  dsimp only
  sl_unfold_words
  rw [View.canon_unit_zero (S := S512x2048) (funext zero2)]
  simp only [View.readAt_eq_ld, harg1.read_unread, harg2.read_unread, harg3.read_unread, harg5.read_unread]
  simp only [View.ld_unit_zero (S := S512x1024) (funext zero2), View.ld_unit_zero (S := S1x1024) (funext zero2), View.ld_unit_zero (S := S1x1024x2048) (funext zero3)]
  rfl

/-- What it stores third is the Hyena mixer's input. -/
theorem out8_eq : out0_A_8 c i arg1 harg1 arg2 harg2 arg3 harg3 arg4 harg4 arg5 harg5 arg6 harg6 arg7 harg7 arg8 harg8 arg9 harg9 x0 x1 x2 x3 x4 x5
    = toHyena (input x0 x1 x2 i) x5 := by
  unfold out0_A_8
  rw [View.read_writes_junk_eq_canon]
  unfold kernelRun0_A
  dsimp only
  sl_unfold_words
  rw [View.canon_unit_zero (S := S1536x512) (funext zero2)]
  simp only [View.readAt_eq_ld, harg1.read_unread, harg2.read_unread, harg3.read_unread, harg6.read_unread]
  simp only [View.ld_unit_zero (S := S512x1024) (funext zero2), View.ld_unit_zero (S := S1x1024) (funext zero2), View.ld_unit_zero (S := S1x1536x1024) (funext zero3)]
  rfl

end Cert.Kernel9Ideal.CtxProj

end
-- ==== Proof.CtxProjRead.lean ====
/-
  What one block of the context's input projection holds over the extended reals.
-/
module

public import proofs.«01_k».proof.Proof.CtxProjUnit
public import proofs.«01_k».proof.Proof.ProjSpec
public import Idealize.ShloMosaic.Lib.Pointwise

@[expose] public section

set_option maxRecDepth 16384

noncomputable section

namespace Cert.Kernel9Ideal.CtxProj

open Cert.Kernel9Ideal Cert.Kernel9Ideal.Gen Idealize.ShloMosaic Idealize.ShloMosaic.TcCoe Idealize.SL.Sem

theorem normed_apply (x : FVec Ideal S512x1024 .f32) (p : Fin 512) (n : Fin 1024) :
    normed (F := Ideal) x (ix2 p n) = MixSpec.rms (fun k => x (ix2 p k)) n := by
  pointwise [normed]
  rfl
theorem modulated_apply (x : FVec Ideal S512x1024 .f32) (g sc sh : Vec Ideal S1x1024 .f32) (p : Fin 512) (n : Fin 1024) :
    modulated (F := Ideal) x g sc sh (ix2 p n)
      = ProjSpec.input (fun k => x (ix2 p k)) (fun k => g (ix2 0 k)) (fun k => sc (ix2 0 k)) (fun k => sh (ix2 0 k)) n := by
  unfold ProjSpec.input
  rw [← normed_apply]
  unfold modulated
  generalize normed x = y
  pointwise []
theorem toQkv_apply (a : FVec Ideal S512x1024 .bf16) (w : Vec Ideal S1x1024x896 .bf16) (p : Fin 512) (j : Fin 896) :
    toQkv (F := Ideal) a w (ix2 p j) = ∑ k : Fin 1024, a (ix2 p k) * w (ix3 0 k j) := by
  pointwise [toQkv]
theorem toGate_apply (a : FVec Ideal S512x1024 .bf16) (w : Vec Ideal S1x1024x2048 .bf16) (p : Fin 512) (j : Fin 2048) :
    toGate (F := Ideal) a w (ix2 p j) = ∑ k : Fin 1024, a (ix2 p k) * w (ix3 0 k j) := by
  pointwise [toGate]
theorem toHyena_apply (a : FVec Ideal S512x1024 .bf16) (w : Vec Ideal S1x1536x1024 .bf16) (r : Fin 1536) (p : Fin 512) :
    toHyena (F := Ideal) a w (ix2 r p) = ∑ k : Fin 1024, a (ix2 p k) * w (ix3 0 r k) := by
  refine Eq.trans (b := ∑ k : Fin 1024, w (ix3 0 r k) * a (ix2 p k)) ?_ (Finset.sum_congr rfl fun k _ => mul_comm _ _)
  pointwise [toHyena]

end Cert.Kernel9Ideal.CtxProj

end
-- ==== Proof.CtxProjSpec.lean ====
/-
  The input projection of the context's tokens, as formulas over the extended reals: the products of the normalised and
  modulated stream of a token with the three weights of the first layer.
-/
module

public import proofs.«01_k».proof.Proof.ProjSpec

@[expose] public section

noncomputable section

namespace Cert.CtxProjSpec

open Idealize.ShloMosaic

variable (h : (⟨2, ![2048, 1024]⟩ : Shape).Idx → EReal) (g : (⟨1, ![1024]⟩ : Shape).Idx → EReal) (mods : (⟨2, ![16, 6144]⟩ : Shape).Idx → EReal)
  (wq : (⟨3, ![2, 1024, 896]⟩ : Shape).Idx → EReal) (wg : (⟨3, ![2, 1024, 2048]⟩ : Shape).Idx → EReal) (wh : (⟨3, ![2, 1536, 1024]⟩ : Shape).Idx → EReal)

/-- What the weights are multiplied with, for the context's token `r`. -/
def inputRow (r : Fin 2048) : Fin 1024 → EReal :=
  ProjSpec.input (fun n => h (ix2 r n)) (fun n => g (ix1 n)) (fun n => mods (ix2 8 ⟨1024 + n.val, by omega⟩))
    (fun n => mods (ix2 8 ⟨n.val, by omega⟩))

/-- The low-rank queries, keys and values. -/
def qkv (y : (⟨2, ![2048, 896]⟩ : Shape).Idx) : EReal := ∑ k, inputRow h g mods (y 0) k * wq (ix3 0 k (y 1))

/-- The gates. -/
def gate (y : (⟨2, ![2048, 2048]⟩ : Shape).Idx) : EReal := ∑ k, inputRow h g mods (y 0) k * wg (ix3 0 k (y 1))

/-- The Hyena mixer's input, channels first. -/
def hyena (y : (⟨2, ![1536, 2048]⟩ : Shape).Idx) : EReal := ∑ k, inputRow h g mods (y 1) k * wh (ix3 0 (y 0) k)

end Cert.CtxProjSpec

end
-- ==== Proof.CtxProjArray.lean ====
/-
  The three arrays the context's input projection leaves: those of `CtxProjSpec`, at every index.
-/
module

public import proofs.«01_k».proof.Proof.CtxProjRead
public import proofs.«01_k».proof.Proof.CtxProjSpec
public import proofs.«01_k».proof.Proof.Gen.Kernel9Ideal.Value
public import Idealize.ShloMosaic.Lib.Pipeline.ValueKit

@[expose] public section

set_option maxRecDepth 16384

noncomputable section

namespace Cert.Kernel9Ideal.CtxProj

open Cert.Kernel9Ideal Cert.Kernel9Ideal.Gen Idealize.ShloMosaic Idealize.ShloMosaic.TcCoe Idealize.SL.Sem
open Idealize.ShloMosaic.Pipeline (Dat)

/-- Which blocks grid point `t` reads and writes: the tokens `t` of the stream and the results, the first layer of the weights. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, t.val] := (by decide +kernel : ∀ t : Fin grid0.N, win0_8.index t = ![0, t.val])

/-- Where the modulations of grid point `t` lie: in the context's row, the ninth. -/
theorem off1 : ∀ t : Fin cfg0.N, k0_off1 (grid0.coords t) = ![8, 1024] := (by decide +kernel : ∀ t : Fin grid0.N, k0_off1 (grid0.coords t) = ![8, 1024])
theorem off2 : ∀ t : Fin cfg0.N, k0_off2 (grid0.coords t) = ![8, 0] := (by decide +kernel : ∀ t : Fin grid0.N, k0_off2 (grid0.coords t) = ![8, 0])

theorem ldM_apply (x2 : Vec Ideal S16x6144 .f32) (o : Fin 2 → Nat) (h : ∀ a, o a + S1x1024.size a ≤ S16x6144.size a) (a b : Nat) (ho : o = ![a, b])
    (ha : a < 16) (n : Fin 1024) (hb : b + n.val < 6144) : ldM x2 o h (ix2 0 n) = x2 (ix2 ⟨a, ha⟩ ⟨b + n.val, hb⟩) := by
  subst ho
  pointwise [ldM]

variable (m : (ℓ : Loc nD τ sig) → Buf (Elt Ideal) ℓ) (c : Dev nD)

/-- The norm's gain reaches the kernel as one row. -/
theorem gain (n : Fin 1024) : V m c main_v0 (ix2 0 n) = m ((c : Thread nD τ).loc main_arg1) (ix1 n) := by
  have e : V m c main_v0 = shapeCast S1x1024 (m ((c : Thread nD τ).loc main_arg1)) shapeCasts_S1024_S1x1024 := by
    simp only [V, hostOps0, StableHlo.after_cons, StableHlo.after_nil]
    exact StableHlo.reshape_result main_arg1 main_v0 rfl shapeCasts_S1024_S1x1024 _ _ _
  rw [e]
  pointwise []

/-- What the weights are multiplied with at token `p` of grid point `t`, out of the argument arrays. -/
theorem input_eq (t : Fin cfg0.N) (p : Fin 512) (k : Fin 1024) (r : Fin 2048) (hr : r.val = t.val * 512 + p.val) :
    input (iblk m c 0 t) (iblk m c 1 t) (iblk m c 2 t) (grid0.coords t) (ix2 p k)
      = CtxProjSpec.inputRow (m ((c : Thread nD τ).loc main_arg0)) (m ((c : Thread nD τ).loc main_arg1)) (m ((c : Thread nD τ).loc main_arg2)) r k := by
  have ht : t.val < 4 := t.isLt
  unfold input
  rw [modulated_apply]
  unfold CtxProjSpec.inputRow
  congr 1 <;> funext n
  · rw [← V_main_arg0 m c]
    blk_ext [iblk, idx0 t]
  · rw [← gain m c]
    blk_ext [iblk, idx1 t]
  · rw [ldM_apply _ _ _ _ _ (off1 t) (by omega) n (by omega)]
    rw [← V_main_arg2 m c]
    blk_ext [iblk, idx2 t]
  · rw [ldM_apply _ _ _ _ _ (off2 t) (by omega) n (by omega)]
    rw [← V_main_arg2 m c]
    blk_ext [iblk, idx2 t]

/-- The three blocks grid point `t` leaves, with `r` the row of the block's token `p`. -/
theorem outs6_apply (t : Fin cfg0.N) (p : Fin 512) (j : Fin 896) (r : Fin 2048) (hr : r.val = t.val * 512 + p.val) :
    (outsAt0 m c t).1 (ix2 p j) = CtxProjSpec.qkv (m ((c : Thread nD τ).loc main_arg0)) (m ((c : Thread nD τ).loc main_arg1)) (m ((c : Thread nD τ).loc main_arg2))
      (m ((c : Thread nD τ).loc main_arg3)) (ix2 r j) := by
  unfold outsAt0
  dsimp only
  rw [out6_eq, toQkv_apply]
  refine Finset.sum_congr rfl fun k _ => congrArg₂ _ (input_eq m c t p k r hr) ?_
  show iblk m c 3 t (ix3 0 k j) = m ((c : Thread nD τ).loc main_arg3) (ix3 0 k j)
  rw [← V_main_arg3 m c]
  blk_ext [iblk, idx3 t]
theorem outs7_apply (t : Fin cfg0.N) (p : Fin 512) (j : Fin 2048) (r : Fin 2048) (hr : r.val = t.val * 512 + p.val) :
    (outsAt0 m c t).2.1 (ix2 p j) = CtxProjSpec.gate (m ((c : Thread nD τ).loc main_arg0)) (m ((c : Thread nD τ).loc main_arg1)) (m ((c : Thread nD τ).loc main_arg2))
      (m ((c : Thread nD τ).loc main_arg4)) (ix2 r j) := by
  unfold outsAt0
  dsimp only
  rw [out7_eq, toGate_apply]
  refine Finset.sum_congr rfl fun k _ => congrArg₂ _ (input_eq m c t p k r hr) ?_
  show iblk m c 4 t (ix3 0 k j) = m ((c : Thread nD τ).loc main_arg4) (ix3 0 k j)
  rw [← V_main_arg4 m c]
  blk_ext [iblk, idx4 t]
theorem outs8_apply (t : Fin cfg0.N) (p : Fin 512) (j : Fin 1536) (r : Fin 2048) (hr : r.val = t.val * 512 + p.val) :
    (outsAt0 m c t).2.2 (ix2 j p) = CtxProjSpec.hyena (m ((c : Thread nD τ).loc main_arg0)) (m ((c : Thread nD τ).loc main_arg1)) (m ((c : Thread nD τ).loc main_arg2))
      (m ((c : Thread nD τ).loc main_arg5)) (ix2 j r) := by
  unfold outsAt0
  dsimp only
  rw [out8_eq, toHyena_apply]
  refine Finset.sum_congr rfl fun k _ => congrArg₂ _ (input_eq m c t p k r hr) ?_
  show iblk m c 5 t (ix3 0 j k) = m ((c : Thread nD τ).loc main_arg5) (ix3 0 j k)
  rw [← V_main_arg5 m c]
  blk_ext [iblk, idx5 t]

/-- The final arrays of the three output windows. -/
theorem final6 :
    (dats m 0 c).arrAt 6 cfg0.N = CtxProjSpec.qkv (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  have ht : t.val < 4 := t.isLt
  have hp : (y 0).val < 512 := (y 0).isLt
  blk_simp
  rw [after0_6]
  rw [eq_ix2 y]
  refine (outs6_apply m c t (y 0) (y 1) ⟨t.val * 512 + (y 0).val, by omega⟩ rfl).trans (congrArg _ ?_)
  blk_ext [idx6 t]
theorem final7 :
    (dats m 0 c).arrAt 7 cfg0.N = CtxProjSpec.gate (m ((c : Thread nD τ).loc main_arg0)) (m ((c : Thread nD τ).loc main_arg1)) (m ((c : Thread nD τ).loc main_arg2))
      (m ((c : Thread nD τ).loc main_arg4)) := by
  refine (dats m 0 c).arrAt_eq_of_covers 7 _ (by decide +kernel) fun t hf y => ?_
  have ht : t.val < 4 := t.isLt
  have hp : (y 0).val < 512 := (y 0).isLt
  blk_simp
  rw [after0_7]
  rw [eq_ix2 y]
  refine (outs7_apply m c t (y 0) (y 1) ⟨t.val * 512 + (y 0).val, by omega⟩ rfl).trans (congrArg _ ?_)
  blk_ext [idx7 t]
theorem final8 :
    (dats m 0 c).arrAt 8 cfg0.N = CtxProjSpec.hyena (m ((c : Thread nD τ).loc main_arg0)) (m ((c : Thread nD τ).loc main_arg1)) (m ((c : Thread nD τ).loc main_arg2))
      (m ((c : Thread nD τ).loc main_arg5)) := by
  refine (dats m 0 c).arrAt_eq_of_covers 8 _ (by decide +kernel) fun t hf y => ?_
  have ht : t.val < 4 := t.isLt
  have hp : (y 1).val < 512 := (y 1).isLt
  blk_simp
  rw [after0_8]
  rw [eq_ix2 y]
  refine (outs8_apply m c t (y 1) (y 0) ⟨t.val * 512 + (y 1).val, by omega⟩ rfl).trans (congrArg _ ?_)
  blk_ext [idx8 t]

end Cert.Kernel9Ideal.CtxProj

end
-- ==== Proof.CtxProjReference.lean ====
/-
  The context's reference program's three results at an index: the sums of `CtxProjSpec`.
-/
module

public import proofs.«01_k».proof.Proof.CtxProjSpec
public import proofs.«01_k».proof.Proof.Gen.Reference9Ideal.Read
public import Idealize.ShloMosaic.Lib.Pointwise

@[expose] public section

set_option maxRecDepth 16384

noncomputable section

namespace Cert.Reference9Ideal.CtxProj

open Cert.Reference9Ideal Cert.Reference9Ideal.Gen Cert.Reference9Ideal.Read Idealize.ShloMosaic Idealize.ShloMosaic.TcCoe Idealize.SL.Sem Idealize.ShloMosaic.StableHlo

variable (x0 : (⟨S2048x1024, .f32⟩ : BufTy).Contents (Elt Ideal)) (x1 : (⟨S1024, .f32⟩ : BufTy).Contents (Elt Ideal))
  (x2 : (⟨S16x6144, .f32⟩ : BufTy).Contents (Elt Ideal)) (x3 : (⟨S2x1024x896, .bf16⟩ : BufTy).Contents (Elt Ideal))
  (x4 : (⟨S2x1024x2048, .bf16⟩ : BufTy).Contents (Elt Ideal)) (x5 : (⟨S2x1536x1024, .bf16⟩ : BufTy).Contents (Elt Ideal))

/-! ## The arguments, as the reference slices them -/

theorem v2_at (n : Fin 1024) : val_main_v2 (F := Ideal) x2 (ix1 n) = x2 (ix2 8 ⟨n.val, by omega⟩) := by
  pointwise [val_main_v2, val_main_v1, val_main_v0]
theorem v3_at (n : Fin 1024) : val_main_v3 (F := Ideal) x2 (ix1 n) = x2 (ix2 8 ⟨1024 + n.val, by omega⟩) := by
  pointwise [val_main_v3, val_main_v1, val_main_v0]
theorem v31_at (k : Fin 1024) (j : Fin 896) : val_main_v31 (F := Ideal) x3 (ix2 k j) = x3 (ix3 0 k j) := by
  pointwise [val_main_v31, val_main_v30, val_main_v29]
theorem v36_at (k : Fin 1024) (j : Fin 2048) : val_main_v36 (F := Ideal) x4 (ix2 k j) = x4 (ix3 0 k j) := by
  pointwise [val_main_v36, val_main_v35, val_main_v34]
theorem v42_at (k : Fin 1024) (j : Fin 1536) : val_main_v42 (F := Ideal) x5 (ix2 k j) = x5 (ix3 0 j k) := by
  pointwise [val_main_v42, val_main_v41, val_main_v40, val_main_v39]

/-! ## The stages -/

theorem v17_at (r : Fin 2048) (n : Fin 1024) : val_main_v17 (F := Ideal) x0 (ix2 r n) = MixSpec.rms (fun k => x0 (ix2 r k)) n := by
  unfold val_main_v17 val_main_v16 val_main_v15 val_main_v14 val_main_v12 val_main_v10 val_main_v9 val_main_v8
  pointwise [val_main_v11, val_main_v13, val_main_cst, val_main_cst_0, val_main_cst_1]
  rfl
theorem v28_mod (r : Fin 2048) (n : Fin 1024) :
    val_main_v28 (F := Ideal) x0 x1 x2 (ix2 r n)
      = val_main_v17 (F := Ideal) x0 (ix2 r n) * x1 (ix1 n) * (1 + val_main_v3 (F := Ideal) x2 (ix1 n)) + val_main_v2 (F := Ideal) x2 (ix1 n) := by
  unfold val_main_v28 val_main_v27 val_main_v26 val_main_v25 val_main_v24 val_main_v23 val_main_v22 val_main_v20
  generalize val_main_v17 x0 = y
  generalize val_main_v3 x2 = w
  generalize val_main_v2 x2 = v
  pointwise [val_main_v19, val_main_v18, val_main_v21, val_main_cst_2]
theorem v28_at (r : Fin 2048) (n : Fin 1024) : val_main_v28 (F := Ideal) x0 x1 x2 (ix2 r n) = CtxProjSpec.inputRow x0 x1 x2 r n := by
  rw [v28_mod, v17_at, v3_at, v2_at]
  rfl
theorem v33_at (r : Fin 2048) (j : Fin 896) :
    val_main_v33 (F := Ideal) x0 x1 x2 x3 (ix2 r j) = ∑ k : Fin 1024, CtxProjSpec.inputRow x0 x1 x2 r k * x3 (ix3 0 k j) := by
  simp only [← v28_at, ← v31_at]
  unfold val_main_v33 val_main_v32
  generalize val_main_v28 x0 x1 x2 = y
  generalize val_main_v31 x3 = z
  pointwise []
theorem v38_at (r : Fin 2048) (j : Fin 2048) :
    val_main_v38 (F := Ideal) x0 x1 x2 x4 (ix2 r j) = ∑ k : Fin 1024, CtxProjSpec.inputRow x0 x1 x2 r k * x4 (ix3 0 k j) := by
  simp only [← v28_at, ← v36_at]
  unfold val_main_v38 val_main_v37
  generalize val_main_v28 x0 x1 x2 = y
  generalize val_main_v36 x4 = z
  pointwise []
theorem v44_at (r : Fin 2048) (j : Fin 1536) :
    val_main_v44 (F := Ideal) x0 x1 x2 x5 (ix2 j r) = ∑ k : Fin 1024, CtxProjSpec.inputRow x0 x1 x2 r k * x5 (ix3 0 j k) := by
  simp only [← v28_at, ← v42_at]
  unfold val_main_v44 val_main_v43
  generalize val_main_v28 x0 x1 x2 = y
  generalize val_main_v42 x5 = z
  pointwise []

/-! ## The results -/

theorem qkv_eq : val_main_v33 (F := Ideal) x0 x1 x2 x3 = CtxProjSpec.qkv x0 x1 x2 x3 := by
  funext y
  exact (congrArg _ (eq_ix2 y)).trans (v33_at x0 x1 x2 x3 (y 0) (y 1))

theorem gate_eq : val_main_v38 (F := Ideal) x0 x1 x2 x4 = CtxProjSpec.gate x0 x1 x2 x4 := by
  funext y
  exact (congrArg _ (eq_ix2 y)).trans (v38_at x0 x1 x2 x4 (y 0) (y 1))

theorem hyena_eq : val_main_v44 (F := Ideal) x0 x1 x2 x5 = CtxProjSpec.hyena x0 x1 x2 x5 := by
  funext y
  exact (congrArg _ (eq_ix2 y)).trans (v44_at x0 x1 x2 x5 (y 1) (y 0))

end Cert.Reference9Ideal.CtxProj

end
-- ==== Proof.CtxProjClaims.lean ====
/-
  The claims of the context's input projection: the reference's frame, and the value claim of its three results.
-/
module

public import proofs.«01_k».proof.Defs
public import proofs.«01_k».proof.Proof.CtxProjArray
public import proofs.«01_k».proof.Proof.CtxProjReference
public import proofs.«01_k».proof.Proof.Gen.Reference9Ideal.Run

@[expose] public section

noncomputable section

namespace Cert.CtxProjClaims

open Idealize.ShloMosaic Idealize.SL.Sem

/-- The reference runs, ends with its arguments unchanged and owns no semaphore. -/
theorem frame_reference : Cert.quiescent_Reference9Ideal := fun m ρ _ => (θ_run Cert.Reference9Ideal.defs _ _).mono
  (fun r h => And.intro (fun c => (h c).2.2.2) (Idealize.ShloMosaic.sem_eq_zero_of_no_sems (by decide) r.2))
  (Cert.Reference9Ideal.Value.run (F := Ideal) m ρ)

/-- From memories agreeing on the arguments, the kernel and the reference end with the same three arrays: the sums of
    `CtxProjSpec` of the arguments. -/
theorem algebraic : Cert.algebraic_Kernel9Ideal_Reference9Ideal := by
  intro m ρ m' ρ' hpre hag
  refine ⟨fun c => CtxProjSpec.qkv (m ((c.tc : Thread Cert.Kernel9Ideal.nD Cert.Kernel9Ideal.τ).loc Cert.Kernel9Ideal.main_arg0))
        (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))
        (m ((c.tc : Thread Cert.Kernel9Ideal.nD Cert.Kernel9Ideal.τ).loc Cert.Kernel9Ideal.main_arg3)),
      fun c => CtxProjSpec.gate (m ((c.tc : Thread Cert.Kernel9Ideal.nD Cert.Kernel9Ideal.τ).loc Cert.Kernel9Ideal.main_arg0))
        (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))
        (m ((c.tc : Thread Cert.Kernel9Ideal.nD Cert.Kernel9Ideal.τ).loc Cert.Kernel9Ideal.main_arg4)),
      fun c => CtxProjSpec.hyena (m ((c.tc : Thread Cert.Kernel9Ideal.nD Cert.Kernel9Ideal.τ).loc Cert.Kernel9Ideal.main_arg0))
        (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))
        (m ((c.tc : Thread Cert.Kernel9Ideal.nD Cert.Kernel9Ideal.τ).loc Cert.Kernel9Ideal.main_arg5)), ?_, ?_⟩
  · exact (θ_run Cert.Kernel9Ideal.defs _ _).mono
      (fun _ h c => ⟨(h c).1.trans (Cert.Kernel9Ideal.CtxProj.final6 m c), (h c).2.1.trans (Cert.Kernel9Ideal.CtxProj.final7 m c),
        (h c).2.2.1.trans (Cert.Kernel9Ideal.CtxProj.final8 m c), (h c).2.2.2⟩)
      (Cert.Kernel9Ideal.Value.run_blocks m ρ)
  · refine (θ_run Cert.Reference9Ideal.defs _ _).mono
      (fun _ h c => ⟨(h c).1.trans ?_, (h c).2.1.trans ?_, (h c).2.2.1.trans ?_, (h c).2.2.2⟩) (Cert.Reference9Ideal.Value.run m' ρ')
    · obtain ⟨h0, h1, h2, h3, h4, h5⟩ := hag c
      beta_reduce
      rw [← h0, ← h1, ← h2, ← h3]
      exact (Cert.Reference9Ideal.Read.val_main_v33_eq _ _ _ _).trans (Cert.Reference9Ideal.CtxProj.qkv_eq ..)
    · obtain ⟨h0, h1, h2, h3, h4, h5⟩ := hag c
      beta_reduce
      rw [← h0, ← h1, ← h2, ← h4]
      exact (Cert.Reference9Ideal.Read.val_main_v38_eq _ _ _ _).trans (Cert.Reference9Ideal.CtxProj.gate_eq ..)
    · obtain ⟨h0, h1, h2, h3, h4, h5⟩ := hag c
      beta_reduce
      rw [← h0, ← h1, ← h2, ← h5]
      exact (Cert.Reference9Ideal.Read.val_main_v44_eq _ _ _ _).trans (Cert.Reference9Ideal.CtxProj.hyena_eq ..)

end Cert.CtxProjClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite_scores
public import proofs.«01_k».proof.Proof.Gen.Pre_padded_key
public import proofs.«01_k».proof.Proof.AttnClaims
public import proofs.«01_k».proof.Proof.MixClaims
public import proofs.«01_k».proof.Proof.ProjClaims
public import proofs.«01_k».proof.Proof.QkvClaims
public import proofs.«01_k».proof.Proof.AdaClaims
public import proofs.«01_k».proof.Proof.FiltClaims
public import proofs.«01_k».proof.Proof.MidClaims
public import proofs.«01_k».proof.Proof.CtxMixClaims
public import proofs.«01_k».proof.Proof.CtxProjClaims
public import Idealize.ShloMosaic.Adequacy
public import Idealize.ShloMosaic.Init

@[expose] public section

noncomputable section

namespace Cert.Proof

open Idealize.ShloMosaic Idealize.SL.Sem Cert.Kernel

/-- Everything claimed of the modulations, of the input projection, of the projection to queries, keys and values, of the attention, of the Hyena filters' hidden layers, and
    of the gated mix with the feed-forward block, in the last layer with the final norm and in the first without;
    and of the first layer's context, its input projection and its gated mix with the feed-forward block: their frames, and that each computes what its reference computes. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite_scores.Gen.facts, Cert.Pre_padded_key.Gen.facts,
  fun m ρ _ => Cert.Kernel.Gen.frame m ρ, fun m ρ _ => Cert.KernelIdeal.Gen.frame m ρ, fun m ρ _ => Cert.KernelIdeal.Gen.frame m ρ,
  AttnClaims.frame_reference, fun m ρ _ => AttnClaims.frame_reference m ρ trivial,
  fun m ρ _ => Cert.Kernel2.Gen.frame m ρ, fun m ρ _ => Cert.Kernel2Ideal.Gen.frame m ρ, MixClaims.frame_reference,
  fun m ρ _ => Cert.Kernel3.Gen.frame m ρ, fun m ρ _ => Cert.Kernel3Ideal.Gen.frame m ρ, ProjClaims.frame_reference,
  fun m ρ _ => Cert.Kernel4.Gen.frame m ρ, fun m ρ _ => Cert.Kernel4Ideal.Gen.frame m ρ, fun m ρ _ => Cert.Kernel4Ideal.Gen.frame m ρ,
  QkvClaims.frame_reference, fun m ρ _ => QkvClaims.frame_reference m ρ trivial,
  fun m ρ _ => Cert.Kernel5.Gen.frame m ρ, fun m ρ _ => Cert.Kernel5Ideal.Gen.frame m ρ, AdaClaims.frame_reference,
  fun m ρ _ => Cert.Kernel6.Gen.frame m ρ, fun m ρ _ => Cert.Kernel6Ideal.Gen.frame m ρ, FiltClaims.frame_reference,
  fun m ρ _ => Cert.Kernel7.Gen.frame m ρ, fun m ρ _ => Cert.Kernel7Ideal.Gen.frame m ρ, MidClaims.frame_reference,
  fun m ρ _ => Cert.Kernel8.Gen.frame m ρ, fun m ρ _ => Cert.Kernel8Ideal.Gen.frame m ρ, CtxMixClaims.frame_reference,
  fun m ρ _ => Cert.Kernel9.Gen.frame m ρ, fun m ρ _ => Cert.Kernel9Ideal.Gen.frame m ρ, CtxProjClaims.frame_reference,
  trivial, AttnClaims.algebraic, trivial, MixClaims.algebraic, trivial, ProjClaims.algebraic, trivial, QkvClaims.algebraic,
  trivial, AdaClaims.algebraic, trivial, FiltClaims.algebraic, trivial, MidClaims.algebraic, trivial, CtxMixClaims.algebraic, trivial, CtxProjClaims.algebraic⟩

end Cert.Proof

end
